-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8x2048x1024 : Shape := ⟨4, ![2, 8, 2048, 1024]⟩
abbrev S16384x32 : Shape := ⟨2, ![16384, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S65536 : Shape := ⟨1, ![65536]⟩
abbrev S65536x1 : Shape := ⟨2, ![65536, 1]⟩
abbrev S1x32 : Shape := ⟨2, ![1, 32]⟩
abbrev S65536x32 : Shape := ⟨2, ![65536, 32]⟩
abbrev S32 : Shape := ⟨1, ![32]⟩
abbrev S81920 : Shape := ⟨1, ![81920]⟩
abbrev S1 : Shape := ⟨1, ![1]⟩
abbrev S160 : Shape := ⟨1, ![160]⟩
abbrev S160x1 : Shape := ⟨2, ![160, 1]⟩
abbrev S160x32 : Shape := ⟨2, ![160, 32]⟩
abbrev S32x1 : Shape := ⟨2, ![32, 1]⟩
abbrev S32x32 : Shape := ⟨2, ![32, 32]⟩
abbrev S32768x1024 : Shape := ⟨2, ![32768, 1024]⟩
abbrev S81920x1 : Shape := ⟨2, ![81920, 1]⟩
abbrev S81920x1024 : Shape := ⟨2, ![81920, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S1x1 : Shape := ⟨2, ![1, 1]⟩
abbrev S1x1024x2048 : Shape := ⟨3, ![1, 1024, 2048]⟩
abbrev S1x1024x1024 : Shape := ⟨3, ![1, 1024, 1024]⟩
abbrev S512x2048 : Shape := ⟨2, ![512, 2048]⟩
abbrev S1x2048 : Shape := ⟨2, ![1, 2048]⟩
abbrev S1x1024 : Shape := ⟨2, ![1, 1024]⟩
abbrev S4x16384 : Shape := ⟨2, ![4, 16384]⟩
abbrev S65536x1024 : Shape := ⟨2, ![65536, 1024]⟩
abbrev S4x8x2048x1024 : Shape := ⟨4, ![4, 8, 2048, 1024]⟩

abbrev nBuf : Space → Nat
  | .hbm => 251
  | .vmem => 12
  | .smem => 4
  | _ => 0

abbrev hbmTy0_0 (i : Nat) : BufTy := match i % 128 with
  | 0 => ⟨S2x8x2048x1024, .bf16⟩
  | 1 => ⟨S16384x32, .f32⟩
  | 2 => ⟨S32x1024x2048, .f32⟩
  | 3 => ⟨S32x2048, .f32⟩
  | 4 => ⟨S32x1024x1024, .f32⟩
  | 5 => ⟨S32x1024, .f32⟩
  | 6 => ⟨S16384x4, .f32⟩
  | 7 => ⟨S16384x4, .i32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x4, .f32⟩
  | 15 => ⟨S16384x4, .f32⟩
  | 16 => ⟨S16384x4, .f32⟩
  | 17 => ⟨S_, .f32⟩
  | 18 => ⟨S16384, .f32⟩
  | 19 => ⟨S16384x1, .f32⟩
  | 20 => ⟨S16384x4, .f32⟩
  | 21 => ⟨S16384x4, .f32⟩
  | 22 => ⟨S65536, .i32⟩
  | 23 => ⟨S65536x1, .i32⟩
  | 24 => ⟨S1x32, .i32⟩
  | 25 => ⟨S65536x32, .i32⟩
  | 26 => ⟨S65536x32, .i32⟩
  | 27 => ⟨S65536x32, .i1⟩
  | 28 => ⟨S65536x32, .i32⟩
  | 29 => ⟨S_, .i32⟩
  | 30 => ⟨S32, .i32⟩
  | 31 => ⟨S_, .i32⟩
  | 32 => ⟨S32, .i32⟩
  | 33 => ⟨S32, .i32⟩
  | 34 => ⟨S_, .i32⟩
  | 35 => ⟨S32, .i32⟩
  | 36 => ⟨S32, .i32⟩
  | 37 => ⟨S_, .i32⟩
  | 38 => ⟨S_, .i32⟩
  | 39 => ⟨S32, .i32⟩
  | 40 => ⟨S32, .i32⟩
  | 41 => ⟨S32, .i32⟩
  | 42 => ⟨S_, .i32⟩
  | 43 => ⟨S32, .i32⟩
  | 44 => ⟨S32, .i1⟩
  | 45 => ⟨S32, .i32⟩
  | 46 => ⟨S32, .i32⟩
  | 47 => ⟨S_, .i32⟩
  | 48 => ⟨S32, .i32⟩
  | 49 => ⟨S32, .i1⟩
  | 50 => ⟨S32, .i1⟩
  | 51 => ⟨S_, .i32⟩
  | 52 => ⟨S32, .i32⟩
  | 53 => ⟨S32, .i32⟩
  | 54 => ⟨S32, .i32⟩
  | 55 => ⟨S_, .i32⟩
  | 56 => ⟨S32, .i32⟩
  | 57 => ⟨S32, .i32⟩
  | 58 => ⟨S_, .i32⟩
  | 59 => ⟨S_, .i32⟩
  | 60 => ⟨S32, .i32⟩
  | 61 => ⟨S16384, .i32⟩
  | 62 => ⟨S16384x1, .i32⟩
  | 63 => ⟨S32, .i32⟩
  | 64 => ⟨S_, .i32⟩
  | 65 => ⟨S_, .i32⟩
  | 66 => ⟨S32, .i32⟩
  | 67 => ⟨S1x32, .i32⟩
  | 68 => ⟨S16384x32, .i32⟩
  | 69 => ⟨S16384x32, .i32⟩
  | 70 => ⟨S16384x32, .i1⟩
  | 71 => ⟨S16384x32, .i32⟩
  | 72 => ⟨S_, .i32⟩
  | 73 => ⟨S16384, .i32⟩
  | 74 => ⟨S81920, .i32⟩
  | 75 => ⟨S_, .i32⟩
  | 76 => ⟨S81920, .i32⟩
  | 77 => ⟨S81920, .i32⟩
  | 78 => ⟨S81920, .i32⟩
  | 79 => ⟨S81920, .i32⟩
  | 80 => ⟨S81920, .i32⟩
  | 81 => ⟨S_, .i32⟩
  | 82 => ⟨S81920, .i32⟩
  | 83 => ⟨S81920, .i32⟩
  | 84 => ⟨S_, .i32⟩
  | 85 => ⟨S81920, .i32⟩
  | 86 => ⟨S81920, .i1⟩
  | 87 => ⟨S_, .i32⟩
  | 88 => ⟨S_, .i32⟩
  | 89 => ⟨S81920, .i32⟩
  | 90 => ⟨S81920, .i32⟩
  | 91 => ⟨S81920, .i32⟩
  | 92 => ⟨S_, .i32⟩
  | 93 => ⟨S81920, .i32⟩
  | 94 => ⟨S81920, .i1⟩
  | 95 => ⟨S81920, .i32⟩
  | 96 => ⟨S81920, .i32⟩
  | 97 => ⟨S_, .i32⟩
  | 98 => ⟨S81920, .i32⟩
  | 99 => ⟨S81920, .i1⟩
  | 100 => ⟨S81920, .i1⟩
  | 101 => ⟨S_, .i32⟩
  | 102 => ⟨S81920, .i32⟩
  | 103 => ⟨S81920, .i32⟩
  | 104 => ⟨S81920, .i32⟩
  | 105 => ⟨S_, .i32⟩
  | 106 => ⟨S81920, .i32⟩
  | 107 => ⟨S81920, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S81920, .i32⟩
  | 115 => ⟨S81920, .i32⟩
  | 116 => ⟨S_, .i32⟩
  | 117 => ⟨S81920, .i32⟩
  | 118 => ⟨S81920, .i1⟩
  | 119 => ⟨S_, .i32⟩
  | 120 => ⟨S81920, .i32⟩
  | 121 => ⟨S81920, .i1⟩
  | 122 => ⟨S_, .i32⟩
  | 123 => ⟨S_, .i1⟩
  | 124 => ⟨S81920, .i1⟩
  | 125 => ⟨S81920, .i1⟩
  | 126 => ⟨S81920, .i1⟩
  | 127 => ⟨S81920, .i32⟩
  | _ => ⟨S2x8x2048x1024, .bf16⟩

abbrev hbmTy0_1 (i : Nat) : BufTy := match i % 128 with
  | 0 => ⟨S81920, .i32⟩
  | 1 => ⟨S81920, .i32⟩
  | 2 => ⟨S81920, .i32⟩
  | 3 => ⟨S81920, .i32⟩
  | 4 => ⟨S81920, .i32⟩
  | 5 => ⟨S81920, .i32⟩
  | 6 => ⟨S65536, .i32⟩
  | 7 => ⟨S16384x4, .i32⟩
  | 8 => ⟨S1, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i1⟩
  | 19 => ⟨S_, .i1⟩
  | 20 => ⟨S_, .i32⟩
  | 21 => ⟨S_, .i32⟩
  | 22 => ⟨S_, .i32⟩
  | 23 => ⟨S160, .i32⟩
  | 24 => ⟨S_, .i32⟩
  | 25 => ⟨S160, .i32⟩
  | 26 => ⟨S160, .i32⟩
  | 27 => ⟨S160x1, .i32⟩
  | 28 => ⟨S1x32, .i32⟩
  | 29 => ⟨S160x32, .i32⟩
  | 30 => ⟨S160x32, .i32⟩
  | 31 => ⟨S160x32, .i1⟩
  | 32 => ⟨S160x32, .i32⟩
  | 33 => ⟨S_, .i32⟩
  | 34 => ⟨S160, .i32⟩
  | 35 => ⟨S1, .i32⟩
  | 36 => ⟨S_, .i32⟩
  | 37 => ⟨S_, .i32⟩
  | 38 => ⟨S_, .i32⟩
  | 39 => ⟨S32, .i32⟩
  | 40 => ⟨S32, .i1⟩
  | 41 => ⟨S32, .i32⟩
  | 42 => ⟨S_, .i32⟩
  | 43 => ⟨S_, .i32⟩
  | 44 => ⟨S160, .i32⟩
  | 45 => ⟨S_, .i32⟩
  | 46 => ⟨S32, .i32⟩
  | 47 => ⟨S32, .i1⟩
  | 48 => ⟨S32, .i32⟩
  | 49 => ⟨S1x32, .i1⟩
  | 50 => ⟨S1x32, .i32⟩
  | 51 => ⟨S32x1, .i32⟩
  | 52 => ⟨S32x32, .i32⟩
  | 53 => ⟨S32x32, .i32⟩
  | 54 => ⟨S32x32, .i1⟩
  | 55 => ⟨S32x32, .i1⟩
  | 56 => ⟨S32x32, .i1⟩
  | 57 => ⟨S1x32, .i32⟩
  | 58 => ⟨S_, .i32⟩
  | 59 => ⟨S_, .i32⟩
  | 60 => ⟨S32x32, .i32⟩
  | 61 => ⟨S32x32, .i32⟩
  | 62 => ⟨S32x32, .i32⟩
  | 63 => ⟨S_, .i32⟩
  | 64 => ⟨S32, .i32⟩
  | 65 => ⟨S_, .i32⟩
  | 66 => ⟨S32, .i32⟩
  | 67 => ⟨S32, .i1⟩
  | 68 => ⟨S_, .i32⟩
  | 69 => ⟨S_, .i32⟩
  | 70 => ⟨S32, .i32⟩
  | 71 => ⟨S32, .i32⟩
  | 72 => ⟨S32, .i32⟩
  | 73 => ⟨S_, .i32⟩
  | 74 => ⟨S_, .i32⟩
  | 75 => ⟨S32, .i32⟩
  | 76 => ⟨S_, .i32⟩
  | 77 => ⟨S32, .i32⟩
  | 78 => ⟨S32, .i32⟩
  | 79 => ⟨S_, .i32⟩
  | 80 => ⟨S160, .i32⟩
  | 81 => ⟨S160, .i1⟩
  | 82 => ⟨S_, .i32⟩
  | 83 => ⟨S160, .i32⟩
  | 84 => ⟨S160, .i32⟩
  | 85 => ⟨S160, .i32⟩
  | 86 => ⟨S160x1, .i32⟩
  | 87 => ⟨S_, .i32⟩
  | 88 => ⟨S160, .i32⟩
  | 89 => ⟨S160, .i1⟩
  | 90 => ⟨S_, .i32⟩
  | 91 => ⟨S160, .i32⟩
  | 92 => ⟨S160, .i32⟩
  | 93 => ⟨S160, .i32⟩
  | 94 => ⟨S160x1, .i32⟩
  | 95 => ⟨S160, .i32⟩
  | 96 => ⟨S_, .i32⟩
  | 97 => ⟨S160, .i32⟩
  | 98 => ⟨S32768x1024, .bf16⟩
  | 99 => ⟨S_, .i32⟩
  | 100 => ⟨S81920, .i32⟩
  | 101 => ⟨S81920, .i1⟩
  | 102 => ⟨S_, .i32⟩
  | 103 => ⟨S81920, .i32⟩
  | 104 => ⟨S81920, .i32⟩
  | 105 => ⟨S81920, .i32⟩
  | 106 => ⟨S81920x1, .i32⟩
  | 107 => ⟨S81920x1024, .bf16⟩
  | 108 => ⟨S32x1x2048, .f32⟩
  | 109 => ⟨S32x1x1024, .f32⟩
  | 110 => ⟨S81920x1024, .bf16⟩
  | 111 => ⟨S4x16384, .i32⟩
  | 112 => ⟨S65536, .i32⟩
  | 113 => ⟨S_, .i32⟩
  | 114 => ⟨S65536, .i32⟩
  | 115 => ⟨S65536, .i1⟩
  | 116 => ⟨S_, .i32⟩
  | 117 => ⟨S65536, .i32⟩
  | 118 => ⟨S65536, .i32⟩
  | 119 => ⟨S65536, .i32⟩
  | 120 => ⟨S65536x1, .i32⟩
  | 121 => ⟨S65536x1024, .bf16⟩
  | 122 => ⟨S4x8x2048x1024, .bf16⟩
  | _ => ⟨S2x8x2048x1024, .bf16⟩

abbrev hbmTy (i : Nat) : BufTy := match i / 128 with
  | 0 => hbmTy0_0 i
  | 1 => hbmTy0_1 i
  | _ => ⟨S2x8x2048x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | _, _ => ⟨S2x8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v18 : Ref sig .tc := ⟨.hbm, 54, rfl⟩
abbrev main_c_5 : Ref sig .tc := ⟨.hbm, 55, rfl⟩
abbrev main_v19 : Ref sig .tc := ⟨.hbm, 56, rfl⟩
abbrev main_v20 : Ref sig .tc := ⟨.hbm, 57, rfl⟩
abbrev main_call2_call0_c : Ref sig .tc := ⟨.hbm, 58, rfl⟩
abbrev main_call2_call0_v0 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call3_call0_c : Ref sig .tc := ⟨.hbm, 64, rfl⟩
abbrev main_call3_call0_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_6 : Ref sig .tc := ⟨.hbm, 72, rfl⟩
abbrev main_v31 : Ref sig .tc := ⟨.hbm, 73, rfl⟩
abbrev main_v32 : Ref sig .tc := ⟨.hbm, 74, rfl⟩
abbrev main_c_7 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_c_8 : Ref sig .tc := ⟨.hbm, 81, rfl⟩
abbrev main_v38 : Ref sig .tc := ⟨.hbm, 82, rfl⟩
abbrev main_v39 : Ref sig .tc := ⟨.hbm, 83, rfl⟩
abbrev main_c_9 : Ref sig .tc := ⟨.hbm, 84, rfl⟩
abbrev main_v40 : Ref sig .tc := ⟨.hbm, 85, rfl⟩
abbrev main_v41 : Ref sig .tc := ⟨.hbm, 86, rfl⟩
abbrev main_c_10 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_c : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_0 : Ref sig .tc := ⟨.hbm, 101, rfl⟩
abbrev main_call4_v12 : Ref sig .tc := ⟨.hbm, 102, rfl⟩
abbrev main_call4_v13 : Ref sig .tc := ⟨.hbm, 103, rfl⟩
abbrev main_v42 : Ref sig .tc := ⟨.hbm, 104, rfl⟩
abbrev main_c_11 : Ref sig .tc := ⟨.hbm, 105, rfl⟩
abbrev main_v43 : Ref sig .tc := ⟨.hbm, 106, rfl⟩
abbrev main_v44 : Ref sig .tc := ⟨.hbm, 107, rfl⟩
abbrev main_c_12 : Ref sig .tc := ⟨.hbm, 108, rfl⟩
abbrev main_call5_v0 : Ref sig .tc := ⟨.hbm, 109, rfl⟩
abbrev main_call5_c : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_c_1 : Ref sig .tc := ⟨.hbm, 116, rfl⟩
abbrev main_call5_v5 : Ref sig .tc := ⟨.hbm, 117, rfl⟩
abbrev main_call5_v6 : Ref sig .tc := ⟨.hbm, 118, rfl⟩
abbrev main_call5_c_2 : Ref sig .tc := ⟨.hbm, 119, rfl⟩
abbrev main_call5_v7 : Ref sig .tc := ⟨.hbm, 120, rfl⟩
abbrev main_call5_v8 : Ref sig .tc := ⟨.hbm, 121, rfl⟩
abbrev main_call5_c_3 : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48_0 : Ref sig .tc := ⟨.hbm, 132, rfl⟩
abbrev main_v48_1 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_c_13 : Ref sig .tc := ⟨.hbm, 138, rfl⟩
abbrev main_call7_v0 : Ref sig .tc := ⟨.hbm, 139, rfl⟩
abbrev main_call7_v1 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_v5 : Ref sig .tc := ⟨.hbm, 144, rfl⟩
abbrev main_call7_c : Ref sig .tc := ⟨.hbm, 145, rfl⟩
abbrev main_call7_v6 : Ref sig .tc := ⟨.hbm, 146, rfl⟩
abbrev main_call7_v7 : Ref sig .tc := ⟨.hbm, 147, rfl⟩
abbrev main_call7_c_0 : Ref sig .tc := ⟨.hbm, 148, rfl⟩
abbrev main_call7_v8 : Ref sig .tc := ⟨.hbm, 149, rfl⟩
abbrev main_v53 : Ref sig .tc := ⟨.hbm, 150, rfl⟩
abbrev main_v54 : Ref sig .tc := ⟨.hbm, 151, rfl⟩
abbrev main_c_14 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_c_15 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_c_16 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_c_17 : Ref sig .tc := ⟨.hbm, 170, rfl⟩
abbrev main_v70 : Ref sig .tc := ⟨.hbm, 171, rfl⟩
abbrev main_v71 : Ref sig .tc := ⟨.hbm, 172, rfl⟩
abbrev main_c_18 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_c_19 : Ref sig .tc := ⟨.hbm, 186, rfl⟩
abbrev main_call8_v0 : Ref sig .tc := ⟨.hbm, 187, rfl⟩
abbrev main_call8_v1 : Ref sig .tc := ⟨.hbm, 188, rfl⟩
abbrev main_call8_v2 : Ref sig .tc := ⟨.hbm, 189, rfl⟩
abbrev main_v85 : Ref sig .tc := ⟨.hbm, 190, rfl⟩
abbrev main_c_20 : Ref sig .tc := ⟨.hbm, 191, rfl⟩
abbrev main_v86 : Ref sig .tc := ⟨.hbm, 192, rfl⟩
abbrev main_c_21 : Ref sig .tc := ⟨.hbm, 193, rfl⟩
abbrev main_v87 : Ref sig .tc := ⟨.hbm, 194, rfl⟩
abbrev main_v88 : Ref sig .tc := ⟨.hbm, 195, rfl⟩
abbrev main_c_22 : Ref sig .tc := ⟨.hbm, 196, rfl⟩
abbrev main_call9_v0 : Ref sig .tc := ⟨.hbm, 197, rfl⟩
abbrev main_call9_v1 : Ref sig .tc := ⟨.hbm, 198, rfl⟩
abbrev main_v89 : Ref sig .tc := ⟨.hbm, 199, rfl⟩
abbrev main_v90 : Ref sig .tc := ⟨.hbm, 200, rfl⟩
abbrev main_call10_call0_c : Ref sig .tc := ⟨.hbm, 201, rfl⟩
abbrev main_call10_call0_v0 : Ref sig .tc := ⟨.hbm, 202, rfl⟩
abbrev main_v91 : Ref sig .tc := ⟨.hbm, 203, rfl⟩
abbrev main_c_23 : Ref sig .tc := ⟨.hbm, 204, rfl⟩
abbrev main_v92 : Ref sig .tc := ⟨.hbm, 205, rfl⟩
abbrev main_v93 : Ref sig .tc := ⟨.hbm, 206, rfl⟩
abbrev main_c_24 : Ref sig .tc := ⟨.hbm, 207, rfl⟩
abbrev main_v95 : Ref sig .tc := ⟨.hbm, 208, rfl⟩
abbrev main_v96 : Ref sig .tc := ⟨.hbm, 209, rfl⟩
abbrev main_c_25 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_c_26 : Ref sig .tc := ⟨.hbm, 215, rfl⟩
abbrev main_v102 : Ref sig .tc := ⟨.hbm, 216, rfl⟩
abbrev main_v103 : Ref sig .tc := ⟨.hbm, 217, rfl⟩
abbrev main_c_27 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_c_28 : Ref sig .tc := ⟨.hbm, 224, rfl⟩
abbrev main_v109 : Ref sig .tc := ⟨.hbm, 225, rfl⟩
abbrev main_v111 : Ref sig .tc := ⟨.hbm, 226, rfl⟩
abbrev main_c_29 : Ref sig .tc := ⟨.hbm, 227, rfl⟩
abbrev main_v112 : Ref sig .tc := ⟨.hbm, 228, rfl⟩
abbrev main_v113 : Ref sig .tc := ⟨.hbm, 229, rfl⟩
abbrev main_c_30 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_c_31 : Ref sig .tc := ⟨.hbm, 241, rfl⟩
abbrev main_v124 : Ref sig .tc := ⟨.hbm, 242, rfl⟩
abbrev main_v125 : Ref sig .tc := ⟨.hbm, 243, rfl⟩
abbrev main_c_32 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v72 : Ref sig .tc := ⟨.smem, 0, rfl⟩
abbrev main_v94 : Ref sig .tc := ⟨.smem, 1, rfl⟩
abbrev main_v101 : Ref sig .tc := ⟨.smem, 2, rfl⟩
abbrev main_v110 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_v72.idx, main_v94.idx, main_v101.idx, main_v110.idx], fun | 0 => main_v72.names | 1 => main_v94.names | 2 => main_v101.names | 3 => main_v110.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v24 : BitVec 32) : Fin 2 → Nat :=
  let c0_i32_8 : BitVec 32 := 0#32
  ![0, v24.toNat]
def k0_cond1 (i : grid0.Coords) (v0 : BitVec 32) : BitVec 1 :=
  let arg0 : BitVec 32 := BitVec.ofNat 32 (i 0).val
  let c0_i32 : BitVec 32 := 0#32
  let v2 : BitVec 1 := Scalar.cmpi .eq arg0 c0_i32
  let v1 : BitVec 1 := Scalar.cmpi .slt arg0 v0
  let v3 : BitVec 1 := Scalar.andi v2 v1
  let v4 : BitVec 32 := Scalar.extui v3
  let c0_i32_0 : BitVec 32 := 0#32
  let v5 : BitVec 1 := Scalar.cmpi .ne v4 c0_i32_0
  v5

def k0_off3 (v24 : BitVec 32) : Fin 3 → Nat :=
  let c0_i32_9 : BitVec 32 := 0#32
  let c0_i32_10 : BitVec 32 := 0#32
  ![v24.toNat, 0, 0]
def k0_off4 (v23 : BitVec 32) : Fin 3 → Nat :=
  let c0_i32_11 : BitVec 32 := 0#32
  let c0_i32_12 : BitVec 32 := 0#32
  ![v23.toNat, 0, 0]

def k0_off5 (v24 : BitVec 32) : Fin 2 → Nat :=
  let c1_i32_13 : BitVec 32 := 1#32
  ![1, v24.toNat]
def k0_off6 (v24 : BitVec 32) : Fin 3 → Nat :=
  let c0_i32_14 : BitVec 32 := 0#32
  let c0_i32_15 : BitVec 32 := 0#32
  ![v24.toNat, 0, 0]

def k0_chk1 (i : grid0.Coords) (v0 : BitVec 32) (v24 : BitVec 32) : Prop :=
  (∀ (k0_h1 : k0_cond1 i v0 = 1#1), ∀ a, (k0_off2 v24) a + S1x1.size a ≤ S2x2.size a) ∧
  (∀ (k0_h1 : k0_cond1 i v0 = 1#1), ∀ a, (k0_off3 v24) a + S1x1024x2048.size a ≤ S2x1024x2048.size a) ∧
  (∀ (k0_h1 : k0_cond1 i v0 = 1#1), ∀ a, (k0_off5 v24) a + S1x1.size a ≤ S2x2.size a) ∧
  (∀ (k0_h1 : k0_cond1 i v0 = 1#1), ∀ a, (k0_off6 v24) a + S1x1024x1024.size a ≤ S2x1024x1024.size a)
theorem k0_off2_inb : ∀ (i : grid0.Coords) (v0 : BitVec 32) (v24 : BitVec 32) (k0_hw1 : k0_chk1 i v0 v24), ∀ (k0_h1 : k0_cond1 i v0 = 1#1), ∀ a, (k0_off2 v24) a + S1x1.size a ≤ S2x2.size a := fun i v0 v24 k0_hw1 k0_h1 => k0_hw1.1 k0_h1
theorem k0_off3_inb : ∀ (i : grid0.Coords) (v0 : BitVec 32) (v24 : BitVec 32) (k0_hw1 : k0_chk1 i v0 v24), ∀ (k0_h1 : k0_cond1 i v0 = 1#1), ∀ a, (k0_off3 v24) a + S1x1024x2048.size a ≤ S2x1024x2048.size a := fun i v0 v24 k0_hw1 k0_h1 => k0_hw1.2.1 k0_h1
theorem k0_off5_inb : ∀ (i : grid0.Coords) (v0 : BitVec 32) (v24 : BitVec 32) (k0_hw1 : k0_chk1 i v0 v24), ∀ (k0_h1 : k0_cond1 i v0 = 1#1), ∀ a, (k0_off5 v24) a + S1x1.size a ≤ S2x2.size a := fun i v0 v24 k0_hw1 k0_h1 => k0_hw1.2.2.1 k0_h1
theorem k0_off6_inb : ∀ (i : grid0.Coords) (v0 : BitVec 32) (v24 : BitVec 32) (k0_hw1 : k0_chk1 i v0 v24), ∀ (k0_h1 : k0_cond1 i v0 = 1#1), ∀ a, (k0_off6 v24) a + S1x1024x1024.size a ≤ S2x1024x1024.size a := fun i v0 v24 k0_hw1 k0_h1 => k0_hw1.2.2.2 k0_h1

def k0_off7 (v23 : BitVec 32) : Fin 3 → Nat :=
  let c0_i32_16 : BitVec 32 := 0#32
  let c0_i32_17 : BitVec 32 := 0#32
  ![v23.toNat, 0, 0]

def k0_chk2 (i : grid0.Coords) (v0 : BitVec 32) (v23 : BitVec 32) : Prop :=
  (∀ (k0_h1 : k0_cond1 i v0 = 1#1), ∀ a, (k0_off4 v23) a + S1x1024x2048.size a ≤ S32x1024x2048.size a) ∧
  (∀ (k0_h1 : k0_cond1 i v0 = 1#1), ∀ a, (k0_off7 v23) a + S1x1024x1024.size a ≤ S32x1024x1024.size a)
theorem k0_off4_inb : ∀ (i : grid0.Coords) (v0 : BitVec 32) (v23 : BitVec 32) (k0_hw2 : k0_chk2 i v0 v23), ∀ (k0_h1 : k0_cond1 i v0 = 1#1), ∀ a, (k0_off4 v23) a + S1x1024x2048.size a ≤ S32x1024x2048.size a := fun i v0 v23 k0_hw2 k0_h1 => k0_hw2.1 k0_h1
theorem k0_off7_inb : ∀ (i : grid0.Coords) (v0 : BitVec 32) (v23 : BitVec 32) (k0_hw2 : k0_chk2 i v0 v23), ∀ (k0_h1 : k0_cond1 i v0 = 1#1), ∀ a, (k0_off7 v23) a + S1x1024x1024.size a ≤ S32x1024x1024.size a := fun i v0 v23 k0_hw2 k0_h1 => k0_hw2.2 k0_h1

def k0_off8 (i : grid0.Coords) : Fin 1 → Nat :=
  let arg0 : BitVec 32 := BitVec.ofNat 32 (i 0).val
  let v7 : Index := Scalar.indexCast arg0
  ![v7.toNat]
def k0_off9 (i : grid0.Coords) : Fin 1 → Nat :=
  let arg0 : BitVec 32 := BitVec.ofNat 32 (i 0).val
  let c1_i32 : BitVec 32 := 1#32
  let v9 : BitVec 32 := Scalar.subi arg0 c1_i32
  let c0_i32_2 : BitVec 32 := 0#32
  let v10 : BitVec 32 := Scalar.maxsi v9 c0_i32_2
  let v11 : Index := Scalar.indexCast v10
  ![v11.toNat]
def k0_off10 (i : grid0.Coords) : Fin 1 → Nat :=
  let arg0 : BitVec 32 := BitVec.ofNat 32 (i 0).val
  let v23 : Index := Scalar.indexCast arg0
  ![v23.toNat]
def k0_off11 (v24 : BitVec 32) : Fin 2 → Nat :=
  let c0_i32_6 : BitVec 32 := 0#32
  ![0, v24.toNat]
def k0_cond2 (i : grid0.Coords) (v0 : BitVec 32) (v8 : BitVec 32) (v12 : BitVec 32) : BitVec 1 :=
  let arg0 : BitVec 32 := BitVec.ofNat 32 (i 0).val
  let c0_i32_1 : BitVec 32 := 0#32
  let v6 : BitVec 1 := Scalar.cmpi .eq arg0 c0_i32_1
  let v13 : BitVec 1 := Scalar.cmpi .ne v8 v12
  let v14 : BitVec 1 := Scalar.ori v6 v13
  let v1 : BitVec 1 := Scalar.cmpi .slt arg0 v0
  let v15 : BitVec 1 := Scalar.andi v14 v1
  let v16 : BitVec 32 := Scalar.extui v15
  let c0_i32_3 : BitVec 32 := 0#32
  let v17 : BitVec 1 := Scalar.cmpi .ne v16 c0_i32_3
  v17

def k0_off12 (v24 : BitVec 32) : Fin 3 → Nat :=
  let c0_i32_7 : BitVec 32 := 0#32
  let c0_i32_8 : BitVec 32 := 0#32
  ![v24.toNat, 0, 0]
def k0_off13 (v26 : BitVec 32) : Fin 3 → Nat :=
  let c0_i32_9 : BitVec 32 := 0#32
  let c0_i32_10 : BitVec 32 := 0#32
  ![v26.toNat, 0, 0]

def k0_off14 (v24 : BitVec 32) : Fin 2 → Nat :=
  let c1_i32_11 : BitVec 32 := 1#32
  ![1, v24.toNat]
def k0_off15 (v24 : BitVec 32) : Fin 3 → Nat :=
  let c0_i32_12 : BitVec 32 := 0#32
  let c0_i32_13 : BitVec 32 := 0#32
  ![v24.toNat, 0, 0]
def k0_off16 (v26 : BitVec 32) : Fin 3 → Nat :=
  let c0_i32_14 : BitVec 32 := 0#32
  let c0_i32_15 : BitVec 32 := 0#32
  ![v26.toNat, 0, 0]

def k0_chk4 (i : grid0.Coords) (v0 : BitVec 32) (v8 : BitVec 32) (v12 : BitVec 32) (v26 : BitVec 32) : Prop :=
  (∀ (k0_h2 : k0_cond2 i v0 v8 v12 = 1#1), ∀ a, (k0_off13 v26) a + S1x1024x2048.size a ≤ S32x1024x2048.size a) ∧
  (∀ (k0_h2 : k0_cond2 i v0 v8 v12 = 1#1), ∀ a, (k0_off16 v26) a + S1x1024x1024.size a ≤ S32x1024x1024.size a)
theorem k0_off13_inb : ∀ (i : grid0.Coords) (v0 : BitVec 32) (v8 : BitVec 32) (v12 : BitVec 32) (v26 : BitVec 32) (k0_hw4 : k0_chk4 i v0 v8 v12 v26), ∀ (k0_h2 : k0_cond2 i v0 v8 v12 = 1#1), ∀ a, (k0_off13 v26) a + S1x1024x2048.size a ≤ S32x1024x2048.size a := fun i v0 v8 v12 v26 k0_hw4 k0_h2 => k0_hw4.1 k0_h2
theorem k0_off16_inb : ∀ (i : grid0.Coords) (v0 : BitVec 32) (v8 : BitVec 32) (v12 : BitVec 32) (v26 : BitVec 32) (k0_hw4 : k0_chk4 i v0 v8 v12 v26), ∀ (k0_h2 : k0_cond2 i v0 v8 v12 = 1#1), ∀ a, (k0_off16 v26) a + S1x1024x1024.size a ≤ S32x1024x1024.size a := fun i v0 v8 v12 v26 k0_hw4 k0_h2 => k0_hw4.2 k0_h2

def k0_off17 (v24 : BitVec 32) : Fin 3 → Nat :=
  let v39 : Index := Scalar.indexCast v24
  let c0_16 : Index := 0#32
  let c0_17 : Index := 0#32
  ![v39.toNat, 0, 0]
def k0_off18 (v24 : BitVec 32) : Fin 3 → Nat :=
  let v46 : Index := Scalar.indexCast v24
  let c0_20 : Index := 0#32
  let c0_21 : Index := 0#32
  ![v46.toNat, 0, 0]

def k0_chk3 (i : grid0.Coords) (v0 : BitVec 32) (v8 : BitVec 32) (v12 : BitVec 32) (v24 : BitVec 32) : Prop :=
  (∀ (k0_h2 : k0_cond2 i v0 v8 v12 = 1#1), ∀ a, (k0_off11 v24) a + S1x1.size a ≤ S2x2.size a) ∧
  (∀ (k0_h2 : k0_cond2 i v0 v8 v12 = 1#1), ∀ a, (k0_off12 v24) a + S1x1024x2048.size a ≤ S2x1024x2048.size a) ∧
  (∀ (k0_h2 : k0_cond2 i v0 v8 v12 = 1#1), ∀ a, (k0_off14 v24) a + S1x1.size a ≤ S2x2.size a) ∧
  (∀ (k0_h2 : k0_cond2 i v0 v8 v12 = 1#1), ∀ a, (k0_off15 v24) a + S1x1024x1024.size a ≤ S2x1024x1024.size a) ∧
  (∀ (k0_h2 : k0_cond2 i v0 v8 v12 = 1#1), ∀ a, (k0_off17 v24) a + S1x1024x2048.size a ≤ S2x1024x2048.size a) ∧
  (∀ (k0_h2 : k0_cond2 i v0 v8 v12 = 1#1), ∀ a, (k0_off18 v24) a + S1x1024x1024.size a ≤ S2x1024x1024.size a)
theorem k0_off11_inb : ∀ (i : grid0.Coords) (v0 : BitVec 32) (v8 : BitVec 32) (v12 : BitVec 32) (v24 : BitVec 32) (k0_hw3 : k0_chk3 i v0 v8 v12 v24), ∀ (k0_h2 : k0_cond2 i v0 v8 v12 = 1#1), ∀ a, (k0_off11 v24) a + S1x1.size a ≤ S2x2.size a := fun i v0 v8 v12 v24 k0_hw3 k0_h2 => k0_hw3.1 k0_h2
theorem k0_off12_inb : ∀ (i : grid0.Coords) (v0 : BitVec 32) (v8 : BitVec 32) (v12 : BitVec 32) (v24 : BitVec 32) (k0_hw3 : k0_chk3 i v0 v8 v12 v24), ∀ (k0_h2 : k0_cond2 i v0 v8 v12 = 1#1), ∀ a, (k0_off12 v24) a + S1x1024x2048.size a ≤ S2x1024x2048.size a := fun i v0 v8 v12 v24 k0_hw3 k0_h2 => k0_hw3.2.1 k0_h2
theorem k0_off14_inb : ∀ (i : grid0.Coords) (v0 : BitVec 32) (v8 : BitVec 32) (v12 : BitVec 32) (v24 : BitVec 32) (k0_hw3 : k0_chk3 i v0 v8 v12 v24), ∀ (k0_h2 : k0_cond2 i v0 v8 v12 = 1#1), ∀ a, (k0_off14 v24) a + S1x1.size a ≤ S2x2.size a := fun i v0 v8 v12 v24 k0_hw3 k0_h2 => k0_hw3.2.2.1 k0_h2
theorem k0_off15_inb : ∀ (i : grid0.Coords) (v0 : BitVec 32) (v8 : BitVec 32) (v12 : BitVec 32) (v24 : BitVec 32) (k0_hw3 : k0_chk3 i v0 v8 v12 v24), ∀ (k0_h2 : k0_cond2 i v0 v8 v12 = 1#1), ∀ a, (k0_off15 v24) a + S1x1024x1024.size a ≤ S2x1024x1024.size a := fun i v0 v8 v12 v24 k0_hw3 k0_h2 => k0_hw3.2.2.2.1 k0_h2
theorem k0_off17_inb : ∀ (i : grid0.Coords) (v0 : BitVec 32) (v8 : BitVec 32) (v12 : BitVec 32) (v24 : BitVec 32) (k0_hw3 : k0_chk3 i v0 v8 v12 v24), ∀ (k0_h2 : k0_cond2 i v0 v8 v12 = 1#1), ∀ a, (k0_off17 v24) a + S1x1024x2048.size a ≤ S2x1024x2048.size a := fun i v0 v8 v12 v24 k0_hw3 k0_h2 => k0_hw3.2.2.2.2.1 k0_h2
theorem k0_off18_inb : ∀ (i : grid0.Coords) (v0 : BitVec 32) (v8 : BitVec 32) (v12 : BitVec 32) (v24 : BitVec 32) (k0_hw3 : k0_chk3 i v0 v8 v12 v24), ∀ (k0_h2 : k0_cond2 i v0 v8 v12 = 1#1), ∀ a, (k0_off18 v24) a + S1x1024x1024.size a ≤ S2x1024x1024.size a := fun i v0 v8 v12 v24 k0_hw3 k0_h2 => k0_hw3.2.2.2.2.2 k0_h2

def k0_off19 (i : grid0.Coords) : Fin 1 → Nat :=
  let arg0 : BitVec 32 := BitVec.ofNat 32 (i 0).val
  let v53 : Index := Scalar.indexCast arg0
  ![v53.toNat]
def k0_off20 (i : grid0.Coords) : Fin 1 → Nat :=
  let arg0 : BitVec 32 := BitVec.ofNat 32 (i 0).val
  let v58 : Index := Scalar.indexCast arg0
  ![v58.toNat]
def k0_off21 (v24 : BitVec 32) : Fin 2 → Nat :=
  let c0_i32_27 : BitVec 32 := 0#32
  let c1_i32_26 : BitVec 32 := 1#32
  let v60 : BitVec 32 := Scalar.subi c1_i32_26 v24
  ![0, v60.toNat]
def k0_cond3 (v54 : BitVec 32) : BitVec 1 :=
  let c0_i32_24 : BitVec 32 := 0#32
  let v55 : BitVec 1 := Scalar.cmpi .sge v54 c0_i32_24
  let v56 : BitVec 32 := Scalar.extui v55
  let c0_i32_25 : BitVec 32 := 0#32
  let v57 : BitVec 1 := Scalar.cmpi .ne v56 c0_i32_25
  v57

def k0_off22 (v24 : BitVec 32) : Fin 3 → Nat :=
  let c1_i32_26 : BitVec 32 := 1#32
  let v60 : BitVec 32 := Scalar.subi c1_i32_26 v24
  let c0_i32_28 : BitVec 32 := 0#32
  let c0_i32_29 : BitVec 32 := 0#32
  ![v60.toNat, 0, 0]
def k0_off23 (v59 : BitVec 32) : Fin 3 → Nat :=
  let c0_i32_30 : BitVec 32 := 0#32
  let c0_i32_31 : BitVec 32 := 0#32
  ![v59.toNat, 0, 0]

def k0_off24 (v24 : BitVec 32) : Fin 2 → Nat :=
  let c1_i32_32 : BitVec 32 := 1#32
  let c1_i32_26 : BitVec 32 := 1#32
  let v60 : BitVec 32 := Scalar.subi c1_i32_26 v24
  ![1, v60.toNat]
def k0_off25 (v24 : BitVec 32) : Fin 3 → Nat :=
  let c1_i32_26 : BitVec 32 := 1#32
  let v60 : BitVec 32 := Scalar.subi c1_i32_26 v24
  let c0_i32_33 : BitVec 32 := 0#32
  let c0_i32_34 : BitVec 32 := 0#32
  ![v60.toNat, 0, 0]

def k0_chk5 (i : grid0.Coords) (v0 : BitVec 32) (v8 : BitVec 32) (v12 : BitVec 32) (v24 : BitVec 32) (v54 : BitVec 32) : Prop :=
  (∀ (k0_h2 : k0_cond2 i v0 v8 v12 = 1#1), ∀ (k0_h3 : k0_cond3 v54 = 1#1), ∀ a, (k0_off21 v24) a + S1x1.size a ≤ S2x2.size a) ∧
  (∀ (k0_h2 : k0_cond2 i v0 v8 v12 = 1#1), ∀ (k0_h3 : k0_cond3 v54 = 1#1), ∀ a, (k0_off22 v24) a + S1x1024x2048.size a ≤ S2x1024x2048.size a) ∧
  (∀ (k0_h2 : k0_cond2 i v0 v8 v12 = 1#1), ∀ (k0_h3 : k0_cond3 v54 = 1#1), ∀ a, (k0_off24 v24) a + S1x1.size a ≤ S2x2.size a) ∧
  (∀ (k0_h2 : k0_cond2 i v0 v8 v12 = 1#1), ∀ (k0_h3 : k0_cond3 v54 = 1#1), ∀ a, (k0_off25 v24) a + S1x1024x1024.size a ≤ S2x1024x1024.size a)
theorem k0_off21_inb : ∀ (i : grid0.Coords) (v0 : BitVec 32) (v8 : BitVec 32) (v12 : BitVec 32) (v24 : BitVec 32) (v54 : BitVec 32) (k0_hw5 : k0_chk5 i v0 v8 v12 v24 v54), ∀ (k0_h2 : k0_cond2 i v0 v8 v12 = 1#1), ∀ (k0_h3 : k0_cond3 v54 = 1#1), ∀ a, (k0_off21 v24) a + S1x1.size a ≤ S2x2.size a := fun i v0 v8 v12 v24 v54 k0_hw5 k0_h2 k0_h3 => k0_hw5.1 k0_h2 k0_h3
theorem k0_off22_inb : ∀ (i : grid0.Coords) (v0 : BitVec 32) (v8 : BitVec 32) (v12 : BitVec 32) (v24 : BitVec 32) (v54 : BitVec 32) (k0_hw5 : k0_chk5 i v0 v8 v12 v24 v54), ∀ (k0_h2 : k0_cond2 i v0 v8 v12 = 1#1), ∀ (k0_h3 : k0_cond3 v54 = 1#1), ∀ a, (k0_off22 v24) a + S1x1024x2048.size a ≤ S2x1024x2048.size a := fun i v0 v8 v12 v24 v54 k0_hw5 k0_h2 k0_h3 => k0_hw5.2.1 k0_h2 k0_h3
theorem k0_off24_inb : ∀ (i : grid0.Coords) (v0 : BitVec 32) (v8 : BitVec 32) (v12 : BitVec 32) (v24 : BitVec 32) (v54 : BitVec 32) (k0_hw5 : k0_chk5 i v0 v8 v12 v24 v54), ∀ (k0_h2 : k0_cond2 i v0 v8 v12 = 1#1), ∀ (k0_h3 : k0_cond3 v54 = 1#1), ∀ a, (k0_off24 v24) a + S1x1.size a ≤ S2x2.size a := fun i v0 v8 v12 v24 v54 k0_hw5 k0_h2 k0_h3 => k0_hw5.2.2.1 k0_h2 k0_h3
theorem k0_off25_inb : ∀ (i : grid0.Coords) (v0 : BitVec 32) (v8 : BitVec 32) (v12 : BitVec 32) (v24 : BitVec 32) (v54 : BitVec 32) (k0_hw5 : k0_chk5 i v0 v8 v12 v24 v54), ∀ (k0_h2 : k0_cond2 i v0 v8 v12 = 1#1), ∀ (k0_h3 : k0_cond3 v54 = 1#1), ∀ a, (k0_off25 v24) a + S1x1024x1024.size a ≤ S2x1024x1024.size a := fun i v0 v8 v12 v24 v54 k0_hw5 k0_h2 k0_h3 => k0_hw5.2.2.2 k0_h2 k0_h3

def k0_off26 (v59 : BitVec 32) : Fin 3 → Nat :=
  let c0_i32_35 : BitVec 32 := 0#32
  let c0_i32_36 : BitVec 32 := 0#32
  ![v59.toNat, 0, 0]

def k0_chk6 (i : grid0.Coords) (v0 : BitVec 32) (v8 : BitVec 32) (v12 : BitVec 32) (v54 : BitVec 32) (v59 : BitVec 32) : Prop :=
  (∀ (k0_h2 : k0_cond2 i v0 v8 v12 = 1#1), ∀ (k0_h3 : k0_cond3 v54 = 1#1), ∀ a, (k0_off23 v59) a + S1x1024x2048.size a ≤ S32x1024x2048.size a) ∧
  (∀ (k0_h2 : k0_cond2 i v0 v8 v12 = 1#1), ∀ (k0_h3 : k0_cond3 v54 = 1#1), ∀ a, (k0_off26 v59) a + S1x1024x1024.size a ≤ S32x1024x1024.size a)
theorem k0_off23_inb : ∀ (i : grid0.Coords) (v0 : BitVec 32) (v8 : BitVec 32) (v12 : BitVec 32) (v54 : BitVec 32) (v59 : BitVec 32) (k0_hw6 : k0_chk6 i v0 v8 v12 v54 v59), ∀ (k0_h2 : k0_cond2 i v0 v8 v12 = 1#1), ∀ (k0_h3 : k0_cond3 v54 = 1#1), ∀ a, (k0_off23 v59) a + S1x1024x2048.size a ≤ S32x1024x2048.size a := fun i v0 v8 v12 v54 v59 k0_hw6 k0_h2 k0_h3 => k0_hw6.1 k0_h2 k0_h3
theorem k0_off26_inb : ∀ (i : grid0.Coords) (v0 : BitVec 32) (v8 : BitVec 32) (v12 : BitVec 32) (v54 : BitVec 32) (v59 : BitVec 32) (k0_hw6 : k0_chk6 i v0 v8 v12 v54 v59), ∀ (k0_h2 : k0_cond2 i v0 v8 v12 = 1#1), ∀ (k0_h3 : k0_cond3 v54 = 1#1), ∀ a, (k0_off26 v59) a + S1x1024x1024.size a ≤ S32x1024x1024.size a := fun i v0 v8 v12 v54 v59 k0_hw6 k0_h2 k0_h3 => k0_hw6.2 k0_h2 k0_h3

def k0_cond4 (i : grid0.Coords) (v0 : BitVec 32) : BitVec 1 :=
  let arg0 : BitVec 32 := BitVec.ofNat 32 (i 0).val
  let v1 : BitVec 1 := Scalar.cmpi .slt arg0 v0
  let v18 : BitVec 32 := Scalar.extui v1
  let c0_i32_4 : BitVec 32 := 0#32
  let v19 : BitVec 1 := Scalar.cmpi .ne v18 c0_i32_4
  v19

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v20 : BitVec 1 := Scalar.xori v1 v_true
  let v21 : BitVec 32 := Scalar.extui v20
  let c0_i32_5 : BitVec 32 := 0#32
  let v22 : BitVec 1 := Scalar.cmpi .ne v21 c0_i32_5
  v22

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x8x2048x1024 : Shape := ⟨4, ![2, 8, 2048, 1024]⟩
abbrev S16384x32 : Shape := ⟨2, ![16384, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1x8x2048x1024 : Shape := ⟨4, ![1, 8, 2048, 1024]⟩
abbrev S8x2048x1024 : Shape := ⟨3, ![8, 2048, 1024]⟩
abbrev S16384x1024 : Shape := ⟨2, ![16384, 1024]⟩
abbrev S16384x4 : Shape := ⟨2, ![16384, 4]⟩
abbrev S16384x4x1 : Shape := ⟨3, ![16384, 4, 1]⟩
abbrev S1x1x32 : Shape := ⟨3, ![1, 1, 32]⟩
abbrev S16384x4x32 : Shape := ⟨3, ![16384, 4, 32]⟩
abbrev S32x2048x16384 : Shape := ⟨3, ![32, 2048, 16384]⟩
abbrev S32x16384x2048 : Shape := ⟨3, ![32, 16384, 2048]⟩
abbrev S32x1x2048 : Shape := ⟨3, ![32, 1, 2048]⟩
abbrev S32x16384x1024 : Shape := ⟨3, ![32, 16384, 1024]⟩
abbrev S_ : Shape := ⟨0, ![]⟩
abbrev S32x1x1024 : Shape := ⟨3, ![32, 1, 1024]⟩
abbrev S16384x1024x4 : Shape := ⟨3, ![16384, 1024, 4]⟩
abbrev S4x16384x1024 : Shape := ⟨3, ![4, 16384, 1024]⟩
abbrev S4x8x2048x1024 : Shape := ⟨4, ![4, 8, 2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x8x2048x1024, .bf16⟩
  | .hbm, ⟨1, _⟩ => ⟨S16384x32, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S1x8x2048x1024, .bf16⟩
  | .hbm, ⟨7, _⟩ => ⟨S8x2048x1024, .bf16⟩
  | .hbm, ⟨8, _⟩ => ⟨S16384x1024, .bf16⟩
  | .hbm, ⟨9, _⟩ => ⟨S16384x1024, .f32⟩
  | .hbm, ⟨10, _⟩ => ⟨S16384x4, .f32⟩
  | .hbm, ⟨11, _⟩ => ⟨S16384x4, .i32⟩
  | .hbm, ⟨12, _⟩ => ⟨S16384x4x1, .i32⟩
  | .hbm, ⟨13, _⟩ => ⟨S1x1x32, .i32⟩
  | .hbm, ⟨14, _⟩ => ⟨S16384x4x32, .i32⟩
  | .hbm, ⟨15, _⟩ => ⟨S16384x4x32, .i32⟩
  | .hbm, ⟨16, _⟩ => ⟨S16384x4x32, .i1⟩
  | .hbm, ⟨17, _⟩ => ⟨S16384x4x32, .f32⟩
  | .hbm, ⟨18, _⟩ => ⟨S32x2048x16384, .f32⟩
  | .hbm, ⟨19, _⟩ => ⟨S32x16384x2048, .f32⟩
  | .hbm, ⟨20, _⟩ => ⟨S32x1x2048, .f32⟩
  | .hbm, ⟨21, _⟩ => ⟨S32x16384x2048, .f32⟩
  | .hbm, ⟨22, _⟩ => ⟨S32x16384x2048, .f32⟩
  | .hbm, ⟨23, _⟩ => ⟨S32x16384x1024, .f32⟩
  | .hbm, ⟨24, _⟩ => ⟨S32x16384x1024, .f32⟩
  | .hbm, ⟨25, _⟩ => ⟨S_, .f32⟩
  | .hbm, ⟨26, _⟩ => ⟨S32x16384x1024, .f32⟩
  | .hbm, ⟨27, _⟩ => ⟨S32x16384x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x16384x1024, .f32⟩
  | .hbm, ⟨32, _⟩ => ⟨S32x16384x1024, .f32⟩
  | .hbm, ⟨33, _⟩ => ⟨S_, .f32⟩
  | .hbm, ⟨34, _⟩ => ⟨S32x16384x1024, .f32⟩
  | .hbm, ⟨35, _⟩ => ⟨S32x16384x1024, .f32⟩
  | .hbm, ⟨36, _⟩ => ⟨S_, .f32⟩
  | .hbm, ⟨37, _⟩ => ⟨S32x16384x1024, .f32⟩
  | .hbm, ⟨38, _⟩ => ⟨S32x16384x1024, .f32⟩
  | .hbm, ⟨39, _⟩ => ⟨S32x16384x1024, .f32⟩
  | .hbm, ⟨40, _⟩ => ⟨S_, .f32⟩
  | .hbm, ⟨41, _⟩ => ⟨S32x16384x1024, .f32⟩
  | .hbm, ⟨42, _⟩ => ⟨S32x16384x1024, .f32⟩
  | .hbm, ⟨43, _⟩ => ⟨S32x16384x1024, .f32⟩
  | .hbm, ⟨44, _⟩ => ⟨S32x16384x1024, .f32⟩
  | .hbm, ⟨45, _⟩ => ⟨S_, .f32⟩
  | .hbm, ⟨46, _⟩ => ⟨S32x16384x1024, .f32⟩
  | .hbm, ⟨47, _⟩ => ⟨S32x16384x1024, .f32⟩
  | .hbm, ⟨48, _⟩ => ⟨S_, .f32⟩
  | .hbm, ⟨49, _⟩ => ⟨S32x16384x1024, .f32⟩
  | .hbm, ⟨50, _⟩ => ⟨S32x16384x1024, .f32⟩
  | .hbm, ⟨51, _⟩ => ⟨S32x16384x1024, .f32⟩
  | .hbm, ⟨52, _⟩ => ⟨S32x16384x1024, .f32⟩
  | .hbm, ⟨53, _⟩ => ⟨S32x1x1024, .f32⟩
  | .hbm, ⟨54, _⟩ => ⟨S32x16384x1024, .f32⟩
  | .hbm, ⟨55, _⟩ => ⟨S32x16384x1024, .f32⟩
  | .hbm, ⟨56, _⟩ => ⟨S16384x1024x4, .f32⟩
  | .hbm, ⟨57, _⟩ => ⟨S4x16384x1024, .f32⟩
  | .hbm, ⟨58, _⟩ => ⟨S4x16384x1024, .bf16⟩
  | .hbm, ⟨59, _⟩ => ⟨S4x8x2048x1024, .bf16⟩
  | _, _ => ⟨S2x8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_values : Ref sig .tc := ⟨.hbm, 10, rfl⟩
abbrev main_indices : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== Kernel2.lean ====
abbrev S8x2048x1024 : Shape := ⟨3, ![8, 2048, 1024]⟩
abbrev S4x8x2048x1024 : Shape := ⟨4, ![4, 8, 2048, 1024]⟩
abbrev S16384x32 : Shape := ⟨2, ![16384, 32]⟩
abbrev S16x6144 : Shape := ⟨2, ![16, 6144]⟩
abbrev S1024 : Shape := ⟨1, ![1024]⟩
abbrev S9x6144 : Shape := ⟨2, ![9, 6144]⟩
abbrev S54x1x1024 : Shape := ⟨3, ![54, 1, 1024]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S8x2048x128 : Shape := ⟨3, ![8, 2048, 128]⟩
abbrev S1x1024 : Shape := ⟨2, ![1, 1024]⟩
abbrev S1x256x1024 : Shape := ⟨3, ![1, 256, 1024]⟩
abbrev S1x1x256x1024 : Shape := ⟨4, ![1, 1, 256, 1024]⟩
abbrev S1x256x128 : Shape := ⟨3, ![1, 256, 128]⟩
abbrev S1x1x1024 : Shape := ⟨3, ![1, 1, 1024]⟩
abbrev S256x128 : Shape := ⟨2, ![256, 128]⟩
abbrev S256x1 : Shape := ⟨2, ![256, 1]⟩
abbrev S256x1024 : Shape := ⟨2, ![256, 1024]⟩
abbrev S256 : Shape := ⟨1, ![256]⟩

abbrev nBuf : Space → Nat
  | .hbm => 29
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S4x8x2048x1024, .bf16⟩
  | .hbm, ⟨2, _⟩ => ⟨S16384x32, .f32⟩
  | .hbm, ⟨3, _⟩ => ⟨S16x6144, .f32⟩
  | .hbm, ⟨4, _⟩ => ⟨S1024, .f32⟩
  | .hbm, ⟨5, _⟩ => ⟨S9x6144, .f32⟩
  | .hbm, ⟨6, _⟩ => ⟨S54x1x1024, .f32⟩
  | .hbm, ⟨7, _⟩ => ⟨S16384x4, .f32⟩
  | .hbm, ⟨8, _⟩ => ⟨S16384x4, .i32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x4, .f32⟩
  | .hbm, ⟨16, _⟩ => ⟨S16384x4, .f32⟩
  | .hbm, ⟨17, _⟩ => ⟨S16384x4, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x4, .f32⟩
  | .hbm, ⟨22, _⟩ => ⟨S16384x4, .f32⟩
  | .hbm, ⟨23, _⟩ => ⟨S_, .i32⟩
  | .hbm, ⟨24, _⟩ => ⟨S_, .f32⟩
  | .hbm, ⟨25, _⟩ => ⟨S16384x128, .f32⟩
  | .hbm, ⟨26, _⟩ => ⟨S8x2048x128, .f32⟩
  | .hbm, ⟨27, _⟩ => ⟨S1x1024, .f32⟩
  | .hbm, ⟨28, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x1024, .bf16⟩
  | .local _ .vmem, ⟨9, _⟩ => ⟨S1x1x256x1024, .bf16⟩
  | .local _ .vmem, ⟨10, _⟩ => ⟨S1x256x128, .f32⟩
  | .local _ .vmem, ⟨11, _⟩ => ⟨S1x256x128, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S4x8x2048x1024 : Shape := ⟨4, ![4, 8, 2048, 1024]⟩
abbrev S16384x32 : Shape := ⟨2, ![16384, 32]⟩
abbrev S16x6144 : Shape := ⟨2, ![16, 6144]⟩
abbrev S1024 : Shape := ⟨1, ![1024]⟩
abbrev S8x6144 : Shape := ⟨2, ![8, 6144]⟩
abbrev S8x1x6144 : Shape := ⟨3, ![8, 1, 6144]⟩
abbrev S8x1x1024 : Shape := ⟨3, ![8, 1, 1024]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S8x2048x4 : Shape := ⟨3, ![8, 2048, 4]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x8x2048x1024, .bf16⟩
  | .hbm, ⟨2, _⟩ => ⟨S16384x32, .f32⟩
  | .hbm, ⟨3, _⟩ => ⟨S16x6144, .f32⟩
  | .hbm, ⟨4, _⟩ => ⟨S1024, .f32⟩
  | .hbm, ⟨5, _⟩ => ⟨S8x6144, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S16384x4, .f32⟩
  | .hbm, ⟨14, _⟩ => ⟨S16384x4, .i32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384x1, .f32⟩
  | .hbm, ⟨21, _⟩ => ⟨S16384x4, .f32⟩
  | .hbm, ⟨22, _⟩ => ⟨S16384x4, .f32⟩
  | .hbm, ⟨23, _⟩ => ⟨S16384x4, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S16384x4, .f32⟩
  | .hbm, ⟨28, _⟩ => ⟨S16384x4, .f32⟩
  | .hbm, ⟨29, _⟩ => ⟨S8x2048x4, .f32⟩
  | .hbm, ⟨30, _⟩ => ⟨S4x8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel3.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16x1024 : Shape := ⟨2, ![16, 1024]⟩
abbrev S1 : Shape := ⟨1, ![1]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S1x6144, .f32⟩
  | .hbm, ⟨13, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S9x1024 : Shape := ⟨2, ![9, 1024]⟩
abbrev S_ : Shape := ⟨0, ![]⟩
abbrev S16x1024 : Shape := ⟨2, ![16, 1024]⟩
abbrev S16x6144 : Shape := ⟨2, ![16, 6144]⟩
abbrev S1x6144 : Shape := ⟨2, ![1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S9x1024, .f32⟩
  | .hbm, ⟨6, _⟩ => ⟨S_, .i32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x6144, .f32⟩
  | .hbm, ⟨19, _⟩ => ⟨S1x6144, .f32⟩
  | .hbm, ⟨20, _⟩ => ⟨S16x6144, .f32⟩
  | .hbm, ⟨21, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_call1_v0 : Ref sig .tc := ⟨.hbm, 9, rfl⟩
abbrev main_call1_v1 : Ref sig .tc := ⟨.hbm, 10, rfl⟩
abbrev main_call1_cst : Ref sig .tc := ⟨.hbm, 11, rfl⟩
abbrev main_call1_v2 : Ref sig .tc := ⟨.hbm, 12, rfl⟩
abbrev main_call1_v3 : Ref sig .tc := ⟨.hbm, 13, rfl⟩
abbrev main_call1_cst_0 : Ref sig .tc := ⟨.hbm, 14, rfl⟩
abbrev main_call1_v4 : Ref sig .tc := ⟨.hbm, 15, rfl⟩
abbrev main_call1_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== Proof.Moe.Pieces.lean ====
/-
  The pieces a point of the expert kernel works with: one expert's block of each weight array, the two slots of
  each staging buffer, the four completion counters, and the copies in flight between two points.
-/
module

public import proofs.«01_k».proof.Defs
public import proofs.«01_k».proof.Proof.Gen.KernelIdeal.Launch
public import proofs.«01_k».proof.Proof.Gen.KernelIdeal.Skeleton
public import Idealize.ShloMosaic.Lib.Pipeline.Frame
public import Idealize.ShloMosaic.Lib.Ring
public import Idealize.ShloMosaic.Lib.Affine
public import Idealize.ShloMosaic.Lib.Tactic

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

omit [FloatOps F] in
theorem entails_of_eq {P Q : sProp 𝕄} (e : P = Q) : P ⊢ Q := e ▸ .rfl

/-! ## Names -/

/-- The stacked gate/up weights and the stacked down weights, left in HBM. -/
abbrev wguM : Memref sig .tc .hbm S32x1024x2048 .f32 := Memref.whole main_arg2
abbrev wdM : Memref sig .tc .hbm S32x1024x1024 .f32 := Memref.whole main_arg4
/-- The two-slot staging buffers of the two weights. -/
abbrev bufG : Memref sig .tc .vmem S2x1024x2048 .f32 := Memref.whole cc0_scratch0
abbrev bufD : Memref sig .tc .vmem S2x1024x1024 .f32 := Memref.whole cc0_scratch1
/-- The current expert's weights, rounded. -/
abbrev bfG : Memref sig .tc .vmem S1024x2048 .bf16 := Memref.whole cc0_scratch2
abbrev bfD : Memref sig .tc .vmem S1024x1024 .bf16 := Memref.whole cc0_scratch3

/-- The expert and the slot a word names. -/
def eOf (v : BitVec 32) : Fin 32 := ⟨v.toNat % 32, Nat.mod_lt _ (by decide)⟩
def sOf (v : BitVec 32) : Fin 2 := ⟨v.toNat % 2, Nat.mod_lt _ (by decide)⟩
/-- The other slot. -/
def oth (s : Fin 2) : Fin 2 := ⟨1 - s.val, by omega⟩

theorem off3_inb {n a b : ℕ} (k : Fin n) : ∀ x, (![k.val, 0, 0] : Fin 3 → ℕ) x + (![1, a, b] : Fin 3 → ℕ) x ≤ (![n, a, b] : Fin 3 → ℕ) x := by
  have := k.isLt; intro x; fin_cases x
  · show k.val + 1 ≤ n; omega
  · show 0 + a ≤ a; omega
  · show 0 + b ≤ b; omega

abbrev eOff (e : Fin 32) : Fin 3 → ℕ := ![e.val, 0, 0]
abbrev sOff (s : Fin 2) : Fin 3 → ℕ := ![s.val, 0, 0]
abbrev cOff (r s : Fin 2) : Fin 2 → ℕ := ![r.val, s.val]
theorem eOffG_inb (e : Fin 32) : ∀ a, eOff e a + S1x1024x2048.size a ≤ S32x1024x2048.size a := off3_inb e
theorem eOffD_inb (e : Fin 32) : ∀ a, eOff e a + S1x1024x1024.size a ≤ S32x1024x1024.size a := off3_inb e
theorem sOffG_inb (s : Fin 2) : ∀ a, sOff s a + S1x1024x2048.size a ≤ S2x1024x2048.size a := off3_inb s
theorem sOffD_inb (s : Fin 2) : ∀ a, sOff s a + S1x1024x1024.size a ≤ S2x1024x1024.size a := off3_inb s
theorem cOff_inb (r s : Fin 2) : ∀ a, cOff r s a + S1x1.size a ≤ S2x2.size a := by
  have := r.isLt; have := s.isLt; intro x; fin_cases x
  · show r.val + 1 ≤ 2; omega
  · show s.val + 1 ≤ 2; omega

/-- Expert `e`'s block of each weight array, as the body slices and squeezes it. -/
def srcG (e : Fin 32) : Memref sig .tc .hbm S1024x2048 .f32 :=
  (wguM.slice (Rect.unit (s := S32x1024x2048) (eOff e) S1x1024x2048.size (eOffG_inb e)) (fun _ => rfl)).squeeze S1024x2048 squeezes_S1x1024x2048_S1024x2048
def srcD (e : Fin 32) : Memref sig .tc .hbm S1024x1024 .f32 :=
  (wdM.slice (Rect.unit (s := S32x1024x1024) (eOff e) S1x1024x1024.size (eOffD_inb e)) (fun _ => rfl)).squeeze S1024x1024 squeezes_S1x1024x1024_S1024x1024
/-- Slot `s` of each staging buffer. -/
def slG (s : Fin 2) : Memref sig .tc .vmem S1024x2048 .f32 :=
  (bufG.slice (Rect.unit (s := S2x1024x2048) (sOff s) S1x1024x2048.size (sOffG_inb s)) (fun _ => rfl)).squeeze S1024x2048 squeezes_S1x1024x2048_S1024x2048
def slD (s : Fin 2) : Memref sig .tc .vmem S1024x1024 .f32 :=
  (bufD.slice (Rect.unit (s := S2x1024x1024) (sOff s) S1x1024x1024.size (sOffD_inb s)) (fun _ => rfl)).squeeze S1024x1024 squeezes_S1x1024x1024_S1024x1024
/-- The completion counter of weight `r` (0 gate/up, 1 down) and slot `s`. -/
def cel (r s : Fin 2) : DmaSems sig S_ :=
  (cc0_scratch4.slice (Rect.unit (s := S2x2) (cOff r s) S1x1.size (cOff_inb r s))).squeeze S_ squeezes_S1x1_S_

instance (s : Fin 2) : ClosedOff (sOff s) := ⟨sOff s, rfl⟩
instance (e : Fin 32) : ClosedOff (eOff e) := ⟨eOff e, rfl⟩

/-! ## The body's slices are these -/

section Canon

private theorem cel_congr {off : Fin 2 → ℕ} {r s : Fin 2} (e : off = cOff r s) (hh) :
    (cc0_scratch4.slice (Rect.unit (s := S2x2) off S1x1.size hh)).squeeze S_ squeezes_S1x1_S_ = cel r s :=
  congrArg (fun A : DmaSems sig S1x1 => A.squeeze S_ squeezes_S1x1_S_) (SemArray.slice_unit_congr _ e _ _)
private theorem slG_congr {off : Fin 3 → ℕ} {s : Fin 2} (e : off = sOff s) (hh hs) :
    (bufG.slice (Rect.unit (s := S2x1024x2048) off S1x1024x2048.size hh) hs).squeeze S1024x2048 squeezes_S1x1024x2048_S1024x2048 = slG s :=
  congrArg (fun M : Memref sig .tc .vmem S1x1024x2048 .f32 => M.squeeze S1024x2048 squeezes_S1x1024x2048_S1024x2048) (Memref.slice_unit_congr _ e _ _ _ _)
private theorem slD_congr {off : Fin 3 → ℕ} {s : Fin 2} (e : off = sOff s) (hh hs) :
    (bufD.slice (Rect.unit (s := S2x1024x1024) off S1x1024x1024.size hh) hs).squeeze S1024x1024 squeezes_S1x1024x1024_S1024x1024 = slD s :=
  congrArg (fun M : Memref sig .tc .vmem S1x1024x1024 .f32 => M.squeeze S1024x1024 squeezes_S1x1024x1024_S1024x1024) (Memref.slice_unit_congr _ e _ _ _ _)
private theorem srcG_congr {off : Fin 3 → ℕ} {b : Fin 32} (e : off = eOff b) (hh hs) :
    (wguM.slice (Rect.unit (s := S32x1024x2048) off S1x1024x2048.size hh) hs).squeeze S1024x2048 squeezes_S1x1024x2048_S1024x2048 = srcG b :=
  congrArg (fun M : Memref sig .tc .hbm S1x1024x2048 .f32 => M.squeeze S1024x2048 squeezes_S1x1024x2048_S1024x2048) (Memref.slice_unit_congr _ e _ _ _ _)
private theorem srcD_congr {off : Fin 3 → ℕ} {b : Fin 32} (e : off = eOff b) (hh hs) :
    (wdM.slice (Rect.unit (s := S32x1024x1024) off S1x1024x1024.size hh) hs).squeeze S1024x1024 squeezes_S1x1024x1024_S1024x1024 = srcD b :=
  congrArg (fun M : Memref sig .tc .hbm S1x1024x1024 .f32 => M.squeeze S1024x1024 squeezes_S1x1024x1024_S1024x1024) (Memref.slice_unit_congr _ e _ _ _ _)

theorem eOf_val {v : BitVec 32} (h : v.toNat < 32) : (eOf v).val = v.toNat := Nat.mod_eq_of_lt h
theorem sOf_val {v : BitVec 32} (h : v.toNat < 2) : (sOf v).val = v.toNat := Nat.mod_eq_of_lt h
theorem sub_toNat {v : BitVec 32} (h : v.toNat < 2) : (Scalar.subi 1#32 v).toNat = (oth (sOf v)).val := by
  show (1#32 - v).toNat = 1 - (sOf v).val
  rw [sOf_val h, BitVec.toNat_sub]; simp; omega

variable {v : BitVec 32}

/-- First issue, into the slot the word names. -/
@[sl_canon] theorem c2 (h : v.toNat < 2) (hh) : (cc0_scratch4.slice (Rect.unit (s := S2x2) (k0_off2 v) S1x1.size hh)).squeeze S_ squeezes_S1x1_S_ = cel 0 (sOf v) :=
  cel_congr (by unfold cOff; rw [sOf_val h]; rfl) _
@[sl_canon] theorem c5 (h : v.toNat < 2) (hh) : (cc0_scratch4.slice (Rect.unit (s := S2x2) (k0_off5 v) S1x1.size hh)).squeeze S_ squeezes_S1x1_S_ = cel 1 (sOf v) :=
  cel_congr (by unfold cOff; rw [sOf_val h]; rfl) _
@[sl_canon] theorem c3 (h : v.toNat < 2) (hh hs) : (bufG.slice (Rect.unit (s := S2x1024x2048) (k0_off3 v) S1x1024x2048.size hh) hs).squeeze S1024x2048 squeezes_S1x1024x2048_S1024x2048 = slG (sOf v) :=
  slG_congr (by unfold sOff; rw [sOf_val h]; rfl) _ _
@[sl_canon] theorem c6 (h : v.toNat < 2) (hh hs) : (bufD.slice (Rect.unit (s := S2x1024x1024) (k0_off6 v) S1x1024x1024.size hh) hs).squeeze S1024x1024 squeezes_S1x1024x1024_S1024x1024 = slD (sOf v) :=
  slD_congr (by unfold sOff; rw [sOf_val h]; rfl) _ _
@[sl_canon] theorem c4 (h : v.toNat < 32) (hh hs) : (wguM.slice (Rect.unit (s := S32x1024x2048) (k0_off4 v) S1x1024x2048.size hh) hs).squeeze S1024x2048 squeezes_S1x1024x2048_S1024x2048 = srcG (eOf v) :=
  srcG_congr (by unfold eOff; rw [eOf_val h]; rfl) _ _
@[sl_canon] theorem c7 (h : v.toNat < 32) (hh hs) : (wdM.slice (Rect.unit (s := S32x1024x1024) (k0_off7 v) S1x1024x1024.size hh) hs).squeeze S1024x1024 squeezes_S1x1024x1024_S1024x1024 = srcD (eOf v) :=
  srcD_congr (by unfold eOff; rw [eOf_val h]; rfl) _ _
/-- The two waits. -/
@[sl_canon] theorem c11 (h : v.toNat < 2) (hh) : (cc0_scratch4.slice (Rect.unit (s := S2x2) (k0_off11 v) S1x1.size hh)).squeeze S_ squeezes_S1x1_S_ = cel 0 (sOf v) :=
  cel_congr (by unfold cOff; rw [sOf_val h]; rfl) _
@[sl_canon] theorem c14 (h : v.toNat < 2) (hh) : (cc0_scratch4.slice (Rect.unit (s := S2x2) (k0_off14 v) S1x1.size hh)).squeeze S_ squeezes_S1x1_S_ = cel 1 (sOf v) :=
  cel_congr (by unfold cOff; rw [sOf_val h]; rfl) _
@[sl_canon] theorem c12 (h : v.toNat < 2) (hh hs) : (bufG.slice (Rect.unit (s := S2x1024x2048) (k0_off12 v) S1x1024x2048.size hh) hs).squeeze S1024x2048 squeezes_S1x1024x2048_S1024x2048 = slG (sOf v) :=
  slG_congr (by unfold sOff; rw [sOf_val h]; rfl) _ _
@[sl_canon] theorem c15 (h : v.toNat < 2) (hh hs) : (bufD.slice (Rect.unit (s := S2x1024x1024) (k0_off15 v) S1x1024x1024.size hh) hs).squeeze S1024x1024 squeezes_S1x1024x1024_S1024x1024 = slD (sOf v) :=
  slD_congr (by unfold sOff; rw [sOf_val h]; rfl) _ _
@[sl_canon] theorem c13 (h : v.toNat < 32) (hh hs) : (wguM.slice (Rect.unit (s := S32x1024x2048) (k0_off13 v) S1x1024x2048.size hh) hs).squeeze S1024x2048 squeezes_S1x1024x2048_S1024x2048 = srcG (eOf v) :=
  srcG_congr (by unfold eOff; rw [eOf_val h]; rfl) _ _
@[sl_canon] theorem c16 (h : v.toNat < 32) (hh hs) : (wdM.slice (Rect.unit (s := S32x1024x1024) (k0_off16 v) S1x1024x1024.size hh) hs).squeeze S1024x1024 squeezes_S1x1024x1024_S1024x1024 = srcD (eOf v) :=
  srcD_congr (by unfold eOff; rw [eOf_val h]; rfl) _ _
/-- The next issue, into the other slot. -/
@[sl_canon] theorem c21 (h : v.toNat < 2) (hh) : (cc0_scratch4.slice (Rect.unit (s := S2x2) (k0_off21 v) S1x1.size hh)).squeeze S_ squeezes_S1x1_S_ = cel 0 (oth (sOf v)) :=
  cel_congr (by unfold cOff; rw [← sub_toNat h]; rfl) _
@[sl_canon] theorem c24 (h : v.toNat < 2) (hh) : (cc0_scratch4.slice (Rect.unit (s := S2x2) (k0_off24 v) S1x1.size hh)).squeeze S_ squeezes_S1x1_S_ = cel 1 (oth (sOf v)) :=
  cel_congr (by unfold cOff; rw [← sub_toNat h]; rfl) _
@[sl_canon] theorem c22 (h : v.toNat < 2) (hh hs) : (bufG.slice (Rect.unit (s := S2x1024x2048) (k0_off22 v) S1x1024x2048.size hh) hs).squeeze S1024x2048 squeezes_S1x1024x2048_S1024x2048 = slG (oth (sOf v)) :=
  slG_congr (by unfold sOff; rw [← sub_toNat h]; rfl) _ _
@[sl_canon] theorem c25 (h : v.toNat < 2) (hh hs) : (bufD.slice (Rect.unit (s := S2x1024x1024) (k0_off25 v) S1x1024x1024.size hh) hs).squeeze S1024x1024 squeezes_S1x1024x1024_S1024x1024 = slD (oth (sOf v)) :=
  slD_congr (by unfold sOff; rw [← sub_toNat h]; rfl) _ _
@[sl_canon] theorem c23 (h : v.toNat < 32) (hh hs) : (wguM.slice (Rect.unit (s := S32x1024x2048) (k0_off23 v) S1x1024x2048.size hh) hs).squeeze S1024x2048 squeezes_S1x1024x2048_S1024x2048 = srcG (eOf v) :=
  srcG_congr (by unfold eOff; rw [eOf_val h]; rfl) _ _
@[sl_canon] theorem c26 (h : v.toNat < 32) (hh hs) : (wdM.slice (Rect.unit (s := S32x1024x1024) (k0_off26 v) S1x1024x1024.size hh) hs).squeeze S1024x1024 squeezes_S1x1024x1024_S1024x1024 = srcD (eOf v) :=
  srcD_congr (by unfold eOff; rw [eOf_val h]; rfl) _ _

theorem off17_eq (h : v.toNat < 2) : k0_off17 v = sOff (sOf v) := by unfold sOff; rw [sOf_val h]; rfl
theorem off18_eq (h : v.toNat < 2) : k0_off18 v = sOff (sOf v) := by unfold sOff; rw [sOf_val h]; rfl

end Canon

/-! ## The checks -/

section Checks
variable (i : grid0.Coords) (v0 v8 v12 : BitVec 32)

theorem chk1_of {s : BitVec 32} (h : s.toNat < 2) : k0_chk1 i v0 s := by
  refine ⟨fun _ => ?_, fun _ => ?_, fun _ => ?_, fun _ => ?_⟩
  · show ∀ a, (![0, s.toNat] : Fin 2 → ℕ) a + _ ≤ _; rw [← sOf_val h]; exact cOff_inb 0 _
  · show ∀ a, (![s.toNat, 0, 0] : Fin 3 → ℕ) a + _ ≤ _; rw [← sOf_val h]; exact sOffG_inb _
  · show ∀ a, (![1, s.toNat] : Fin 2 → ℕ) a + _ ≤ _; rw [← sOf_val h]; exact cOff_inb 1 _
  · show ∀ a, (![s.toNat, 0, 0] : Fin 3 → ℕ) a + _ ≤ _; rw [← sOf_val h]; exact sOffD_inb _
theorem chk2_of {e : BitVec 32} (h : e.toNat < 32) : k0_chk2 i v0 e := by
  refine ⟨fun _ => ?_, fun _ => ?_⟩
  · show ∀ a, (![e.toNat, 0, 0] : Fin 3 → ℕ) a + _ ≤ _; rw [← eOf_val h]; exact eOffG_inb _
  · show ∀ a, (![e.toNat, 0, 0] : Fin 3 → ℕ) a + _ ≤ _; rw [← eOf_val h]; exact eOffD_inb _
theorem chk3_of {s : BitVec 32} (h : s.toNat < 2) : k0_chk3 i v0 v8 v12 s := by
  refine ⟨fun _ => ?_, fun _ => ?_, fun _ => ?_, fun _ => ?_, fun _ => ?_, fun _ => ?_⟩
  · show ∀ a, (![0, s.toNat] : Fin 2 → ℕ) a + _ ≤ _; rw [← sOf_val h]; exact cOff_inb 0 _
  · show ∀ a, (![s.toNat, 0, 0] : Fin 3 → ℕ) a + _ ≤ _; rw [← sOf_val h]; exact sOffG_inb _
  · show ∀ a, (![1, s.toNat] : Fin 2 → ℕ) a + _ ≤ _; rw [← sOf_val h]; exact cOff_inb 1 _
  · show ∀ a, (![s.toNat, 0, 0] : Fin 3 → ℕ) a + _ ≤ _; rw [← sOf_val h]; exact sOffD_inb _
  · show ∀ a, (![s.toNat, 0, 0] : Fin 3 → ℕ) a + _ ≤ _; rw [← sOf_val h]; exact sOffG_inb _
  · show ∀ a, (![s.toNat, 0, 0] : Fin 3 → ℕ) a + _ ≤ _; rw [← sOf_val h]; exact sOffD_inb _
theorem chk4_of {e : BitVec 32} (h : e.toNat < 32) : k0_chk4 i v0 v8 v12 e := by
  refine ⟨fun _ => ?_, fun _ => ?_⟩
  · show ∀ a, (![e.toNat, 0, 0] : Fin 3 → ℕ) a + _ ≤ _; rw [← eOf_val h]; exact eOffG_inb _
  · show ∀ a, (![e.toNat, 0, 0] : Fin 3 → ℕ) a + _ ≤ _; rw [← eOf_val h]; exact eOffD_inb _
theorem chk5_of {s x : BitVec 32} (h : s.toNat < 2) : k0_chk5 i v0 v8 v12 s x := by
  have hs := sub_toNat h
  refine ⟨fun _ _ => ?_, fun _ _ => ?_, fun _ _ => ?_, fun _ _ => ?_⟩
  · show ∀ a, (![0, (Scalar.subi 1#32 s).toNat] : Fin 2 → ℕ) a + _ ≤ _; rw [hs]; exact cOff_inb 0 _
  · show ∀ a, (![(Scalar.subi 1#32 s).toNat, 0, 0] : Fin 3 → ℕ) a + _ ≤ _; rw [hs]; exact sOffG_inb _
  · show ∀ a, (![1, (Scalar.subi 1#32 s).toNat] : Fin 2 → ℕ) a + _ ≤ _; rw [hs]; exact cOff_inb 1 _
  · show ∀ a, (![(Scalar.subi 1#32 s).toNat, 0, 0] : Fin 3 → ℕ) a + _ ≤ _; rw [hs]; exact sOffD_inb _
theorem chk6_of {x e : BitVec 32} (h : e.toNat < 32) : k0_chk6 i v0 v8 v12 x e := by
  refine ⟨fun _ _ => ?_, fun _ _ => ?_⟩
  · show ∀ a, (![e.toNat, 0, 0] : Fin 3 → ℕ) a + _ ≤ _; rw [← eOf_val h]; exact eOffG_inb _
  · show ∀ a, (![e.toNat, 0, 0] : Fin 3 → ℕ) a + _ ≤ _; rw [← eOf_val h]; exact eOffD_inb _

end Checks

/-! ## What is held: the tables, the counters, the slots, the copies in flight -/

section Held
variable (c : Dev nD)

/-- Each table's words, whole. -/
abbrev tbE : Memref sig .tc .smem S160 .i32 := Memref.whole main_v72
abbrev tbN : Memref sig .tc .smem S1 .i32 := Memref.whole main_v94
abbrev tbX : Memref sig .tc .smem S160 .i32 := Memref.whole main_v101
abbrev tbS : Memref sig .tc .smem S160 .i32 := Memref.whole main_v110

abbrev TbBuf {S : Shape} {e : EltTy} (M : Memref sig .tc .smem S e) : Type := Buf (Elt F) (M.view.loc (c : Thread nD τ))
/-- A table held at half the full share: the pipeline keeps the other half. -/
abbrev tbPt {S : Shape} {e : EltTy} (M : Memref sig .tc .smem S e) (f : TbBuf (F := F) c M) : sProp 𝕄 :=
  M.view.loc (c : Thread nD τ) ↦{fullShare.right} f
abbrev HbBuf {sp : Space} {S : Shape} {e : EltTy} (M : Memref sig .tc sp S e) : Type := Buf (Elt F) (M.view.loc (c : Thread nD τ))
/-- A buffer held whole. -/
abbrev hbPt {sp : Space} {S : Shape} {e : EltTy} (M : Memref sig .tc sp S e) (f : HbBuf (F := F) c M) : sProp 𝕄 :=
  M.view.loc (c : Thread nD τ) ↦{fullShare} f

/-- Counter `(r, s)` at zero. -/
abbrev cellP (r s : Fin 2) : sProp 𝕄 := semVal ((c : Thread nD τ), SemLoc.dma (cel r s).sem) 0
/-- A slot held at `f`. -/
abbrev slotG (s : Fin 2) (f : Buf (Elt F) ((slG s).view.loc (c : Thread nD τ))) : sProp 𝕄 :=
  (slG s).view.loc (c : Thread nD τ) ↦[(slG s).view.set]{fullShare} f
abbrev slotD (s : Fin 2) (f : Buf (Elt F) ((slD s).view.loc (c : Thread nD τ))) : sProp 𝕄 :=
  (slD s).view.loc (c : Thread nD τ) ↦[(slD s).view.set]{fullShare} f

variable (WG : HbBuf (F := F) c wguM) (WD : HbBuf (F := F) c wdM)

/-- Expert `e`'s block of a weight array, as a slot's payload. -/
abbrev loadG (e : Fin 32) : S1024x2048.Idx → Elt F .f32 := ReadAs.same.apply ((srcG e).view.read (Elt F) WG)
abbrev loadD (e : Fin 32) : S1024x1024.Idx → Elt F .f32 := ReadAs.same.apply ((srcD e).view.read (Elt F) WD)
/-- What a copy of expert `e` leaves in slot `s` over `f`. -/
abbrev landG (s : Fin 2) (e : Fin 32) (f : Buf (Elt F) ((slG s).view.loc (c : Thread nD τ))) : Buf (Elt F) ((slG s).view.loc (c : Thread nD τ)) :=
  (slG s).view.writes (Elt F) f [⟨Rect.whole S1024x2048, loadG c WG e⟩]
abbrev landD (s : Fin 2) (e : Fin 32) (f : Buf (Elt F) ((slD s).view.loc (c : Thread nD τ))) : Buf (Elt F) ((slD s).view.loc (c : Thread nD τ)) :=
  (slD s).view.writes (Elt F) f [⟨Rect.whole S1024x1024, loadD c WD e⟩]
/-- Expert `e`'s block of a weight array, held. -/
abbrev blkG (e : Fin 32) : sProp 𝕄 := (srcG e).view.loc (c : Thread nD τ) ↦[(srcG e).view.set]{fullShare} WG
abbrev blkD (e : Fin 32) : sProp 𝕄 := (srcD e).view.loc (c : Thread nD τ) ↦[(srcD e).view.set]{fullShare} WD
/-- A weight array without expert `e`'s block, held. -/
abbrev restG (e : Fin 32) : sProp 𝕄 := wguM.view.loc (c : Thread nD τ) ↦[Finset.univ \ (srcG e).view.set]{fullShare} WG
abbrev restD (e : Fin 32) : sProp 𝕄 := wdM.view.loc (c : Thread nD τ) ↦[Finset.univ \ (srcD e).view.set]{fullShare} WD
/-- A copy of expert `e` into slot `s` in flight, issued over `f`. -/
abbrev flyG (s : Fin 2) (e : Fin 32) (f : Buf (Elt F) ((slG s).view.loc (c : Thread nD τ))) : sProp 𝕄 :=
  Transfers.Flight countersEmb (c : Thread nD τ) (SemLoc.dma (cel 0 s).sem) () 262144 iprop(slotG c s (landG c WG s e f) ∗ blkG c WG e)
abbrev flyD (s : Fin 2) (e : Fin 32) (f : Buf (Elt F) ((slD s).view.loc (c : Thread nD τ))) : sProp 𝕄 :=
  Transfers.Flight countersEmb (c : Thread nD τ) (SemLoc.dma (cel 1 s).sem) () 131072 iprop(slotD c s (landD c WD s e f) ∗ blkD c WD e)

end Held

end Cert.Proof.Moe

end
-- ==== Proof.Moe.Slots.lean ====
/-
  Element sets of the slots and of the experts' blocks; a staging buffer is its two slots, a weight array is one
  expert's block and the rest; what a load of a landed slot reads.
-/
module

public import proofs.«01_k».proof.Proof.Moe.Pieces
public import Idealize.ShloMosaic.Lib.Pipeline.Value

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Element sets -/

/-- The elements of slot `s`. -/
abbrev setG (s : Fin 2) : Finset S2x1024x2048.Idx := (Rect.unit (s := S2x1024x2048) (sOff s) S1x1024x2048.size (sOffG_inb s)).set
abbrev setD (s : Fin 2) : Finset S2x1024x1024.Idx := (Rect.unit (s := S2x1024x1024) (sOff s) S1x1024x1024.size (sOffD_inb s)).set

theorem slG_set (s : Fin 2) : (slG s).view.set = setG s := (View.set_reshape _ _).trans (View.set_slice_whole _ _)
theorem slD_set (s : Fin 2) : (slD s).view.set = setD s := (View.set_reshape _ _).trans (View.set_slice_whole _ _)

theorem mem_setG (s : Fin 2) (y : S2x1024x2048.Idx) : y ∈ setG s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem mem_setD (s : Fin 2) (y : S2x1024x1024.Idx) : y ∈ setD s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

theorem oth_ne (s : Fin 2) : s ≠ oth s := by revert s; decide
theorem oth_oth (s : Fin 2) : oth (oth s) = s := by revert s; decide

theorem setG_disjoint (s : Fin 2) : Disjoint (setG s) (setG (oth s)) := by
  rw [Finset.disjoint_left]; intro y hy hy'; rw [mem_setG] at hy hy'; exact oth_ne s (Fin.ext (hy.symm.trans hy'))
theorem setD_disjoint (s : Fin 2) : Disjoint (setD s) (setD (oth s)) := by
  rw [Finset.disjoint_left]; intro y hy hy'; rw [mem_setD] at hy hy'; exact oth_ne s (Fin.ext (hy.symm.trans hy'))
theorem setG_cover (s : Fin 2) : setG s ∪ setG (oth s) = Finset.univ := by
  ext y; simp only [Finset.mem_union, Finset.mem_univ, iff_true, mem_setG]
  have : (y 0).val < 2 := (y 0).isLt
  have := s.isLt; show _ ∨ (y 0).val = 1 - s.val; omega
theorem setD_cover (s : Fin 2) : setD s ∪ setD (oth s) = Finset.univ := by
  ext y; simp only [Finset.mem_union, Finset.mem_univ, iff_true, mem_setD]
  have : (y 0).val < 2 := (y 0).isLt
  have := s.isLt; show _ ∨ (y 0).val = 1 - s.val; omega

/-- The box the body loads of a staging buffer lies in the slot its word names. -/
theorem inclG {v : BitVec 32} (h : v.toNat < 2) (hh) :
    bufG.view.setOn (Rect.unit (s := S2x1024x2048) (k0_off17 v) S1x1024x2048.size hh).toLoadRect.set ⊆ (slG (sOf v)).view.set := by
  have e := off17_eq h
  generalize k0_off17 v = off at e hh
  subst e
  rw [slG_set]
  intro y hy
  obtain ⟨z, hz, rfl⟩ := Finset.mem_map.mp hy
  exact hz
theorem inclD {v : BitVec 32} (h : v.toNat < 2) (hh) :
    bufD.view.setOn (Rect.unit (s := S2x1024x1024) (k0_off18 v) S1x1024x1024.size hh).toLoadRect.set ⊆ (slD (sOf v)).view.set := by
  have e := off18_eq h
  generalize k0_off18 v = off at e hh
  subst e
  rw [slD_set]
  intro y hy
  obtain ⟨z, hz, rfl⟩ := Finset.mem_map.mp hy
  exact hz

section Held
variable (c : Dev nD)

/-- A staging buffer whole is its two slots, and back. -/
theorem splitG (s : Fin 2) : (iprop(∃ f, hbPt (F := F) c bufG f) : sProp 𝕄) ⊢ iprop((∃ f, slotG c s f) ∗ ∃ f, slotG c (oth s) f) := by
  iintro ⟨%f, H⟩
  ihave H2 := (entails_of_eq (congrArg (fun S => (bufG.view.loc (c : Thread nD τ) ↦[S]{fullShare} f : sProp 𝕄)) (setG_cover s).symm)) $$ H
  ihave H3 := (pointsTo_union (Val := Elt F) (setG_disjoint s)).1 $$ H2
  icases H3 with ⟨H0, H1⟩
  isplitl [H0]
  · iexists f; iapply (entails_of_eq (congrArg (fun S => (bufG.view.loc (c : Thread nD τ) ↦[S]{fullShare} f : sProp 𝕄)) (slG_set s).symm)); iexact H0
  · iexists f; iapply (entails_of_eq (congrArg (fun S => (bufG.view.loc (c : Thread nD τ) ↦[S]{fullShare} f : sProp 𝕄)) (slG_set (oth s)).symm)); iexact H1
theorem splitD (s : Fin 2) : (iprop(∃ f, hbPt (F := F) c bufD f) : sProp 𝕄) ⊢ iprop((∃ f, slotD c s f) ∗ ∃ f, slotD c (oth s) f) := by
  iintro ⟨%f, H⟩
  ihave H2 := (entails_of_eq (congrArg (fun S => (bufD.view.loc (c : Thread nD τ) ↦[S]{fullShare} f : sProp 𝕄)) (setD_cover s).symm)) $$ H
  ihave H3 := (pointsTo_union (Val := Elt F) (setD_disjoint s)).1 $$ H2
  icases H3 with ⟨H0, H1⟩
  isplitl [H0]
  · iexists f; iapply (entails_of_eq (congrArg (fun S => (bufD.view.loc (c : Thread nD τ) ↦[S]{fullShare} f : sProp 𝕄)) (slD_set s).symm)); iexact H0
  · iexists f; iapply (entails_of_eq (congrArg (fun S => (bufD.view.loc (c : Thread nD τ) ↦[S]{fullShare} f : sProp 𝕄)) (slD_set (oth s)).symm)); iexact H1

/-- One expert's block and the rest are the weight array. -/
theorem joinG (WG : HbBuf (F := F) c wguM) (e : Fin 32) : (iprop(blkG c WG e ∗ restG c WG e) : sProp 𝕄) ⊢ hbPt c wguM WG :=
  (pointsTo_split_subset (Val := Elt F) (Finset.subset_univ _)).2
theorem joinD (WD : HbBuf (F := F) c wdM) (e : Fin 32) : (iprop(blkD c WD e ∗ restD c WD e) : sProp 𝕄) ⊢ hbPt c wdM WD :=
  (pointsTo_split_subset (Val := Elt F) (Finset.subset_univ _)).2

/-- A weight array with one expert's block set apart has any other's set apart. -/
theorem swapG (WG : HbBuf (F := F) c wguM) (e e' : Fin 32) : (iprop(blkG c WG e ∗ restG c WG e) : sProp 𝕄) ⊢ iprop(blkG c WG e' ∗ restG c WG e') :=
  (joinG c WG e).trans (pointsTo_split_subset (Val := Elt F) (Finset.subset_univ _)).1
theorem swapD (WD : HbBuf (F := F) c wdM) (e e' : Fin 32) : (iprop(blkD c WD e ∗ restD c WD e) : sProp 𝕄) ⊢ iprop(blkD c WD e' ∗ restD c WD e') :=
  (joinD c WD e).trans (pointsTo_split_subset (Val := Elt F) (Finset.subset_univ _)).1
theorem partG (WG : HbBuf (F := F) c wguM) (e : Fin 32) : (hbPt c wguM WG : sProp 𝕄) ⊢ iprop(blkG c WG e ∗ restG c WG e) :=
  (pointsTo_split_subset (Val := Elt F) (Finset.subset_univ _)).1
theorem partD (WD : HbBuf (F := F) c wdM) (e : Fin 32) : (hbPt c wdM WD : sProp 𝕄) ⊢ iprop(blkD c WD e ∗ restD c WD e) :=
  (pointsTo_split_subset (Val := Elt F) (Finset.subset_univ _)).1

end Held

/-! ## What a landed slot holds -/

section Landed
variable (c : Dev nD) (WG : HbBuf (F := F) c wguM) (WD : HbBuf (F := F) c wdM)

/-- Expert `e`'s block of each weight array, with its leading axis of one. -/
def wblkG (e : Fin 32) : Vec F S1x1024x2048 .f32 := wguM.view.readAt (Elt F) (Rect.unit (s := S32x1024x2048) (eOff e) S1x1024x2048.size (eOffG_inb e)).toLoadRect WG
def wblkD (e : Fin 32) : Vec F S1x1024x1024 .f32 := wdM.view.readAt (Elt F) (Rect.unit (s := S32x1024x1024) (eOff e) S1x1024x1024.size (eOffD_inb e)).toLoadRect WD

theorem read_landG (s : Fin 2) (e : Fin 32) (f) :
    bufG.view.readAt (Elt F) (Rect.unit (s := S2x1024x2048) (sOff s) S1x1024x2048.size (sOffG_inb s)).toLoadRect (landG c WG s e f) = wblkG c WG e := by
  funext y
  have hn : S1024x2048.numel = S1x1024x2048.numel := by decide
  have h := congrFun (View.read_writes_whole (slG s).view f (loadG c WG e)) ((Shape.reshapeEquiv hn).symm y)
  have hy := (Shape.reshapeEquiv hn).apply_symm_apply y
  calc _ = bufG.view.readAt (Elt F) (Rect.unit (s := S2x1024x2048) (sOff s) S1x1024x2048.size (sOffG_inb s)).toLoadRect (landG c WG s e f) (Shape.reshapeEquiv hn ((Shape.reshapeEquiv hn).symm y)) := by rw [hy]
    _ = wblkG c WG e (Shape.reshapeEquiv hn ((Shape.reshapeEquiv hn).symm y)) := h
    _ = _ := by rw [hy]
theorem read_landD (s : Fin 2) (e : Fin 32) (f) :
    bufD.view.readAt (Elt F) (Rect.unit (s := S2x1024x1024) (sOff s) S1x1024x1024.size (sOffD_inb s)).toLoadRect (landD c WD s e f) = wblkD c WD e := by
  funext y
  have hn : S1024x1024.numel = S1x1024x1024.numel := by decide
  have h := congrFun (View.read_writes_whole (slD s).view f (loadD c WD e)) ((Shape.reshapeEquiv hn).symm y)
  have hy := (Shape.reshapeEquiv hn).apply_symm_apply y
  calc _ = bufD.view.readAt (Elt F) (Rect.unit (s := S2x1024x1024) (sOff s) S1x1024x1024.size (sOffD_inb s)).toLoadRect (landD c WD s e f) (Shape.reshapeEquiv hn ((Shape.reshapeEquiv hn).symm y)) := by rw [hy]
    _ = wblkD c WD e (Shape.reshapeEquiv hn ((Shape.reshapeEquiv hn).symm y)) := h
    _ = _ := by rw [hy]

/-- The same at the offsets the body computes from the slot's word. -/
theorem read_landG' {v : BitVec 32} (h : v.toNat < 2) (e : Fin 32) (f) (hh) :
    bufG.view.readAt (Elt F) (Rect.unit (s := S2x1024x2048) (k0_off17 v) S1x1024x2048.size hh).toLoadRect (landG c WG (sOf v) e f) = wblkG c WG e := by
  exact (View.readAt_unit_congr bufG.view (off17_eq h) hh (sOffG_inb _) _).trans (read_landG c WG _ e f)
theorem read_landD' {v : BitVec 32} (h : v.toNat < 2) (e : Fin 32) (f) (hh) :
    bufD.view.readAt (Elt F) (Rect.unit (s := S2x1024x1024) (k0_off18 v) S1x1024x1024.size hh).toLoadRect (landD c WD (sOf v) e f) = wblkD c WD e := by
  exact (View.readAt_unit_congr bufD.view (off18_eq h) hh (sOffD_inb _) _).trans (read_landD c WD _ e f)

end Landed

end Cert.Proof.Moe

end
-- ==== Proof.Moe.Body.lean ====
module

public import proofs.«01_k».proof.Proof.Moe.Slots
public import Idealize.ShloMosaic.Lib.VecWindow

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The body at point `i` on any staging memrefs. -/
abbrev bodyG (i : grid0.Coords) (arg5 : Memref sig .tc .vmem S512x1024 .bf16) (harg5 : arg5.IsWhole) (arg6 : Memref sig .tc .vmem S1x1x2048 .f32) (harg6 : arg6.IsWhole) (arg7 : Memref sig .tc .vmem S1x1x1024 .f32) (harg7 : arg7.IsWhole) (arg10 : Memref sig .tc .vmem S512x1024 .bf16) (harg10 : arg10.IsWhole) :
    Prog (TpuEff nD τ sig (Elt F) Λ₀ .tc) PUnit :=
  cc0_moe_experts i tbE (Memref.isWhole_whole _) tbN (Memref.isWhole_whole _) tbX (Memref.isWhole_whole _) tbS (Memref.isWhole_whole _)
    arg5 harg5 arg6 harg6 arg7 harg7 wguM (Memref.isWhole_whole _) wdM (Memref.isWhole_whole _) arg10 harg10
    bufG (Memref.isWhole_whole _) bufD (Memref.isWhole_whole _) bfG (Memref.isWhole_whole _) bfD (Memref.isWhole_whole _) cc0_scratch4

section
variable (c : Dev nD) (i : grid0.Coords) (arg5 : Memref sig .tc .vmem S512x1024 .bf16) (harg5 : arg5.IsWhole) (arg6 : Memref sig .tc .vmem S1x1x2048 .f32) (harg6 : arg6.IsWhole) (arg7 : Memref sig .tc .vmem S1x1x1024 .f32) (harg7 : arg7.IsWhole) (arg10 : Memref sig .tc .vmem S512x1024 .bf16) (harg10 : arg10.IsWhole)
    (x0 : Vec F S512x1024 .bf16) (x1 : Vec F S1x1x2048 .f32) (x2 : Vec F S1x1x1024 .f32)
    (fE : TbBuf (F := F) c tbE) (fN : TbBuf (F := F) c tbN) (fX : TbBuf (F := F) c tbX) (fS : TbBuf (F := F) c tbS)

/-- The four tables, held. -/
abbrev tabs : sProp 𝕄 := iprop(tbPt c tbE fE ∗ tbPt c tbN fN ∗ tbPt c tbX fX ∗ tbPt c tbS fS)
/-- The three input blocks, held. -/
abbrev ins : sProp 𝕄 := iprop(owns (c : Thread nD τ) arg5 fullShare x0 ∗ owns (c : Thread nD τ) arg6 fullShare x1 ∗ owns (c : Thread nD τ) arg7 fullShare x2)

/-- The word of a 160-entry table at an offset, as the body reads it. -/
abbrev w160 (M : Memref sig .tc .smem S160 .i32) (f : TbBuf (F := F) c M) (off : Fin 1 → ℕ) (h : ∀ a, off a + S1.size a ≤ S160.size a) : BitVec 32 :=
  M.view.readAt (Elt F) (Rect.unit (s := S160) off S1.size h).toLoadRect f (Shape.Idx.first (show 0 < S1.numel by decide))
/-- The number of tiles in use, as the body reads it. -/
abbrev nuW : BitVec 32 := tbN.view.readAt (Elt F) (Rect.unit (s := S1) ![0] S1.size inb_S1_S1_0).toLoadRect fN (Shape.Idx.first (show 0 < S1.numel by decide))

omit [FloatOps F] in
/-- A store through the rectangle of a view's own sizes at zero offsets is read back whole. -/
theorem read_writes_unit {sg : RefSig} {κ : Kind} {sp : Space} {S : Shape} {e : EltTy} (v : View sg κ sp S e) {off : Fin S.rank → ℕ} (h : ∀ a, off a = 0)
    (inb : ∀ a, off a + S.size a ≤ S.size a) (f : v.ty.Contents (Elt F)) (w : S.Idx → Elt F e) :
    v.read (Elt F) (v.writes (Elt F) f [⟨Rect.unit off S.size inb, w⟩]) = w := by
  obtain rfl : off = fun _ => 0 := funext h
  exact View.read_writes_whole v f w

/-- The expert's output block of equal operands is equal. -/
theorem pay4_congr {a a' : Vec F S512x1024 .bf16} {b b' : Vec F S1024x2048 .bf16} {d d' : Vec F S1x1x2048 .f32} {e e' : Vec F S1024x1024 .bf16} {g g' : Vec F S1x1x1024 .f32}
    (ha : a = a') (hb : b = b') (hd : d = d') (he : e = e') (hg : g = g') : k0_pay4 a b d e g = k0_pay4 a' b' d' e' g' := by rw [ha, hb, hd, he, hg]

omit [FloatOps F] in
/-- A load through the rectangle of a view's own sizes at zero offsets reads the whole view. -/
theorem readAt_zero {sg : RefSig} {κ : Kind} {sp : Space} {S : Shape} {e : EltTy} (v : View sg κ sp S e) {off : Fin S.rank → ℕ} (h : ∀ a, off a = 0)
    (inb : ∀ a, off a + S.size a ≤ S.size a) (f : v.ty.Contents (Elt F)) :
    v.readAt (Elt F) (Rect.unit off S.size inb).toLoadRect f = v.read (Elt F) f := by
  obtain rfl : off = fun _ => 0 := funext h
  exact View.ld_unit_zero rfl inb (v.read (Elt F) f)

section
variable (WG : HbBuf (F := F) c wguM) (WD : HbBuf (F := F) c wdM)
/-- Expert `e`'s two weights in flight into slot `s`; the two weight arrays less what is lent. -/
def Fly (s : Fin 2) (e : Fin 32) : sProp 𝕄 :=
  iprop((∃ g, flyG c WG s e g) ∗ (∃ g, flyD c WD s e g) ∗ restG c WG e ∗ restD c WD e)
/-- Slot `s` at rest: its two buffers at anything, its two counters at zero. -/
def Free (s : Fin 2) : sProp 𝕄 :=
  iprop((∃ f, slotG (F := F) c s f) ∗ (∃ f, slotD (F := F) c s f) ∗ cellP (F := F) c 0 s ∗ cellP (F := F) c 1 s)
/-- The two weight arrays, whole. -/
def Wts : sProp 𝕄 := iprop(hbPt c wguM WG ∗ hbPt c wdM WD)
/-- The rounded weights of expert `e` in the scratch. -/
def Cur (e : Fin 32) : sProp 𝕄 :=
  iprop(owns (c : Thread nD τ) bfG fullShare (k0_pay2 (wblkG c WG e)) ∗ owns (c : Thread nD τ) bfD fullShare (k0_pay3 (wblkD c WD e)))
/-- The scratch for the rounded weights at anything. -/
def AnyCur : sProp 𝕄 := iprop((∃ X, owns (c : Thread nD τ) bfG fullShare (X : Vec F S1024x2048 .bf16)) ∗ (∃ X, owns (c : Thread nD τ) bfD fullShare (X : Vec F S1024x1024 .bf16)))
end

/-- A point past the tiles in use stores zeros. -/
theorem bodyD {nu te pv : BitVec 32} (eN : nuW c fN = nu) (eE : w160 c tbE fE (k0_off8 i) (k0_off8_inb i) = te) (eP : w160 c tbE fE (k0_off9 i) (k0_off9_inb i) = pv)
    (h1 : ¬ k0_cond1 i nu = 1#1) (h2 : ¬ k0_cond2 i nu te pv = 1#1)
    (h4 : ¬ k0_cond4 i nu = 1#1) (h5 : k0_cond5 i nu = 1#1) :
      ∀ (W : Waits sig Unit) (K : PUnit → sProp 𝕄),
        iprop(tabs c fE fN fX fS ∗ (∃ d, owns (c : Thread nD τ) arg10 fullShare d) ∗ owes (c : Thread nD τ) 0 W
            ∗ (iprop(tabs c fE fN fX fS ∗ owns (c : Thread nD τ) arg10 fullShare (k0_pay1 (F := F)) ∗ (∃ W', owes (c : Thread nD τ) 0 W')) -∗ K ⟨⟩))
          ⊢ wp frame (wpE (defs₀ (F := F)) Variants.none c none) Set.univ (bodyG i arg5 harg5 arg6 harg6 arg7 harg7 arg10 harg10) K := by
    intro W K
    dsimp only [bodyG]
    simp only [cc0_moe_experts_eq_skeleton]; unfold cc0_moe_experts_skel
    unfold owns
    iintro ⟨⟨HT0, HT1, HT2, HT3⟩, ⟨%d4, %f4, -, H4⟩, HW, Hk⟩
    sl_exec
    have e0 : bodyD.sl.r c fN = nu := eN
    rw [e0]
    sl_exec
    have e1 : bodyD.sl.r_2 c i fE = te := eE
    have e2 : bodyD.sl.r_3 c i fE = pv := eP
    rw [e1, e2]
    sl_exec
    sl_step
    iapply Hk
    isplitl [HT0 HT1 HT2 HT3]
    · isplitl [HT0]; · iexact HT0
      isplitl [HT1]; · iexact HT1
      isplitl [HT2]; · iexact HT2
      iexact HT3
    isplitl [H4]
    · iexists _; isplitr; swap; · iexact H4
      ipureintro; exact read_writes_unit _ (by decide) _ _ _
    iexists _; iexact HW

/-- A point in use whose expert is the previous point's multiplies its rows by the weights already rounded. -/
theorem bodyC {nu te pv : BitVec 32} (eN : nuW c fN = nu) (eE : w160 c tbE fE (k0_off8 i) (k0_off8_inb i) = te) (eP : w160 c tbE fE (k0_off9 i) (k0_off9_inb i) = pv)
    (h1 : ¬ k0_cond1 i nu = 1#1) (h2 : ¬ k0_cond2 i nu te pv = 1#1)
    (h4 : k0_cond4 i nu = 1#1) (h5 : ¬ k0_cond5 i nu = 1#1) (XG : Vec F S1024x2048 .bf16) (XD : Vec F S1024x1024 .bf16) :
      ∀ (W : Waits sig Unit) (K : PUnit → sProp 𝕄),
        iprop(tabs c fE fN fX fS ∗ ins c arg5 arg6 arg7 x0 x1 x2 ∗ (∃ d, owns (c : Thread nD τ) arg10 fullShare d)
            ∗ owns (c : Thread nD τ) bfG fullShare XG ∗ owns (c : Thread nD τ) bfD fullShare XD ∗ owes (c : Thread nD τ) 0 W
            ∗ (iprop(tabs c fE fN fX fS ∗ ins c arg5 arg6 arg7 x0 x1 x2 ∗ owns (c : Thread nD τ) arg10 fullShare (k0_pay4 x0 XG x1 XD x2)
                ∗ owns (c : Thread nD τ) bfG fullShare XG ∗ owns (c : Thread nD τ) bfD fullShare XD ∗ (∃ W', owes (c : Thread nD τ) 0 W')) -∗ K ⟨⟩))
          ⊢ wp frame (wpE (defs₀ (F := F)) Variants.none c none) Set.univ (bodyG i arg5 harg5 arg6 harg6 arg7 harg7 arg10 harg10) K := by
    intro W K
    dsimp only [bodyG]
    simp only [cc0_moe_experts_eq_skeleton]; unfold cc0_moe_experts_skel
    unfold ins owns
    iintro ⟨⟨HT0, HT1, HT2, HT3⟩, ⟨⟨%f0, %hf0, H0⟩, ⟨%f1, %hf1, H1⟩, ⟨%f2, %hf2, H2⟩⟩, ⟨%d4, %f4, -, H4⟩, ⟨%fg, %hg, HG⟩, ⟨%fd, %hd, HD⟩, HW, Hk⟩
    sl_exec
    have e0 : bodyC.sl.r c fN = nu := eN
    rw [e0]
    sl_exec
    have e1 : bodyC.sl.r_2 c i fE = te := eE
    have e2 : bodyC.sl.r_3 c i fE = pv := eP
    rw [e1, e2]
    sl_exec
    sl_step
    iapply Hk
    isplitl [HT0 HT1 HT2 HT3]
    · isplitl [HT0]; · iexact HT0
      isplitl [HT1]; · iexact HT1
      isplitl [HT2]; · iexact HT2
      iexact HT3
    isplitl [H0 H1 H2]
    · isplitl [H0]
      · iexists _; isplitr; swap; · iexact H0
        ipureintro; exact hf0
      isplitl [H1]
      · iexists _; isplitr; swap; · iexact H1
        ipureintro; exact hf1
      iexists _; isplitr; swap; · iexact H2
      ipureintro; exact hf2
    isplitl [H4]
    · iexists _; isplitr; swap; · iexact H4
      ipureintro; refine (read_writes_unit _ (by decide) _ _ _).trans ?_
      show k0_pay4 _ _ _ _ _ = _
      rw [← hf0, ← hf1, ← hf2, ← hg, ← hd]
      congr 1 <;> exact readAt_zero _ (by decide) _ _
    isplitl [HG]
    · iexists _; isplitr; swap; · iexact HG
      ipureintro; exact hg
    isplitl [HD]
    · iexists _; isplitr; swap; · iexact HD
      ipureintro; exact hd
    iexists _; iexact HW

variable (WG : HbBuf (F := F) c wguM) (WD : HbBuf (F := F) c wdM)

set_option maxHeartbeats 400000 in
/-- A point in use whose expert is new, not the first point, with a further expert to fetch. -/
theorem bodyBX {nu te pv sl nx : BitVec 32} (eN : nuW c fN = nu) (eE : w160 c tbE fE (k0_off8 i) (k0_off8_inb i) = te) (eP : w160 c tbE fE (k0_off9 i) (k0_off9_inb i) = pv)
    (eS : w160 c tbS fS (k0_off10 i) (k0_off10_inb i) = sl) (eX : w160 c tbX fX (k0_off19 i) (k0_off19_inb i) = nx)
    (hte : te.toNat < 32) (hsl : sl.toNat < 2) (hnx : nx.toNat < 32)
    (h1 : ¬ k0_cond1 i nu = 1#1) (h2 : k0_cond2 i nu te pv = 1#1) (h3 : k0_cond3 nx = 1#1)
    (h4 : k0_cond4 i nu = 1#1) (h5 : ¬ k0_cond5 i nu = 1#1) :
      ∀ (W : Waits sig Unit) (K : PUnit → sProp 𝕄),
        iprop(tabs c fE fN fX fS ∗ ins c arg5 arg6 arg7 x0 x1 x2 ∗ (∃ d, owns (c : Thread nD τ) arg10 fullShare d)
            ∗ AnyCur c ∗ Fly c WG WD (sOf sl) (eOf te) ∗ Free c (oth (sOf sl)) ∗ owes (c : Thread nD τ) 0 W
            ∗ (iprop(tabs c fE fN fX fS ∗ ins c arg5 arg6 arg7 x0 x1 x2
                ∗ owns (c : Thread nD τ) arg10 fullShare (k0_pay4 x0 (k0_pay2 (wblkG c WG (eOf te))) x1 (k0_pay3 (wblkD c WD (eOf te))) x2)
                ∗ Cur c WG WD (eOf te) ∗ Fly c WG WD (oth (sOf sl)) (eOf nx) ∗ Free c (sOf sl) ∗ (∃ W', owes (c : Thread nD τ) 0 W')) -∗ K ⟨⟩))
          ⊢ wp frame (wpE (defs₀ (F := F)) Variants.none c none) Set.univ (bodyG i arg5 harg5 arg6 harg6 arg7 harg7 arg10 harg10) K := by
    intro W K
    dsimp only [bodyG]
    simp only [cc0_moe_experts_eq_skeleton]; unfold cc0_moe_experts_skel
    unfold ins AnyCur Cur Free  Fly owns
    iintro ⟨⟨HT0, HT1, HT2, HT3⟩, ⟨⟨%f0, %hf0, H0⟩, ⟨%f1, %hf1, H1⟩, ⟨%f2, %hf2, H2⟩⟩, ⟨%d4, %f4, -, H4⟩, ⟨⟨%dg, %fg, %hg, HG⟩, ⟨%dd, %fd, %hd, HD⟩⟩, ⟨⟨%gG, HFG⟩, ⟨%gD, HFD⟩, HRG, HRD⟩, ⟨⟨%fG', HSG⟩, ⟨%fD', HSD⟩, HC0, HC1⟩, HW, Hk⟩
    have ck3 : k0_chk3 i nu te pv sl := chk3_of _ _ _ _ hsl
    have ck4 : k0_chk4 i nu te pv te := chk4_of _ _ _ _ hte
    have ck5 : k0_chk5 i nu te pv sl nx := chk5_of _ _ _ _ hsl
    have ck6 : k0_chk6 i nu te pv nx nx := chk6_of _ _ _ _ hnx
    sl_exec
    have e0 : bodyBX.sl.r c fN = nu := eN
    rw [e0]
    sl_exec
    have e1 : bodyBX.sl.r_2 c i fE = te := eE
    have e2 : bodyBX.sl.r_3 c i fE = pv := eP
    rw [e1, e2]
    sl_exec
    have e3 : bodyBX.sl.r_5 c i fS = sl := eS
    rw [e3]
    sl_exec
    have e4 : bodyBX.sl.r_6 c i fE = te := eE
    rw [e4]
    sl_exec
    have iG := inclG (v := sl) hsl (by rw [off17_eq hsl]; exact sOffG_inb _)
    have iD := inclD (v := sl) hsl (by rw [off18_eq hsl]; exact sOffD_inb _)
    ihave HBG := (swapG c WG (eOf te) (eOf nx)) $$ [HFG_src HRG]
    · isplitl [HFG_src]; · iexact HFG_src
      iexact HRG
    ihave HBD := (swapD c WD (eOf te) (eOf nx)) $$ [HFD_src HRD]
    · isplitl [HFD_src]; · iexact HFD_src
      iexact HRD
    icases HBG with ⟨HBG, HRG⟩
    icases HBD with ⟨HBD, HRD⟩
    sl_exec
    have w1 : bodyBX.sl.v40 c i WG h2 ck3 = wblkG c WG (eOf te) := read_landG' c WG hsl _ _ _
    have w2 : bodyBX.sl.v47 c i WD h2 ck3 = wblkD c WD (eOf te) := read_landD' c WD hsl _ _ _
    have e5 : bodyBX.sl.r_7 c i fX = nx := eX
    rw [e5, w1, w2]
    sl_exec
    have e6 : bodyBX.sl.r_8 c i fX = nx := eX
    rw [e6]
    sl_exec
    sl_step
    iapply Hk
    isplitl [HT0 HT1 HT2 HT3]
    · isplitl [HT0]; · iexact HT0
      isplitl [HT1]; · iexact HT1
      isplitl [HT2]; · iexact HT2
      iexact HT3
    isplitl [H0 H1 H2]
    · isplitl [H0]
      · iexists _; isplitr; swap; · iexact H0
        ipureintro; exact hf0
      isplitl [H1]
      · iexists _; isplitr; swap; · iexact H1
        ipureintro; exact hf1
      iexists _; isplitr; swap; · iexact H2
      ipureintro; exact hf2
    isplitl [H4]
    · iexists _; isplitr; swap; · iexact H4
      ipureintro; refine (read_writes_unit _ (by decide) _ _ _).trans ?_
      show k0_pay4 _ _ _ _ _ = _
      rw [← hf0, ← hf1, ← hf2]
      refine pay4_congr ?_ ?_ ?_ ?_ ?_
      · exact readAt_zero _ (by decide) _ _
      · unfold bodyBX.sl.v25; exact View.readCov_full _ _ _ _ _
      · exact readAt_zero _ (by decide) _ _
      · unfold bodyBX.sl.v53; exact View.readCov_full _ _ _ _ _
      · exact readAt_zero _ (by decide) _ _
    isplitl [HG HD]
    · isplitl [HG]
      · iexists _; isplitr; swap; · iexact HG
        ipureintro; exact read_writes_unit _ (by decide) _ _ _
      iexists _; isplitr; swap; · iexact HD
      ipureintro; exact read_writes_unit _ (by decide) _ _ _
    isplitl [HC0 HC1 HRG HRD]
    · isplitl [HC0]; · iexists _; iexact HC0
      isplitl [HC1]; · iexists _; iexact HC1
      isplitl [HRG]; · iexact HRG
      iexact HRD
    isplitl [HFG_dst HFD_dst HFG HFD]
    · isplitl [HFG_dst]; · iexists _; iexact HFG_dst
      isplitl [HFD_dst]; · iexists _; iexact HFD_dst
      isplitl [HFG]; · iexact HFG
      iexact HFD
    iexists _; iexact HW

set_option maxHeartbeats 400000 in
/-- A point in use whose expert is new, not the first point, with no further expert to fetch. -/
theorem bodyBQ {nu te pv sl nx : BitVec 32} (eN : nuW c fN = nu) (eE : w160 c tbE fE (k0_off8 i) (k0_off8_inb i) = te) (eP : w160 c tbE fE (k0_off9 i) (k0_off9_inb i) = pv)
    (eS : w160 c tbS fS (k0_off10 i) (k0_off10_inb i) = sl) (eX : w160 c tbX fX (k0_off19 i) (k0_off19_inb i) = nx)
    (hte : te.toNat < 32) (hsl : sl.toNat < 2)
    (h1 : ¬ k0_cond1 i nu = 1#1) (h2 : k0_cond2 i nu te pv = 1#1) (h3 : ¬ k0_cond3 nx = 1#1)
    (h4 : k0_cond4 i nu = 1#1) (h5 : ¬ k0_cond5 i nu = 1#1) :
      ∀ (W : Waits sig Unit) (K : PUnit → sProp 𝕄),
        iprop(tabs c fE fN fX fS ∗ ins c arg5 arg6 arg7 x0 x1 x2 ∗ (∃ d, owns (c : Thread nD τ) arg10 fullShare d)
            ∗ AnyCur c ∗ Fly c WG WD (sOf sl) (eOf te) ∗ Free c (oth (sOf sl)) ∗ owes (c : Thread nD τ) 0 W
            ∗ (iprop(tabs c fE fN fX fS ∗ ins c arg5 arg6 arg7 x0 x1 x2
                ∗ owns (c : Thread nD τ) arg10 fullShare (k0_pay4 x0 (k0_pay2 (wblkG c WG (eOf te))) x1 (k0_pay3 (wblkD c WD (eOf te))) x2)
                ∗ Cur c WG WD (eOf te) ∗ Wts c WG WD ∗ Free c (sOf sl) ∗ Free c (oth (sOf sl)) ∗ (∃ W', owes (c : Thread nD τ) 0 W')) -∗ K ⟨⟩))
          ⊢ wp frame (wpE (defs₀ (F := F)) Variants.none c none) Set.univ (bodyG i arg5 harg5 arg6 harg6 arg7 harg7 arg10 harg10) K := by
    intro W K
    dsimp only [bodyG]
    simp only [cc0_moe_experts_eq_skeleton]; unfold cc0_moe_experts_skel
    unfold ins AnyCur Cur Free Wts Fly owns
    iintro ⟨⟨HT0, HT1, HT2, HT3⟩, ⟨⟨%f0, %hf0, H0⟩, ⟨%f1, %hf1, H1⟩, ⟨%f2, %hf2, H2⟩⟩, ⟨%d4, %f4, -, H4⟩, ⟨⟨%dg, %fg, %hg, HG⟩, ⟨%dd, %fd, %hd, HD⟩⟩, ⟨⟨%gG, HFG⟩, ⟨%gD, HFD⟩, HRG, HRD⟩, ⟨⟨%fG', HSG⟩, ⟨%fD', HSD⟩, HC0, HC1⟩, HW, Hk⟩
    have ck3 : k0_chk3 i nu te pv sl := chk3_of _ _ _ _ hsl
    have ck4 : k0_chk4 i nu te pv te := chk4_of _ _ _ _ hte
    have ck5 : k0_chk5 i nu te pv sl nx := chk5_of _ _ _ _ hsl
    sl_exec
    have e0 : bodyBQ.sl.r c fN = nu := eN
    rw [e0]
    sl_exec
    have e1 : bodyBQ.sl.r_2 c i fE = te := eE
    have e2 : bodyBQ.sl.r_3 c i fE = pv := eP
    rw [e1, e2]
    sl_exec
    have e3 : bodyBQ.sl.r_5 c i fS = sl := eS
    rw [e3]
    sl_exec
    have e4 : bodyBQ.sl.r_6 c i fE = te := eE
    rw [e4]
    sl_exec
    have iG := inclG (v := sl) hsl (by rw [off17_eq hsl]; exact sOffG_inb _)
    have iD := inclD (v := sl) hsl (by rw [off18_eq hsl]; exact sOffD_inb _)
    sl_exec
    have w1 : bodyBQ.sl.v40 c i WG h2 ck3 = wblkG c WG (eOf te) := read_landG' c WG hsl _ _ _
    have w2 : bodyBQ.sl.v47 c i WD h2 ck3 = wblkD c WD (eOf te) := read_landD' c WD hsl _ _ _
    have e5 : bodyBQ.sl.r_7 c i fX = nx := eX
    rw [e5, w1, w2]
    sl_exec
    sl_step
    iapply Hk
    isplitl [HT0 HT1 HT2 HT3]
    · isplitl [HT0]; · iexact HT0
      isplitl [HT1]; · iexact HT1
      isplitl [HT2]; · iexact HT2
      iexact HT3
    isplitl [H0 H1 H2]
    · isplitl [H0]
      · iexists _; isplitr; swap; · iexact H0
        ipureintro; exact hf0
      isplitl [H1]
      · iexists _; isplitr; swap; · iexact H1
        ipureintro; exact hf1
      iexists _; isplitr; swap; · iexact H2
      ipureintro; exact hf2
    isplitl [H4]
    · iexists _; isplitr; swap; · iexact H4
      ipureintro; refine (read_writes_unit _ (by decide) _ _ _).trans ?_
      show k0_pay4 _ _ _ _ _ = _
      rw [← hf0, ← hf1, ← hf2]
      refine pay4_congr ?_ ?_ ?_ ?_ ?_
      · exact readAt_zero _ (by decide) _ _
      · unfold bodyBQ.sl.v25; exact View.readCov_full _ _ _ _ _
      · exact readAt_zero _ (by decide) _ _
      · unfold bodyBQ.sl.v53; exact View.readCov_full _ _ _ _ _
      · exact readAt_zero _ (by decide) _ _
    isplitl [HG HD]
    · isplitl [HG]
      · iexists _; isplitr; swap; · iexact HG
        ipureintro; exact read_writes_unit _ (by decide) _ _ _
      iexists _; isplitr; swap; · iexact HD
      ipureintro; exact read_writes_unit _ (by decide) _ _ _
    isplitl [HFG_src HRG HFD_src HRD]
    · isplitl [HFG_src HRG]
      · iapply (joinG c WG (eOf te))
        isplitl [HFG_src]; · iexact HFG_src
        iexact HRG
      iapply (joinD c WD (eOf te))
      isplitl [HFD_src]; · iexact HFD_src
      iexact HRD
    isplitl [HFG_dst HFD_dst HFG HFD]
    · isplitl [HFG_dst]; · iexists _; iexact HFG_dst
      isplitl [HFD_dst]; · iexists _; iexact HFD_dst
      isplitl [HFG]; · iexact HFG
      iexact HFD
    isplitl [HSG HSD HC0 HC1]
    · isplitl [HSG]; · iexists _; iexact HSG
      isplitl [HSD]; · iexists _; iexact HSD
      isplitl [HC0]; · iexact HC0
      iexact HC1
    iexists _; iexact HW

set_option maxHeartbeats 400000 in
/-- The first point, in use, with a further expert to fetch. -/
theorem bodyAX {nu te pv sl nx : BitVec 32} (eN : nuW c fN = nu) (eE : w160 c tbE fE (k0_off8 i) (k0_off8_inb i) = te) (eP : w160 c tbE fE (k0_off9 i) (k0_off9_inb i) = pv)
    (eS : w160 c tbS fS (k0_off10 i) (k0_off10_inb i) = sl) (eX : w160 c tbX fX (k0_off19 i) (k0_off19_inb i) = nx)
    (eE0 : w160 c tbE fE ![0] inb_S160_S1_0 = te) (eS0 : w160 c tbS fS ![0] inb_S160_S1_0 = sl)
    (hte : te.toNat < 32) (hsl : sl.toNat < 2) (hnx : nx.toNat < 32)
    (h1 : k0_cond1 i nu = 1#1) (h2 : k0_cond2 i nu te pv = 1#1) (h3 : k0_cond3 nx = 1#1)
    (h4 : k0_cond4 i nu = 1#1) (h5 : ¬ k0_cond5 i nu = 1#1) :
      ∀ (W : Waits sig Unit) (K : PUnit → sProp 𝕄),
        iprop(tabs c fE fN fX fS ∗ ins c arg5 arg6 arg7 x0 x1 x2 ∗ (∃ d, owns (c : Thread nD τ) arg10 fullShare d)
            ∗ AnyCur c ∗ Wts c WG WD ∗ Free c (sOf sl) ∗ Free c (oth (sOf sl)) ∗ owes (c : Thread nD τ) 0 W
            ∗ (iprop(tabs c fE fN fX fS ∗ ins c arg5 arg6 arg7 x0 x1 x2
                ∗ owns (c : Thread nD τ) arg10 fullShare (k0_pay4 x0 (k0_pay2 (wblkG c WG (eOf te))) x1 (k0_pay3 (wblkD c WD (eOf te))) x2)
                ∗ Cur c WG WD (eOf te) ∗ Fly c WG WD (oth (sOf sl)) (eOf nx) ∗ Free c (sOf sl) ∗ (∃ W', owes (c : Thread nD τ) 0 W')) -∗ K ⟨⟩))
          ⊢ wp frame (wpE (defs₀ (F := F)) Variants.none c none) Set.univ (bodyG i arg5 harg5 arg6 harg6 arg7 harg7 arg10 harg10) K := by
    intro W K
    dsimp only [bodyG]
    simp only [cc0_moe_experts_eq_skeleton]; unfold cc0_moe_experts_skel
    unfold ins AnyCur Cur Free Wts Fly owns
    iintro ⟨⟨HT0, HT1, HT2, HT3⟩, ⟨⟨%f0, %hf0, H0⟩, ⟨%f1, %hf1, H1⟩, ⟨%f2, %hf2, H2⟩⟩, ⟨%d4, %f4, -, H4⟩, ⟨⟨%dg, %fg, %hg, HG⟩, ⟨%dd, %fd, %hd, HD⟩⟩, ⟨HWG, HWD⟩, ⟨⟨%gG, HKG⟩, ⟨%gD, HKD⟩, HFG, HFD⟩, ⟨⟨%fG', HSG⟩, ⟨%fD', HSD⟩, HC0, HC1⟩, HW, Hk⟩
    have ck2 : k0_chk2 i nu te := chk2_of _ _ hte
    have ck1 : k0_chk1 i nu sl := chk1_of _ _ hsl
    have ck3 : k0_chk3 i nu te pv sl := chk3_of _ _ _ _ hsl
    have ck4 : k0_chk4 i nu te pv te := chk4_of _ _ _ _ hte
    have ck5 : k0_chk5 i nu te pv sl nx := chk5_of _ _ _ _ hsl
    have ck6 : k0_chk6 i nu te pv nx nx := chk6_of _ _ _ _ hnx
    sl_exec
    have e0 : bodyAX.sl.r c fN = nu := eN
    rw [e0]
    sl_exec
    have ea : bodyAX.sl.r_2 c fE = te := eE0
    rw [ea]
    sl_exec
    have eb : bodyAX.sl.r_3 c fS = sl := eS0
    rw [eb]
    ihave HWG := (partG c WG (eOf te)) $$ HWG
    ihave HWD := (partD c WD (eOf te)) $$ HWD
    icases HWG with ⟨HBG, HRG⟩
    icases HWD with ⟨HBD, HRD⟩
    sl_exec
    have e1 : bodyAX.sl.r_4 c i fE = te := eE
    have e2 : bodyAX.sl.r_5 c i fE = pv := eP
    rw [e1, e2]
    sl_exec
    have e3 : bodyAX.sl.r_7 c i fS = sl := eS
    rw [e3]
    sl_exec
    have e4 : bodyAX.sl.r_8 c i fE = te := eE
    rw [e4]
    sl_exec
    have iG := inclG (v := sl) hsl (by rw [off17_eq hsl]; exact sOffG_inb _)
    have iD := inclD (v := sl) hsl (by rw [off18_eq hsl]; exact sOffD_inb _)
    ihave HBG := (swapG c WG (eOf te) (eOf nx)) $$ [HBG HRG]
    · isplitl [HBG]; · iexact HBG
      iexact HRG
    ihave HBD := (swapD c WD (eOf te) (eOf nx)) $$ [HBD HRD]
    · isplitl [HBD]; · iexact HBD
      iexact HRD
    icases HBG with ⟨HBG, HRG⟩
    icases HBD with ⟨HBD, HRD⟩
    sl_exec
    have w1 : bodyAX.sl.v40 c i WG h2 ck3 = wblkG c WG (eOf te) := read_landG' c WG hsl _ _ _
    have w2 : bodyAX.sl.v47 c i WD h2 ck3 = wblkD c WD (eOf te) := read_landD' c WD hsl _ _ _
    have e5 : bodyAX.sl.r_9 c i fX = nx := eX
    rw [e5, w1, w2]
    sl_exec
    have e6 : bodyAX.sl.r_10 c i fX = nx := eX
    rw [e6]
    sl_exec
    sl_step
    iapply Hk
    isplitl [HT0 HT1 HT2 HT3]
    · isplitl [HT0]; · iexact HT0
      isplitl [HT1]; · iexact HT1
      isplitl [HT2]; · iexact HT2
      iexact HT3
    isplitl [H0 H1 H2]
    · isplitl [H0]
      · iexists _; isplitr; swap; · iexact H0
        ipureintro; exact hf0
      isplitl [H1]
      · iexists _; isplitr; swap; · iexact H1
        ipureintro; exact hf1
      iexists _; isplitr; swap; · iexact H2
      ipureintro; exact hf2
    isplitl [H4]
    · iexists _; isplitr; swap; · iexact H4
      ipureintro; refine (read_writes_unit _ (by decide) _ _ _).trans ?_
      show k0_pay4 _ _ _ _ _ = _
      rw [← hf0, ← hf1, ← hf2]
      refine pay4_congr ?_ ?_ ?_ ?_ ?_
      · exact readAt_zero _ (by decide) _ _
      · unfold bodyAX.sl.v25; exact View.readCov_full _ _ _ _ _
      · exact readAt_zero _ (by decide) _ _
      · unfold bodyAX.sl.v53; exact View.readCov_full _ _ _ _ _
      · exact readAt_zero _ (by decide) _ _
    isplitl [HG HD]
    · isplitl [HG]
      · iexists _; isplitr; swap; · iexact HG
        ipureintro; exact read_writes_unit _ (by decide) _ _ _
      iexists _; isplitr; swap; · iexact HD
      ipureintro; exact read_writes_unit _ (by decide) _ _ _
    isplitl [HC0 HC1 HRG HRD]
    · isplitl [HC0]; · iexists _; iexact HC0
      isplitl [HC1]; · iexists _; iexact HC1
      isplitl [HRG]; · iexact HRG
      iexact HRD
    isplitl [HKG HKD HFG HFD]
    · isplitl [HKG]; · iexists _; iexact HKG
      isplitl [HKD]; · iexists _; iexact HKD
      isplitl [HFG]; · iexact HFG
      iexact HFD
    iexists _; iexact HW

set_option maxHeartbeats 400000 in
/-- The first point, in use, with no further expert to fetch. -/
theorem bodyAQ {nu te pv sl nx : BitVec 32} (eN : nuW c fN = nu) (eE : w160 c tbE fE (k0_off8 i) (k0_off8_inb i) = te) (eP : w160 c tbE fE (k0_off9 i) (k0_off9_inb i) = pv)
    (eS : w160 c tbS fS (k0_off10 i) (k0_off10_inb i) = sl) (eX : w160 c tbX fX (k0_off19 i) (k0_off19_inb i) = nx)
    (eE0 : w160 c tbE fE ![0] inb_S160_S1_0 = te) (eS0 : w160 c tbS fS ![0] inb_S160_S1_0 = sl)
    (hte : te.toNat < 32) (hsl : sl.toNat < 2)
    (h1 : k0_cond1 i nu = 1#1) (h2 : k0_cond2 i nu te pv = 1#1) (h3 : ¬ k0_cond3 nx = 1#1)
    (h4 : k0_cond4 i nu = 1#1) (h5 : ¬ k0_cond5 i nu = 1#1) :
      ∀ (W : Waits sig Unit) (K : PUnit → sProp 𝕄),
        iprop(tabs c fE fN fX fS ∗ ins c arg5 arg6 arg7 x0 x1 x2 ∗ (∃ d, owns (c : Thread nD τ) arg10 fullShare d)
            ∗ AnyCur c ∗ Wts c WG WD ∗ Free c (sOf sl) ∗ Free c (oth (sOf sl)) ∗ owes (c : Thread nD τ) 0 W
            ∗ (iprop(tabs c fE fN fX fS ∗ ins c arg5 arg6 arg7 x0 x1 x2
                ∗ owns (c : Thread nD τ) arg10 fullShare (k0_pay4 x0 (k0_pay2 (wblkG c WG (eOf te))) x1 (k0_pay3 (wblkD c WD (eOf te))) x2)
                ∗ Cur c WG WD (eOf te) ∗ Wts c WG WD ∗ Free c (sOf sl) ∗ Free c (oth (sOf sl)) ∗ (∃ W', owes (c : Thread nD τ) 0 W')) -∗ K ⟨⟩))
          ⊢ wp frame (wpE (defs₀ (F := F)) Variants.none c none) Set.univ (bodyG i arg5 harg5 arg6 harg6 arg7 harg7 arg10 harg10) K := by
    intro W K
    dsimp only [bodyG]
    simp only [cc0_moe_experts_eq_skeleton]; unfold cc0_moe_experts_skel
    unfold ins AnyCur Cur Free Wts  owns
    iintro ⟨⟨HT0, HT1, HT2, HT3⟩, ⟨⟨%f0, %hf0, H0⟩, ⟨%f1, %hf1, H1⟩, ⟨%f2, %hf2, H2⟩⟩, ⟨%d4, %f4, -, H4⟩, ⟨⟨%dg, %fg, %hg, HG⟩, ⟨%dd, %fd, %hd, HD⟩⟩, ⟨HWG, HWD⟩, ⟨⟨%gG, HKG⟩, ⟨%gD, HKD⟩, HFG, HFD⟩, ⟨⟨%fG', HSG⟩, ⟨%fD', HSD⟩, HC0, HC1⟩, HW, Hk⟩
    have ck2 : k0_chk2 i nu te := chk2_of _ _ hte
    have ck1 : k0_chk1 i nu sl := chk1_of _ _ hsl
    have ck3 : k0_chk3 i nu te pv sl := chk3_of _ _ _ _ hsl
    have ck4 : k0_chk4 i nu te pv te := chk4_of _ _ _ _ hte
    have ck5 : k0_chk5 i nu te pv sl nx := chk5_of _ _ _ _ hsl
    sl_exec
    have e0 : bodyAQ.sl.r c fN = nu := eN
    rw [e0]
    sl_exec
    have ea : bodyAQ.sl.r_2 c fE = te := eE0
    rw [ea]
    sl_exec
    have eb : bodyAQ.sl.r_3 c fS = sl := eS0
    rw [eb]
    ihave HWG := (partG c WG (eOf te)) $$ HWG
    ihave HWD := (partD c WD (eOf te)) $$ HWD
    icases HWG with ⟨HBG, HRG⟩
    icases HWD with ⟨HBD, HRD⟩
    sl_exec
    have e1 : bodyAQ.sl.r_4 c i fE = te := eE
    have e2 : bodyAQ.sl.r_5 c i fE = pv := eP
    rw [e1, e2]
    sl_exec
    have e3 : bodyAQ.sl.r_7 c i fS = sl := eS
    rw [e3]
    sl_exec
    have e4 : bodyAQ.sl.r_8 c i fE = te := eE
    rw [e4]
    sl_exec
    have iG := inclG (v := sl) hsl (by rw [off17_eq hsl]; exact sOffG_inb _)
    have iD := inclD (v := sl) hsl (by rw [off18_eq hsl]; exact sOffD_inb _)
    sl_exec
    have w1 : bodyAQ.sl.v40 c i WG h2 ck3 = wblkG c WG (eOf te) := read_landG' c WG hsl _ _ _
    have w2 : bodyAQ.sl.v47 c i WD h2 ck3 = wblkD c WD (eOf te) := read_landD' c WD hsl _ _ _
    have e5 : bodyAQ.sl.r_9 c i fX = nx := eX
    rw [e5, w1, w2]
    sl_exec
    sl_step
    iapply Hk
    isplitl [HT0 HT1 HT2 HT3]
    · isplitl [HT0]; · iexact HT0
      isplitl [HT1]; · iexact HT1
      isplitl [HT2]; · iexact HT2
      iexact HT3
    isplitl [H0 H1 H2]
    · isplitl [H0]
      · iexists _; isplitr; swap; · iexact H0
        ipureintro; exact hf0
      isplitl [H1]
      · iexists _; isplitr; swap; · iexact H1
        ipureintro; exact hf1
      iexists _; isplitr; swap; · iexact H2
      ipureintro; exact hf2
    isplitl [H4]
    · iexists _; isplitr; swap; · iexact H4
      ipureintro; refine (read_writes_unit _ (by decide) _ _ _).trans ?_
      show k0_pay4 _ _ _ _ _ = _
      rw [← hf0, ← hf1, ← hf2]
      refine pay4_congr ?_ ?_ ?_ ?_ ?_
      · exact readAt_zero _ (by decide) _ _
      · unfold bodyAQ.sl.v25; exact View.readCov_full _ _ _ _ _
      · exact readAt_zero _ (by decide) _ _
      · unfold bodyAQ.sl.v53; exact View.readCov_full _ _ _ _ _
      · exact readAt_zero _ (by decide) _ _
    isplitl [HG HD]
    · isplitl [HG]
      · iexists _; isplitr; swap; · iexact HG
        ipureintro; exact read_writes_unit _ (by decide) _ _ _
      iexists _; isplitr; swap; · iexact HD
      ipureintro; exact read_writes_unit _ (by decide) _ _ _
    isplitl [HBG HRG HBD HRD]
    · isplitl [HBG HRG]
      · iapply (joinG c WG (eOf te))
        isplitl [HBG]; · iexact HBG
        iexact HRG
      iapply (joinD c WD (eOf te))
      isplitl [HBD]; · iexact HBD
      iexact HRD
    isplitl [HKG HKD HFG HFD]
    · isplitl [HKG]; · iexists _; iexact HKG
      isplitl [HKD]; · iexists _; iexact HKD
      isplitl [HFG]; · iexact HFG
      iexact HFD
    isplitl [HSG HSD HC0 HC1]
    · isplitl [HSG]; · iexists _; iexact HSG
      isplitl [HSD]; · iexists _; iexact HSD
      isplitl [HC0]; · iexact HC0
      iexact HC1
    iexists _; iexact HW
end
end Cert.Proof.Moe

end
-- ==== Proof.Moe.Plan.lean ====
/-
  The plan the expert kernel runs by: the four tables as words by tile, the body's conditions in plain arithmetic, and the
  index maps of its windows.
-/
module

public import proofs.«01_k».proof.Proof.Moe.Body
public import Idealize.ShloMosaic.Lib.WordCmp
public import Idealize.ShloMosaic.Lib.Pipeline.FrameBody

@[expose] public section

noncomputable section

namespace Cert.Proof.Moe

open Cert.KernelIdeal Cert.KernelIdeal.Gen
open Idealize.ShloMosaic
open Idealize.ShloMosaic.TcCoe Idealize.ShloMosaic.WordCmp

variable {F : FTy → Type} [FloatOps F]

/-! ## Words by tile -/

/-- Entry `k` of a 160-entry table, as an index. -/
def ix (k : Fin 160) : S160.Idx := fun a => ⟨k.val, by fin_cases a; exact k.isLt⟩
/-- The one entry of a one-entry table, as an index. -/
def ix0 : S1.Idx := fun a => ⟨0, by fin_cases a; exact Nat.one_pos⟩

/-- The tile of a grid point. -/
def tl (i : grid0.Coords) : Fin 160 := ⟨(i 0).val, (i 0).isLt⟩
/-- The tile before (the first tile's is itself). -/
def pr (k : Fin 160) : Fin 160 := ⟨k.val - 1, by omega⟩

theorem ofNat_toNat {n : ℕ} (h : n < 160) : (BitVec.ofNat 32 n).toNat = n := by
  rw [BitVec.toNat_ofNat]; exact Nat.mod_eq_of_lt (by omega)
theorem ofNat_toInt {n : ℕ} (h : n < 160) : (BitVec.ofNat 32 n).toInt = n := by
  rw [BitVec.toInt_eq_toNat_of_lt (by rw [ofNat_toNat h]; omega), ofNat_toNat h]

theorem off8_eq (i : grid0.Coords) : k0_off8 i = ![(tl i).val] := by
  unfold k0_off8; dsimp only; rw [show (Scalar.indexCast (BitVec.ofNat 32 (i 0).val) : Index) = BitVec.ofNat 32 (i 0).val from rfl, ofNat_toNat (i 0).isLt]; rfl
theorem off10_eq (i : grid0.Coords) : k0_off10 i = ![(tl i).val] := off8_eq i
theorem off19_eq (i : grid0.Coords) : k0_off19 i = ![(tl i).val] := off8_eq i
theorem off1_eq (i : grid0.Coords) : k0_off1 i = ![(tl i).val] := off8_eq i

theorem prev_words : ∀ k : Fin 160, (Scalar.maxsi (Scalar.subi (BitVec.ofNat 32 k.val) 1#32) 0#32).toNat = (pr k).val := by decide +kernel
theorem off9_eq (i : grid0.Coords) : k0_off9 i = ![(pr (tl i)).val] := by
  unfold k0_off9; dsimp only
  rw [← prev_words (tl i)]; rfl

variable (c : Dev nD)

omit [FloatOps F] in
theorem w160_eq (r : Ref sig .tc) (M : Memref sig .tc .smem S160 .i32) (f : TbBuf (F := F) c M) (g : S160.Idx → BitVec 32)
    (hg : ∀ x, M.view.read (Elt F) f x = g x)
    {off : Fin 1 → ℕ} (h : ∀ a, off a + S1.size a ≤ S160.size a) {k : Fin 160} (e : off = ![k.val]) : w160 c M f off h = g (ix k) := by
  subst e
  rw [← hg]
  show M.view.readAt (Elt F) _ f _ = _
  rw [View.readAt_apply]
  exact congrArg _ (funext fun a => Fin.ext (by fin_cases a; rfl))

/-! ## The conditions -/

theorem ne_zero_ext (b : BitVec 1) : (Scalar.cmpi .ne (Scalar.extui b : BitVec 32) 0#32 : BitVec 1) = b := by revert b; decide

/-- Tile `k` is among the first `nu`. -/
def Used (nu : BitVec 32) (k : Fin 160) : Prop := (k.val : ℤ) < nu.toInt
instance (nu : BitVec 32) (k : Fin 160) : Decidable (Used nu k) := by unfold Used; infer_instance

theorem slt_used (i : grid0.Coords) (nu : BitVec 32) :
    (Scalar.cmpi .slt (BitVec.ofNat 32 (i 0).val) nu : BitVec 1) = BitVec.ofBool (decide (Used nu (tl i))) := by
  show IntOp.cmpi .slt _ _ = _
  rw [cmpi_slt_eq, ofNat_toInt (i 0).isLt]; rfl
theorem eq_first (i : grid0.Coords) : (Scalar.cmpi .eq (BitVec.ofNat 32 (i 0).val) 0#32 : BitVec 1) = BitVec.ofBool (decide ((tl i).val = 0)) := by
  show IntOp.cmpi .eq _ _ = _
  rw [cmpi_eq_eq_toNat, ofNat_toNat (i 0).isLt]; rfl

theorem cond1_eq (i : grid0.Coords) (nu : BitVec 32) : k0_cond1 i nu = BitVec.ofBool (decide ((tl i).val = 0) && decide (Used nu (tl i))) := by
  unfold k0_cond1; dsimp only; rw [ne_zero_ext, slt_used, eq_first]
  cases decide ((tl i).val = 0) <;> cases decide (Used nu (tl i)) <;> rfl
theorem cond2_eq (i : grid0.Coords) (nu te pv : BitVec 32) :
    k0_cond2 i nu te pv = BitVec.ofBool ((decide ((tl i).val = 0) || decide (te ≠ pv)) && decide (Used nu (tl i))) := by
  unfold k0_cond2; dsimp only; rw [ne_zero_ext, slt_used, eq_first, show (Scalar.cmpi .ne te pv : BitVec 1) = _ from cmpi_ne_eq te pv]
  cases decide ((tl i).val = 0) <;> cases decide (Used nu (tl i)) <;> cases decide (te ≠ pv) <;> rfl
theorem cond3_eq (nx : BitVec 32) : k0_cond3 nx = BitVec.ofBool (decide (0 ≤ nx.toInt)) := by
  unfold k0_cond3; dsimp only; rw [ne_zero_ext]; exact cmpi_sge_eq nx 0#32
theorem cond4_eq (i : grid0.Coords) (nu : BitVec 32) : k0_cond4 i nu = BitVec.ofBool (decide (Used nu (tl i))) := by
  unfold k0_cond4; dsimp only; rw [ne_zero_ext, slt_used]
theorem cond5_eq (i : grid0.Coords) (nu : BitVec 32) : k0_cond5 i nu = BitVec.ofBool (!decide (Used nu (tl i))) := by
  unfold k0_cond5; dsimp only; rw [ne_zero_ext, slt_used]
  cases decide (Used nu (tl i)) <;> rfl

/-! ## The plan -/

/-- The tables name the experts by tile, the next expert, the slot, and the number of tiles in use, in a way the
    kernel's copies can run by: every expert and slot in range; a tile with its predecessor's expert has its predecessor's
    slot and next expert; a tile with another expert has the one its predecessor names next, in the other slot; the last
    tile in use names none next. -/
structure Plan (te nx sl : S160.Idx → BitVec 32) (nu : BitVec 32) : Prop where
  te_lt : ∀ k, (te (ix k)).toNat < 32
  nx_lt : ∀ k, (nx (ix k)).toInt < 32
  sl_lt : ∀ k, (sl (ix k)).toNat < 2
  same : ∀ k, Used nu k → te (ix k) = te (ix (pr k)) → sl (ix k) = sl (ix (pr k)) ∧ nx (ix k) = nx (ix (pr k))
  new : ∀ k, Used nu k → te (ix k) ≠ te (ix (pr k)) → te (ix k) = nx (ix (pr k)) ∧ sl (ix k) = 1#32 - sl (ix (pr k))
  last : ∀ k, Used nu k → (nu.toInt ≤ k.val + 1 ∨ k.val + 1 = 160) → (nx (ix k)).toInt < 0

theorem toNat_of_nonneg {v : BitVec 32} (h0 : 0 ≤ v.toInt) (h : v.toInt < 32) : v.toNat < 32 := by
  rw [BitVec.toInt_eq_toNat_bmod] at *
  have := v.isLt
  rw [Int.bmod_def] at *
  split at h <;> omega
theorem nonneg_of_toNat {v : BitVec 32} (h : v.toNat < 32) : 0 ≤ v.toInt := by
  rw [BitVec.toInt_eq_toNat_of_lt (by omega)]; omega
theorem sOf_sub {v w : BitVec 32} (h : w.toNat < 2) (e : v = 1#32 - w) : sOf v = oth (sOf w) := by
  have := sub_toNat h
  have hv : v.toNat = (oth (sOf w)).val := by rw [e]; exact this
  apply Fin.ext; show v.toNat % 2 = _
  rw [hv]; exact Nat.mod_eq_of_lt (oth (sOf w)).isLt

/-! ## The index maps -/

theorem toInt_maxsi_zero (w : BitVec 32) : 0 ≤ (Scalar.maxsi w 0#32).toInt := by
  show 0 ≤ (if BitVec.slt 0#32 w then w else 0#32 : BitVec 32).toInt
  split
  · rename_i h; rw [BitVec.slt_iff_toInt_lt] at h; exact h.le
  · exact le_rfl

/-- The block of rows staged at a tile is among the tiles up to it, -/
theorem rows_le (k : Fin 160) (w : BitVec 32) : (Scalar.minsi (BitVec.ofNat 32 k.val) (Scalar.maxsi w 0#32)).toNat ≤ k.val := by
  have h0 := toInt_maxsi_zero w
  generalize Scalar.maxsi w 0#32 = y at h0
  show (if BitVec.slt (BitVec.ofNat 32 k.val) y then BitVec.ofNat 32 k.val else y : BitVec 32).toNat ≤ _
  split
  · exact (ofNat_toNat k.isLt).le
  · rename_i h
    rw [BitVec.slt_iff_toInt_lt, ofNat_toInt k.isLt] at h
    have := BitVec.toInt_eq_toNat_cond y
    split at this <;> have := y.isLt <;> omega

/-- and at a tile in use is that tile. -/
theorem rows_eq (k : Fin 160) (nu : BitVec 32) (h : Used nu k) :
    (Scalar.minsi (BitVec.ofNat 32 k.val) (Scalar.maxsi (Scalar.subi nu 1#32) 0#32)).toNat = k.val := by
  have hn : (nu - 1#32).toInt = nu.toInt - 1 := by
    unfold Used at h
    rw [BitVec.toInt_sub, Int.bmod_def]
    have := BitVec.toInt_lt (x := nu)
    have e1 : (1#32).toInt = 1 := by decide
    rw [e1]; norm_num at *; split <;> omega
  have hm : (k.val : ℤ) ≤ (Scalar.maxsi (Scalar.subi nu 1#32) 0#32).toInt := by
    show _ ≤ (if BitVec.slt 0#32 (nu - 1#32) then (nu - 1#32) else 0#32 : BitVec 32).toInt
    unfold Used at h
    split
    · omega
    · rename_i h'
      rw [BitVec.slt_iff_toInt_lt, hn] at h'
      have e0 : (0#32).toInt = 0 := by decide
      rw [e0] at h' ⊢; rw [show (k.val : ℤ) ≤ 0 ↔ (k.val : ℤ) < 1 from Int.lt_add_one_iff.symm]; omega
  generalize Scalar.maxsi (Scalar.subi nu 1#32) 0#32 = y at hm
  show (if BitVec.slt (BitVec.ofNat 32 k.val) y then BitVec.ofNat 32 k.val else y : BitVec 32).toNat = _
  split
  · exact ofNat_toNat k.isLt
  · rename_i h'
    rw [BitVec.slt_iff_toInt_lt, ofNat_toInt k.isLt] at h'
    have := BitVec.toInt_eq_toNat_cond y
    split at this <;> have := y.isLt <;> omega

section Maps
variable (pf : pre0.Contents (Elt F))
/-- The expert table among the prefetched ones, and the number of tiles in use. -/
abbrev pfE : S160.Idx → BitVec 32 := pf 0
abbrev pfN : BitVec 32 := (pf 1 : S1.Idx → BitVec 32) ix0

omit [FloatOps F] in
theorem at0_eq (i : grid0.Coords) (h1) : pf.at 0 (Rect.unit (s := S160) (k0_off1 i) S1.size (k0_off1_inb i)) h1 = pfE pf (ix (tl i)) := by
  refine congrArg (pfE pf) (funext fun a => Fin.ext ?_)
  fin_cases a
  exact (congrFun (off1_eq i) 0)
omit [FloatOps F] in
theorem at1_eq (h1) : pf.at 1 (Rect.unit (s := S1) ![0] S1.size inb_S1_S1_0) h1 = pfN pf := by
  refine congrArg (pf 1 : S1.Idx → BitVec 32) (funext fun a => Fin.ext ?_)
  fin_cases a; rfl

theorem map1_eq (i : grid0.Coords) : cc0_transform_1 k0_off1_inb numel1_S1 pf i = ![(pfE pf (ix (tl i))).toNat, 0, 0] := by
  rw [← at0_eq pf i numel1_S1]; rfl
theorem map2_eq (i : grid0.Coords) : cc0_transform_2 k0_off1_inb numel1_S1 pf i = ![(pfE pf (ix (tl i))).toNat, 0, 0] := map1_eq pf i
theorem map0_eq (i : grid0.Coords) : cc0_transform_0 inb_S1_S1_0 numel1_S1 pf i
    = ![(Scalar.minsi (BitVec.ofNat 32 (tl i).val) (Scalar.maxsi (Scalar.subi (pfN pf) 1#32) 0#32)).toNat, 0] := by
  rw [← at1_eq pf numel1_S1]; rfl
theorem map3_eq (i : grid0.Coords) : cc0_transform_5 i = ![(tl i).val, 0] := by
  unfold cc0_transform_5; dsimp only; rw [ofNat_toNat (i 0).isLt]; rfl

/-- With every expert in range the windows' blocks are inside their arrays. -/
theorem ok_of (h : ∀ k, (pfE pf (ix k)).toNat < 32) : ok0 pf := by
  refine ⟨fun i => ⟨?_, .inr (Affine.block_words_dvd (of_decide_eq_true rfl) (by decide))⟩, fun i => ⟨?_, .inl rfl⟩, fun i => ⟨?_, .inl rfl⟩⟩
  · rw [map0_eq]; intro a
    have := rows_le (tl i) (Scalar.subi (pfN pf) 1#32)
    have := (tl i).isLt
    fin_cases a
    · show ((Scalar.minsi (BitVec.ofNat 32 (tl i).val) (Scalar.maxsi (Scalar.subi (pfN pf) 1#32) 0#32)).toNat + 1) * 512 ≤ 81920; omega
    · show (0 + 1) * 1024 ≤ 1024; omega
  · rw [map1_eq]; intro a
    have := h (tl i)
    fin_cases a
    · show ((pfE pf (ix (tl i))).toNat + 1) * 1 ≤ 32; omega
    · show (0 + 1) * 1 ≤ 1; omega
    · show (0 + 1) * 2048 ≤ 2048; omega
  · rw [map2_eq]; intro a
    have := h (tl i)
    fin_cases a
    · show ((pfE pf (ix (tl i))).toNat + 1) * 1 ≤ 32; omega
    · show (0 + 1) * 1 ≤ 1; omega
    · show (0 + 1) * 1024 ≤ 1024; omega
end Maps

end Cert.Proof.Moe
-- ==== Proof.Moe.Step.lean ====
/-
  What is held between two tiles of the expert kernel, and one tile's body carrying it on.
-/
module

public import proofs.«01_k».proof.Proof.Moe.Plan

@[expose] public section

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section
variable (c : Dev nD) (WG : HbBuf (F := F) c wguM) (WD : HbBuf (F := F) c wdM)
    (te nx sl : S160.Idx → BitVec 32) (nu : BitVec 32)

/-- Nothing under way: the scratch at anything, the two weight arrays whole, both slots at rest. -/
def Quiet : sProp 𝕄 := iprop(AnyCur c ∗ Wts c WG WD ∗ Free c 0 ∗ Free c 1)
/-- What tile `k` leaves under way: the copies of the expert it names next, into the slot it does not use, if it names one. -/
def Ahead (k : Fin 160) : sProp 𝕄 :=
  if 0 ≤ (nx (ix k)).toInt then iprop(Fly c WG WD (oth (sOf (sl (ix k)))) (eOf (nx (ix k))) ∗ Free c (sOf (sl (ix k))))
  else iprop(Wts c WG WD ∗ Free c (sOf (sl (ix k))) ∗ Free c (oth (sOf (sl (ix k)))))
/-- What is held after tile `k`. -/
def After (k : Fin 160) : sProp 𝕄 :=
  if Used nu k then iprop(Cur c WG WD (eOf (te (ix k))) ∗ Ahead c WG WD nx sl k) else Quiet c WG WD
/-- What is held before tile `n`. -/
def Inv : ℕ → sProp 𝕄
  | 0 => Quiet c WG WD
  | n + 1 => if h : n < 160 then After c WG WD te nx sl nu ⟨n, h⟩ else Quiet c WG WD

theorem inv_succ (k : Fin 160) : Inv c WG WD te nx sl nu (k.val + 1) = After c WG WD te nx sl nu k :=
  dif_pos k.isLt

theorem cur_any (e : Fin 32) : (Cur c WG WD e : sProp 𝕄) ⊢ AnyCur c := by
  unfold Cur AnyCur
  iintro ⟨H0, H1⟩
  isplitl [H0]; · iexists _; iexact H0
  iexists _; iexact H1

theorem free_to (s : Fin 2) : (iprop(Free (F := F) c s ∗ Free c (oth s)) : sProp 𝕄) ⊢ iprop(Free c 0 ∗ Free c 1) := by
  fin_cases s
  · exact .rfl
  · show (iprop(Free (F := F) c 1 ∗ Free c 0) : sProp 𝕄) ⊢ _
    iintro ⟨H0, H1⟩
    isplitl [H1]; · iexact H1
    iexact H0
theorem free_from (s : Fin 2) : (iprop(Free (F := F) c 0 ∗ Free c 1) : sProp 𝕄) ⊢ iprop(Free c s ∗ Free c (oth s)) := by
  fin_cases s
  · exact .rfl
  · show _ ⊢ (iprop(Free (F := F) c 1 ∗ Free c 0) : sProp 𝕄)
    iintro ⟨H0, H1⟩
    isplitl [H1]; · iexact H1
    iexact H0

variable {te nx sl nu}

/-- After a tile naming no next expert nothing is under way. -/
theorem after_quiet (k : Fin 160) (h : Used nu k → (nx (ix k)).toInt < 0) : After c WG WD te nx sl nu k ⊢ Quiet c WG WD := by
  unfold After
  split
  · rename_i hu
    unfold Ahead Quiet
    rw [if_neg (by have := h hu; omega)]
    iintro ⟨HC, HW, HF⟩
    isplitl [HC]; · iapply (cur_any c WG WD _); iexact HC
    isplitl [HW]; · iexact HW
    iapply (free_to c _); iexact HF
  · exact .rfl

/-- Before a tile not in use nothing is under way. -/
theorem inv_quiet (hp : Plan te nx sl nu) (k : Fin 160) (h : ¬ Used nu k) : Inv c WG WD te nx sl nu k.val ⊢ Quiet c WG WD := by
  obtain ⟨n, hn⟩ := k
  cases n with
  | zero => exact .rfl
  | succ n =>
    show Inv c WG WD te nx sl nu (n + 1) ⊢ _
    rw [inv_succ c WG WD te nx sl nu ⟨n, by omega⟩]
    refine after_quiet c WG WD _ fun hu => hp.last _ hu (.inl ?_)
    unfold Used at h
    have : nu.toInt ≤ ((n + 1 : ℕ) : ℤ) := not_lt.mp h
    push_cast at this ⊢; exact this

/-- After the last tile nothing is under way. -/
theorem inv_last (hp : Plan te nx sl nu) : Inv c WG WD te nx sl nu 160 ⊢ Quiet c WG WD := by
  show Inv c WG WD te nx sl nu (159 + 1) ⊢ _
  rw [inv_succ c WG WD te nx sl nu ⟨159, by omega⟩]
  exact after_quiet c WG WD _ fun hu => hp.last _ hu (.inr rfl)

end

section
variable (c : Dev nD) (i : grid0.Coords) (arg5 : Memref sig .tc .vmem S512x1024 .bf16) (harg5 : arg5.IsWhole) (arg6 : Memref sig .tc .vmem S1x1x2048 .f32) (harg6 : arg6.IsWhole) (arg7 : Memref sig .tc .vmem S1x1x1024 .f32) (harg7 : arg7.IsWhole) (arg10 : Memref sig .tc .vmem S512x1024 .bf16) (harg10 : arg10.IsWhole)
    (x0 : Vec F S512x1024 .bf16) (x1 : Vec F S1x1x2048 .f32) (x2 : Vec F S1x1x1024 .f32)
    (fE : TbBuf (F := F) c tbE) (fN : TbBuf (F := F) c tbN) (fX : TbBuf (F := F) c tbX) (fS : TbBuf (F := F) c tbS)
    (WG : HbBuf (F := F) c wguM) (WD : HbBuf (F := F) c wdM)
    {te nx sl : S160.Idx → BitVec 32} {nu : BitVec 32}

/-- The block of results tile `k` stores: its expert's output of the block of rows, or zeros past the tiles in use. -/
def outBlk (te : S160.Idx → BitVec 32) (nu : BitVec 32) (k : Fin 160) : Vec F S512x1024 .bf16 :=
  if Used nu k then k0_pay4 x0 (k0_pay2 (wblkG c WG (eOf (te (ix k))))) x1 (k0_pay3 (wblkD c WD (eOf (te (ix k))))) x2 else k0_pay1

/-- One tile's body: from what is held before it to what is held after it, storing its block of results. -/
theorem step (hp : Plan te nx sl nu) (hE : ∀ x, tbE.view.read (Elt F) fE x = te x) (hX : ∀ x, tbX.view.read (Elt F) fX x = nx x)
    (hS : ∀ x, tbS.view.read (Elt F) fS x = sl x) (eN : nuW c fN = nu) :
      ∀ (W : Waits sig Unit) (K : PUnit → sProp 𝕄),
        iprop(tabs c fE fN fX fS ∗ ins c arg5 arg6 arg7 x0 x1 x2 ∗ (∃ d, owns (c : Thread nD τ) arg10 fullShare d)
            ∗ Inv c WG WD te nx sl nu (tl i).val ∗ owes (c : Thread nD τ) 0 W
            ∗ (iprop(tabs c fE fN fX fS ∗ ins c arg5 arg6 arg7 x0 x1 x2 ∗ owns (c : Thread nD τ) arg10 fullShare (outBlk c x0 x1 x2 WG WD te nu (tl i))
                ∗ After c WG WD te nx sl nu (tl i) ∗ (∃ W', owes (c : Thread nD τ) 0 W')) -∗ K ⟨⟩))
          ⊢ wp frame (wpE (defs₀ (F := F)) Variants.none c none) Set.univ (bodyG i arg5 harg5 arg6 harg6 arg7 harg7 arg10 harg10) K := by
  intro W K
  have eE := w160_eq c main_v72 tbE fE te hE (k0_off8_inb i) (off8_eq i)
  have eP := w160_eq c main_v72 tbE fE te hE (k0_off9_inb i) (off9_eq i)
  have eS := w160_eq c main_v110 tbS fS sl hS (k0_off10_inb i) (off10_eq i)
  have eX := w160_eq c main_v101 tbX fX nx hX (k0_off19_inb i) (off19_eq i)
  have hte := hp.te_lt (tl i)
  have hsl := hp.sl_lt (tl i)
  by_cases hu : Used nu (tl i)
  swap
  · have hA : After c WG WD te nx sl nu (tl i) = Quiet c WG WD := if_neg hu
    have hB : outBlk c x0 x1 x2 WG WD te nu (tl i) = k0_pay1 := if_neg hu
    rw [hA, hB]
    iintro ⟨HT, HI, HO, HV, HW, Hk⟩
    iapply (bodyD c i arg5 harg5 arg6 harg6 arg7 harg7 arg10 harg10 fE fN fX fS eN eE eP
      (by rw [cond1_eq]; simp [hu]) (by rw [cond2_eq]; simp [hu]) (by rw [cond4_eq]; simp [hu]) (by rw [cond5_eq]; simp [hu]) W K)
    isplitl [HT]; · iexact HT
    isplitl [HO]; · iexact HO
    isplitl [HW]; · iexact HW
    iintro ⟨HT, HO, HW⟩
    iapply Hk
    isplitl [HT]; · iexact HT
    isplitl [HI]; · iexact HI
    isplitl [HO]; · iexact HO
    isplitl [HV]; · iapply (inv_quiet c WG WD hp (tl i) hu); iexact HV
    iexact HW
  have hA : After c WG WD te nx sl nu (tl i) = iprop(Cur c WG WD (eOf (te (ix (tl i)))) ∗ Ahead c WG WD nx sl (tl i)) := if_pos hu
  have hB : outBlk c x0 x1 x2 WG WD te nu (tl i) = k0_pay4 x0 (k0_pay2 (wblkG c WG (eOf (te (ix (tl i)))))) x1 (k0_pay3 (wblkD c WD (eOf (te (ix (tl i)))))) x2 := if_pos hu
  have h4 : k0_cond4 i nu = 1#1 := by rw [cond4_eq]; simp [hu]
  have h5 : ¬ k0_cond5 i nu = 1#1 := by rw [cond5_eq]; simp [hu]
  rw [hA, hB]
  by_cases h0 : (tl i).val = 0
  · -- the first tile
    have h1 : k0_cond1 i nu = 1#1 := by rw [cond1_eq]; simp [hu, h0]
    have h2 : k0_cond2 i nu (te (ix (tl i))) (te (ix (pr (tl i)))) = 1#1 := by rw [cond2_eq]; simp [hu, h0]
    have e0 : (![0] : Fin 1 → ℕ) = ![(tl i).val] := by rw [h0]
    have eE0 := w160_eq c main_v72 tbE fE te hE inb_S160_S1_0 e0
    have eS0 := w160_eq c main_v110 tbS fS sl hS inb_S160_S1_0 e0
    rw [h0]
    unfold Inv Quiet
    by_cases h3 : 0 ≤ (nx (ix (tl i))).toInt
    · have hc3 : k0_cond3 (nx (ix (tl i))) = 1#1 := by rw [cond3_eq]; simp [h3]
      unfold Ahead; rw [if_pos h3]
      iintro ⟨HT, HI, HO, ⟨HV, HG, HF⟩, HW, Hk⟩
      ihave HF := (free_from c (sOf (sl (ix (tl i))))) $$ HF
      icases HF with ⟨HF0, HF1⟩
      iapply (bodyAX c i arg5 harg5 arg6 harg6 arg7 harg7 arg10 harg10 x0 x1 x2 fE fN fX fS WG WD eN eE eP eS eX eE0 eS0 hte hsl
        (toNat_of_nonneg h3 (hp.nx_lt _)) h1 h2 hc3 h4 h5 W K)
      isplitl [HT]; · iexact HT
      isplitl [HI]; · iexact HI
      isplitl [HO]; · iexact HO
      isplitl [HV]; · iexact HV
      isplitl [HG]; · iexact HG
      isplitl [HF0]; · iexact HF0
      isplitl [HF1]; · iexact HF1
      isplitl [HW]; · iexact HW
      iintro ⟨HT, HI, HO, HV, HF, HE, HW⟩
      iapply Hk
      isplitl [HT]; · iexact HT
      isplitl [HI]; · iexact HI
      isplitl [HO]; · iexact HO
      isplitl [HV HF HE]
      · isplitl [HV]; · iexact HV
        isplitl [HF]; · iexact HF
        iexact HE
      iexact HW
    · have hc3 : ¬ k0_cond3 (nx (ix (tl i))) = 1#1 := by rw [cond3_eq]; simp [h3]
      unfold Ahead; rw [if_neg h3]
      iintro ⟨HT, HI, HO, ⟨HV, HG, HF⟩, HW, Hk⟩
      ihave HF := (free_from c (sOf (sl (ix (tl i))))) $$ HF
      icases HF with ⟨HF0, HF1⟩
      iapply (bodyAQ c i arg5 harg5 arg6 harg6 arg7 harg7 arg10 harg10 x0 x1 x2 fE fN fX fS WG WD eN eE eP eS eX eE0 eS0 hte hsl
        h1 h2 hc3 h4 h5 W K)
      isplitl [HT]; · iexact HT
      isplitl [HI]; · iexact HI
      isplitl [HO]; · iexact HO
      isplitl [HV]; · iexact HV
      isplitl [HG]; · iexact HG
      isplitl [HF0]; · iexact HF0
      isplitl [HF1]; · iexact HF1
      isplitl [HW]; · iexact HW
      iintro ⟨HT, HI, HO, HV, HF, HE, HE', HW⟩
      iapply Hk
      isplitl [HT]; · iexact HT
      isplitl [HI]; · iexact HI
      isplitl [HO]; · iexact HO
      isplitl [HV HF HE HE']
      · isplitl [HV]; · iexact HV
        isplitl [HF]; · iexact HF
        isplitl [HE]; · iexact HE
        iexact HE'
      iexact HW
  -- a later tile: its predecessor is in use too
  have h1 : ¬ k0_cond1 i nu = 1#1 := by rw [cond1_eq]; simp [h0]
  have hup : Used nu (pr (tl i)) := by unfold Used pr at *; simp only; omega
  have hI : Inv c WG WD te nx sl nu (tl i).val = iprop(Cur c WG WD (eOf (te (ix (pr (tl i))))) ∗ Ahead c WG WD nx sl (pr (tl i))) := by
    have hv : (tl i).val = (pr (tl i)).val + 1 := by unfold pr; simp only; omega
    rw [hv, inv_succ c WG WD te nx sl nu (pr (tl i))]
    exact if_pos hup
  rw [hI]
  by_cases hs : te (ix (tl i)) = te (ix (pr (tl i)))
  · -- the same expert
    have h2 : ¬ k0_cond2 i nu (te (ix (tl i))) (te (ix (pr (tl i)))) = 1#1 := by rw [cond2_eq]; simp [h0, hs]
    obtain ⟨es, ex⟩ := hp.same _ hu hs
    have hah : Ahead c WG WD nx sl (tl i) = Ahead c WG WD nx sl (pr (tl i)) := by unfold Ahead; rw [es, ex]
    rw [hah, ← hs]
    unfold Cur
    iintro ⟨HT, HI, HO, ⟨⟨HG, HD⟩, HF⟩, HW, Hk⟩
    iapply (bodyC c i arg5 harg5 arg6 harg6 arg7 harg7 arg10 harg10 x0 x1 x2 fE fN fX fS eN eE eP h1 h2 h4 h5 _ _ W K)
    isplitl [HT]; · iexact HT
    isplitl [HI]; · iexact HI
    isplitl [HO]; · iexact HO
    isplitl [HG]; · iexact HG
    isplitl [HD]; · iexact HD
    isplitl [HW]; · iexact HW
    iintro ⟨HT, HI, HO, HG, HD, HW⟩
    iapply Hk
    isplitl [HT]; · iexact HT
    isplitl [HI]; · iexact HI
    isplitl [HO]; · iexact HO
    isplitl [HG HD HF]
    · isplitl [HG HD]
      · isplitl [HG]; · iexact HG
        iexact HD
      iexact HF
    iexact HW
  · -- another expert: its copies are the ones under way
    have h2 : k0_cond2 i nu (te (ix (tl i))) (te (ix (pr (tl i)))) = 1#1 := by rw [cond2_eq]; simp [hu, hs]
    obtain ⟨ex, es⟩ := hp.new _ hu hs
    have hso : sOf (sl (ix (tl i))) = oth (sOf (sl (ix (pr (tl i))))) := sOf_sub (hp.sl_lt _) es
    have hah : Ahead c WG WD nx sl (pr (tl i)) = iprop(Fly c WG WD (sOf (sl (ix (tl i)))) (eOf (te (ix (tl i)))) ∗ Free c (oth (sOf (sl (ix (tl i)))))) := by
      unfold Ahead
      rw [if_pos (by rw [← ex]; exact nonneg_of_toNat hte), ← ex, hso, oth_oth]
    rw [hah]
    by_cases h3 : 0 ≤ (nx (ix (tl i))).toInt
    · have hc3 : k0_cond3 (nx (ix (tl i))) = 1#1 := by rw [cond3_eq]; simp [h3]
      unfold Ahead; rw [if_pos h3]
      iintro ⟨HT, HI, HO, ⟨HV, HG, HF⟩, HW, Hk⟩
      ihave HV := (cur_any c WG WD _) $$ HV
      iapply (bodyBX c i arg5 harg5 arg6 harg6 arg7 harg7 arg10 harg10 x0 x1 x2 fE fN fX fS WG WD eN eE eP eS eX hte hsl
        (toNat_of_nonneg h3 (hp.nx_lt _)) h1 h2 hc3 h4 h5 W K)
      isplitl [HT]; · iexact HT
      isplitl [HI]; · iexact HI
      isplitl [HO]; · iexact HO
      isplitl [HV]; · iexact HV
      isplitl [HG]; · iexact HG
      isplitl [HF]; · iexact HF
      isplitl [HW]; · iexact HW
      iintro ⟨HT, HI, HO, HV, HF, HE, HW⟩
      iapply Hk
      isplitl [HT]; · iexact HT
      isplitl [HI]; · iexact HI
      isplitl [HO]; · iexact HO
      isplitl [HV HF HE]
      · isplitl [HV]; · iexact HV
        isplitl [HF]; · iexact HF
        iexact HE
      iexact HW
    · have hc3 : ¬ k0_cond3 (nx (ix (tl i))) = 1#1 := by rw [cond3_eq]; simp [h3]
      unfold Ahead; rw [if_neg h3]
      iintro ⟨HT, HI, HO, ⟨HV, HG, HF⟩, HW, Hk⟩
      ihave HV := (cur_any c WG WD _) $$ HV
      iapply (bodyBQ c i arg5 harg5 arg6 harg6 arg7 harg7 arg10 harg10 x0 x1 x2 fE fN fX fS WG WD eN eE eP eS eX hte hsl
        h1 h2 hc3 h4 h5 W K)
      isplitl [HT]; · iexact HT
      isplitl [HI]; · iexact HI
      isplitl [HO]; · iexact HO
      isplitl [HV]; · iexact HV
      isplitl [HG]; · iexact HG
      isplitl [HF]; · iexact HF
      isplitl [HW]; · iexact HW
      iintro ⟨HT, HI, HO, HV, HF, HE, HE', HW⟩
      iapply Hk
      isplitl [HT]; · iexact HT
      isplitl [HI]; · iexact HI
      isplitl [HO]; · iexact HO
      isplitl [HV HF HE HE']
      · isplitl [HV]; · iexact HV
        isplitl [HF]; · iexact HF
        isplitl [HE]; · iexact HE
        iexact HE'
      iexact HW
end

end Cert.Proof.Moe
-- ==== Proof.Route.Terms.lean ====
/-
  The host lines of the routing, stage by stage: each stage as one term over the stages it reads, and the contents the lines
  leave as those terms.
-/
module

public import proofs.«01_k».proof.Proof.Gen.KernelIdeal.Launch
public import Idealize.ShloMosaic.Lib.Routing.Model
public import Idealize.ShloMosaic.Lib.Routing.OpsSearch
public import Idealize.ShloMosaic.Lib.StableHlo.RunRead

@[expose] public section

set_option maxRecDepth 16384

noncomputable section

namespace Cert.Proof.Route

open Cert.KernelIdeal Cert.KernelIdeal.Gen
open Idealize.ShloMosaic
open Idealize.ShloMosaic.TcCoe Idealize.ShloMosaic.Tactic

/-! ## The stages -/

/-- How many assignments name each expert. -/
def counts (fe : IVec S65536 32) : IVec S32 32 :=
  Host.reduce IntOp.addi (extui 32 (cmpi .eq (broadcastInDim S65536x32 ![0, 1] bcast_S65536x1_S65536x32_0_1 (broadcastInDim S65536x1 ![0] bcast_S65536_S65536x1_0 fe))
    (broadcastInDim S65536x32 ![0, 1] bcast_S1x32_S65536x32_0_1 (iotaInDim S1x32 32 1))) natLt_1_32) (constantI S_ 32 0#32) reducesTo_S65536x32_S32_d0 h_S_

/-- The counts rounded up to whole tiles. -/
def padded (ct : IVec S32 32) : IVec S32 32 :=
  muli (Routing.pyDiv bcast_S_S32 (subi (addi ct (broadcastInDim S32 ![] bcast_S_S32 (constantI S_ 32 512#32))) (broadcastInDim S32 ![] bcast_S_S32 (constantI S_ 32 1#32)))
    (constantI S_ 32 512#32)) (broadcastInDim S32 ![] bcast_S_S32 (constantI S_ 32 512#32))

/-- A running sum over the experts. -/
def running (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- The expert each filling row counts for. -/
def fillE (fc : IVec S32 32) : IVec S16384 32 :=
  Host.reduce IntOp.addi (extui 32 (cmpi .sge (broadcastInDim S16384x32 ![0, 1] bcast_S16384x1_S16384x32_0_1 (broadcastInDim S16384x1 ![0] bcast_S16384_S16384x1_0 (iotaInDim S16384 32 0)))
    (broadcastInDim S16384x32 ![0, 1] bcast_S1x32_S16384x32_0_1 (broadcastInDim S1x32 ![1] bcast_S32_S1x32_1 fc))) natLt_1_32) (constantI S_ 32 0#32) reducesTo_S16384x32_S16384_d1 h_S_

/-- The keys: expert first, row after. -/
def keys (fe : IVec S65536 32) (fl : IVec S16384 32) : IVec S81920 32 :=
  ori (Host.shli (concatenate S81920 0 [⟨S65536, fe⟩, ⟨S16384, fl⟩] concatenates_S65536_S16384_S81920_d0) (broadcastInDim S81920 ![] bcast_S_S81920 (constantI S_ 32 17#32)))
    (iotaInDim S81920 32 0)

/-- The row each sorted place comes from. -/
def origin (ks : IVec S81920 32) : IVec S81920 32 :=
  andi (Host.sort S81920 0 comparator_i32_d0 ks) (broadcastInDim S81920 ![] bcast_S_S81920 (constantI S_ 32 131071#32))

/-- The token each sorted place reads. -/
def token (og : IVec S81920 32) : IVec S81920 32 :=
  select (cmpi .slt og (broadcastInDim S81920 ![] bcast_S_S81920 (constantI S_ 32 65536#32)))
    (Routing.pyDiv bcast_S_S81920 og (constantI S_ 32 4#32))
    (Routing.pyRem bcast_S_S81920 (subi og (broadcastInDim S81920 ![] bcast_S_S81920 (constantI S_ 32 65536#32))) (constantI S_ 32 16384#32))

/-- The place each assignment's row is sorted to. -/
def places (og : IVec S81920 32) : IVec S16384x4 32 :=
  shapeCast S16384x4 (extractStridedSlice S65536 ![0] (Host.sort2 S81920 0 comparator_i32_i32_d0 og (iotaInDim S81920 32 0)).2 slices_S81920_S65536_0) shapeCasts_S65536_S16384x4

/-- The rows of all experts together. -/
def total (pe : IVec S32 32) : IVec S_ 32 :=
  shapeCast S_ (extractStridedSlice S1 ![31] pe slices_S32_S1_31) shapeCasts_S1_S_

/-- The tiles in use. -/
def tilesUsed (pe : IVec S32 32) : IVec S1 32 := shapeCast S1 (Routing.pyDiv0 (total pe) (constantI S_ 32 512#32)) shapeCasts_S_S1

/-- Each tile's expert. -/
def tileE (pe : IVec S32 32) : IVec S160 32 :=
  minsi (Host.reduce IntOp.addi (extui 32 (cmpi .sge (broadcastInDim S160x32 ![0, 1] bcast_S160x1_S160x32_0_1 (broadcastInDim S160x1 ![0] bcast_S160_S160x1_0
      (muli (iotaInDim S160 32 0) (broadcastInDim S160 ![] bcast_S_S160 (constantI S_ 32 512#32)))))
    (broadcastInDim S160x32 ![0, 1] bcast_S1x32_S160x32_0_1 (broadcastInDim S1x32 ![1] bcast_S32_S1x32_1 pe))) natLt_1_32) (constantI S_ 32 0#32) reducesTo_S160x32_S160_d1 h_S_)
  (broadcastInDim S160 ![] bcast_S_S160 (Host.reduce IntOp.addi (extui 32 (cmpi .sge (broadcastInDim S32 ![] bcast_S_S32 (subi (total pe) (constantI S_ 32 1#32))) pe) natLt_1_32)
    (constantI S_ 32 0#32) reducesTo_S32_S_d0 h_S_))

/-- Which experts have rows. -/
def some? (ct : IVec S32 32) : IVec S32 1 := cmpi .sgt ct (broadcastInDim S32 ![] bcast_S_S32 (constantI S_ 32 0#32))

/-- The later experts that have rows, 32 for the others. -/
def laters (ct : IVec S32 32) : IVec S32x32 32 :=
  select (andi (broadcastInDim S32x32 ![0, 1] bcast_S1x32_S32x32_0_1 (broadcastInDim S1x32 ![1] bcast_S32_S1x32_1 (some? ct)))
      (cmpi .sgt (broadcastInDim S32x32 ![0, 1] bcast_S1x32_S32x32_0_1 (broadcastInDim S1x32 ![1] bcast_S32_S1x32_1 (iotaInDim S32 32 0)))
        (broadcastInDim S32x32 ![0, 1] bcast_S32x1_S32x32_0_1 (broadcastInDim S32x1 ![0] bcast_S32_S32x1_0 (iotaInDim S32 32 0)))))
    (broadcastInDim S32x32 ![0, 1] bcast_S1x32_S32x32_0_1 (broadcastInDim S1x32 ![1] bcast_S32_S1x32_1 (iotaInDim S32 32 0)))
    (broadcastInDim S32x32 ![] bcast_S_S32x32 (constantI S_ 32 32#32))

/-- The first later expert that has rows, 32 where there is none. -/
def nextRaw (ct : IVec S32 32) : IVec S32 32 :=
  Host.reduce IntOp.minsi (laters ct) (constantI S_ 32 2147483647#32) reducesTo_S32x32_S32_d1 h_S_

/-- … and the word of minus one where there is none. -/
def nextE (ct : IVec S32 32) : IVec S32 32 :=
  select (cmpi .slt (nextRaw ct) (broadcastInDim S32 ![] bcast_S_S32 (constantI S_ 32 32#32))) (nextRaw ct) (broadcastInDim S32 ![] bcast_S_S32 (constantI S_ 32 4294967295#32))

/-- How many experts with rows come before, one less than up to and including. -/
def ordinal (ct : IVec S32 32) : IVec S32 32 :=
  subi (running (extui 32 (some? ct) natLt_1_32)) (broadcastInDim S32 ![] bcast_S_S32 (constantI S_ 32 1#32))

/-- An entry of a table of experts by tile. -/
def byTile (x : IVec S32 32) (te : IVec S160 32) : IVec S160 32 :=
  Host.gather gather_S32_S160x1_S160_n_0_n_n_0_1_1 x (broadcastInDim S160x1 ![0] bcast_S160_S160x1_0
    (select (cmpi .slt te (broadcastInDim S160 ![] bcast_S_S160 (constantI S_ 32 0#32))) (addi te (broadcastInDim S160 ![] bcast_S_S160 (constantI S_ 32 32#32))) te))

/-- Each tile's slot. -/
def slotT (ct : IVec S32 32) (te : IVec S160 32) : IVec S160 32 :=
  andi (byTile (ordinal ct) te) (broadcastInDim S160 ![] bcast_S_S160 (constantI S_ 32 1#32))

/-- The rows of the tokens, gathered. -/
def rows {F : FTy → Type} (h2 : Vec F S2x8x2048x1024 .bf16) (tk : IVec S81920 32) : Vec F S81920x1024 .bf16 :=
  Host.gather gather_S32768x1024_S81920x1_S81920x1024_1_0_n_n_0_1_11024 (shapeCast S32768x1024 h2 shapeCasts_S2x8x2048x1024_S32768x1024) (broadcastInDim S81920x1 ![0] bcast_S81920_S81920x1_0
    (select (cmpi .slt tk (broadcastInDim S81920 ![] bcast_S_S81920 (constantI S_ 32 0#32))) (addi tk (broadcastInDim S81920 ![] bcast_S_S81920 (constantI S_ 32 32768#32))) tk))

/-- The assignments' rows read back, pick by pick. -/
def back {F : FTy → Type} (ys : Vec F S81920x1024 .bf16) (pl : IVec S16384x4 32) : Vec F S4x8x2048x1024 .bf16 :=
  let q := shapeCast S65536 (transpose S4x16384 [1, 0] pl transposes_S16384x4_S4x16384_1_0) shapeCasts_S4x16384_S65536
  shapeCast S4x8x2048x1024 (Host.gather gather_S81920x1024_S65536x1_S65536x1024_1_0_n_n_0_1_11024 ys (broadcastInDim S65536x1 ![0] bcast_S65536_S65536x1_0
    (select (cmpi .slt q (broadcastInDim S65536 ![] bcast_S_S65536 (constantI S_ 32 0#32))) (addi q (broadcastInDim S65536 ![] bcast_S_S65536 (constantI S_ 32 81920#32))) q)))
    shapeCasts_S65536x1024_S4x8x2048x1024

/-! ## The lines, piece by piece -/

attribute [local irreducible] Host.reduceWindow Host.reduce Host.sort Host.sort2 Host.gather concatenate broadcastInDim shapeCast extractStridedSlice

variable {F : FTy → Type} [FloatOps F] (W : Valuation τ sig (Elt F))

theorem at_v11 : StableHlo.after hostOps0 W main_v11 = shapeCast S65536 (Host.topK S16384x4 1 (FloatOps.cmpfTotal .gt) (W main_arg1 : FVec F S16384x32 .f32) sliceFits_S16384x32_S16384x4).2 shapeCasts_S16384x4_S65536 := by
  after_reads_simp <;> (try simp only [StableHlo.TRef.ofBuf_toBuf]) <;> rfl
theorem at_v12 : StableHlo.after hostOps0_1 W main_v12 = extui 32 (cmpi .eq (broadcastInDim S65536x32 ![0, 1] bcast_S65536x1_S65536x32_0_1 (broadcastInDim S65536x1 ![0] bcast_S65536_S65536x1_0 (W main_v11 : IVec S65536 32)))
    (broadcastInDim S65536x32 ![0, 1] bcast_S1x32_S65536x32_0_1 (iotaInDim S1x32 32 1))) natLt_1_32 := by
  after_reads_simp <;> (try simp only [StableHlo.TRef.ofBuf_toBuf]) <;> rfl
theorem at_v13 : StableHlo.after hostOps0_2 W main_v13 = Host.reduce IntOp.addi (W main_v12 : IVec S65536x32 32) (constantI S_ 32 0#32) reducesTo_S65536x32_S32_d0 h_S_ := by
  after_reads_simp <;> (try simp only [StableHlo.TRef.ofBuf_toBuf]) <;> rfl
theorem at_v17 : StableHlo.after hostOps0_2 W main_v17 = subi (addi (Host.reduce IntOp.addi (W main_v12 : IVec S65536x32 32) (constantI S_ 32 0#32) reducesTo_S65536x32_S32_d0 h_S_) (broadcastInDim S32 ![] bcast_S_S32 (constantI S_ 32 512#32))) (broadcastInDim S32 ![] bcast_S_S32 (constantI S_ 32 1#32)) := by
  after_reads_simp <;> (try simp only [StableHlo.TRef.ofBuf_toBuf]) <;> rfl
theorem at_c4 : StableHlo.after hostOps0_2 W main_c_4 = constantI S_ 32 512#32 := by
  after_reads_simp <;> (try simp only [StableHlo.TRef.ofBuf_toBuf]) <;> rfl
theorem at_v18 : StableHlo.after hostOps0_3 W main_v18 = Routing.pyDiv bcast_S_S32 (W main_v17 : IVec S32 32) (W main_c_4 : IVec S_ 32) := by
  after_reads_simp <;> (try simp only [StableHlo.TRef.ofBuf_toBuf]) <;> rfl
theorem at_v20 : StableHlo.after hostOps0_4 W main_v20 = muli (W main_v18 : IVec S32 32) (broadcastInDim S32 ![] bcast_S_S32 (constantI S_ 32 512#32)) := by
  after_reads_simp <;> (try simp only [StableHlo.TRef.ofBuf_toBuf]) <;> rfl
theorem at_v21 : StableHlo.after hostOps0_5 W main_v21 = running (W main_v20 : IVec S32 32) := by
  after_reads_simp <;> (try simp only [StableHlo.TRef.ofBuf_toBuf]) <;> rfl
theorem at_v23 : StableHlo.after hostOps0_6 W main_v23 = broadcastInDim S16384x1 ![0] bcast_S16384_S16384x1_0 (iotaInDim S16384 32 0) := by
  after_reads_simp <;> (try simp only [StableHlo.TRef.ofBuf_toBuf]) <;> rfl
theorem at_v24 : StableHlo.after hostOps0_6 W main_v24 = subi (W main_v20 : IVec S32 32) (W main_v13 : IVec S32 32) := by
  after_reads_simp <;> (try simp only [StableHlo.TRef.ofBuf_toBuf]) <;> rfl
theorem at_v25 : StableHlo.after hostOps0_7 W main_v25 = running (W main_v24 : IVec S32 32) := by
  after_reads_simp <;> (try simp only [StableHlo.TRef.ofBuf_toBuf]) <;> rfl
theorem at_v39 : StableHlo.after hostOps0_8 W main_v39 = origin (keys (W main_v11 : IVec S65536 32) (Host.reduce IntOp.addi (extui 32 (cmpi .sge (broadcastInDim S16384x32 ![0, 1] bcast_S16384x1_S16384x32_0_1 (W main_v23 : IVec S16384x1 32))
    (broadcastInDim S16384x32 ![0, 1] bcast_S1x32_S16384x32_0_1 (broadcastInDim S1x32 ![1] bcast_S32_S1x32_1 (W main_v25 : IVec S32 32)))) natLt_1_32) (constantI S_ 32 0#32) reducesTo_S16384x32_S16384_d1 h_S_)) := by
  after_reads_simp <;> (try simp only [StableHlo.TRef.ofBuf_toBuf]) <;> rfl
theorem at_v41 : StableHlo.after hostOps0_8 W main_v41 = cmpi .slt (origin (keys (W main_v11 : IVec S65536 32) (Host.reduce IntOp.addi (extui 32 (cmpi .sge (broadcastInDim S16384x32 ![0, 1] bcast_S16384x1_S16384x32_0_1 (W main_v23 : IVec S16384x1 32))
    (broadcastInDim S16384x32 ![0, 1] bcast_S1x32_S16384x32_0_1 (broadcastInDim S1x32 ![1] bcast_S32_S1x32_1 (W main_v25 : IVec S32 32)))) natLt_1_32) (constantI S_ 32 0#32) reducesTo_S16384x32_S16384_d1 h_S_))) (broadcastInDim S81920 ![] bcast_S_S81920 (constantI S_ 32 65536#32)) := by
  after_reads_simp <;> (try simp only [StableHlo.TRef.ofBuf_toBuf]) <;> rfl
theorem at_c10 : StableHlo.after hostOps0_8 W main_c_10 = constantI S_ 32 4#32 := by
  after_reads_simp <;> (try simp only [StableHlo.TRef.ofBuf_toBuf]) <;> rfl
theorem at_v42 : StableHlo.after hostOps0_9 W main_v42 = Routing.pyDiv bcast_S_S81920 (W main_v39 : IVec S81920 32) (W main_c_10 : IVec S_ 32) := by
  after_reads_simp <;> (try simp only [StableHlo.TRef.ofBuf_toBuf]) <;> rfl
theorem at_v44 : StableHlo.after hostOps0_10 W main_v44 = subi (W main_v39 : IVec S81920 32) (broadcastInDim S81920 ![] bcast_S_S81920 (constantI S_ 32 65536#32)) := by
  after_reads_simp <;> (try simp only [StableHlo.TRef.ofBuf_toBuf]) <;> rfl
theorem at_c12 : StableHlo.after hostOps0_10 W main_c_12 = constantI S_ 32 16384#32 := by
  after_reads_simp <;> (try simp only [StableHlo.TRef.ofBuf_toBuf]) <;> rfl
theorem at_v45 : StableHlo.after hostOps0_11 W main_v45 = Routing.pyRem bcast_S_S81920 (W main_v44 : IVec S81920 32) (W main_c_12 : IVec S_ 32) := by
  after_reads_simp <;> (try simp only [StableHlo.TRef.ofBuf_toBuf]) <;> rfl
theorem at_v46 : StableHlo.after hostOps0_12 W main_v46 = select (W main_v41 : IVec S81920 1) (W main_v42 : IVec S81920 32) (W main_v45 : IVec S81920 32) := by
  after_reads_simp <;> (try simp only [StableHlo.TRef.ofBuf_toBuf]) <;> rfl
theorem at_v50 : StableHlo.after hostOps0_13 W main_v50 = places (W main_v39 : IVec S81920 32) := by
  after_reads_simp <;> (try simp only [StableHlo.TRef.ofBuf_toBuf]) <;> rfl
theorem at_v52 : StableHlo.after hostOps0_13 W main_v52 = total (W main_v21 : IVec S32 32) := by
  after_reads_simp <;> (try simp only [StableHlo.TRef.ofBuf_toBuf]) <;> rfl
theorem at_c13 : StableHlo.after hostOps0_13 W main_c_13 = constantI S_ 32 512#32 := by
  after_reads_simp <;> (try simp only [StableHlo.TRef.ofBuf_toBuf]) <;> rfl
theorem at_v53 : StableHlo.after hostOps0_14 W main_v53 = Routing.pyDiv0 (W main_v52 : IVec S_ 32) (W main_c_13 : IVec S_ 32) := by
  after_reads_simp <;> (try simp only [StableHlo.TRef.ofBuf_toBuf]) <;> rfl
theorem at_v72 : StableHlo.after hostOps0_15 W main_v72 = tileE (W main_v21 : IVec S32 32) := by
  after_reads_simp <;> (try simp only [StableHlo.TRef.ofBuf_toBuf]) <;> rfl
theorem at_v74 : StableHlo.after hostOps0_15 W main_v74 = some? (W main_v13 : IVec S32 32) := by
  after_reads_simp <;> (try simp only [StableHlo.TRef.ofBuf_toBuf]) <;> rfl
theorem at_v83 : StableHlo.after hostOps0_15 W main_v83 = andi (broadcastInDim S32x32 ![0, 1] bcast_S1x32_S32x32_0_1 (broadcastInDim S1x32 ![1] bcast_S32_S1x32_1 (some? (W main_v13 : IVec S32 32))))
      (cmpi .sgt (broadcastInDim S32x32 ![0, 1] bcast_S1x32_S32x32_0_1 (broadcastInDim S1x32 ![1] bcast_S32_S1x32_1 (iotaInDim S32 32 0)))
        (broadcastInDim S32x32 ![0, 1] bcast_S32x1_S32x32_0_1 (broadcastInDim S32x1 ![0] bcast_S32_S32x1_0 (iotaInDim S32 32 0)))) := by
  after_reads_simp <;> (try simp only [StableHlo.TRef.ofBuf_toBuf]) <;> rfl
theorem at_v84 : StableHlo.after hostOps0_15 W main_v84 = broadcastInDim S1x32 ![1] bcast_S32_S1x32_1 (iotaInDim S32 32 0) := by
  after_reads_simp <;> (try simp only [StableHlo.TRef.ofBuf_toBuf]) <;> rfl
theorem at_c19 : StableHlo.after hostOps0_15 W main_c_19 = constantI S_ 32 32#32 := by
  after_reads_simp <;> (try simp only [StableHlo.TRef.ofBuf_toBuf]) <;> rfl
theorem at_v85 : StableHlo.after hostOps0_16 W main_v85 = select (W main_v83 : IVec S32x32 1) (broadcastInDim S32x32 ![0, 1] bcast_S1x32_S32x32_0_1 (W main_v84 : IVec S1x32 32)) (broadcastInDim S32x32 ![] bcast_S_S32x32 (W main_c_19 : IVec S_ 32)) := by
  after_reads_simp <;> (try simp only [StableHlo.TRef.ofBuf_toBuf]) <;> rfl
theorem at_v86 : StableHlo.after hostOps0_17 W main_v86 = Host.reduce IntOp.minsi (W main_v85 : IVec S32x32 32) (constantI S_ 32 2147483647#32) reducesTo_S32x32_S32_d1 h_S_ := by
  after_reads_simp <;> (try simp only [StableHlo.TRef.ofBuf_toBuf]) <;> rfl
theorem at_v88 : StableHlo.after hostOps0_17 W main_v88 = cmpi .slt (Host.reduce IntOp.minsi (W main_v85 : IVec S32x32 32) (constantI S_ 32 2147483647#32) reducesTo_S32x32_S32_d1 h_S_) (broadcastInDim S32 ![] bcast_S_S32 (constantI S_ 32 32#32)) := by
  after_reads_simp <;> (try simp only [StableHlo.TRef.ofBuf_toBuf]) <;> rfl
theorem at_c22 : StableHlo.after hostOps0_17 W main_c_22 = constantI S_ 32 4294967295#32 := by
  after_reads_simp <;> (try simp only [StableHlo.TRef.ofBuf_toBuf]) <;> rfl
theorem at_v89 : StableHlo.after hostOps0_18 W main_v89 = select (W main_v88 : IVec S32 1) (W main_v86 : IVec S32 32) (broadcastInDim S32 ![] bcast_S_S32 (W main_c_22 : IVec S_ 32)) := by
  after_reads_simp <;> (try simp only [StableHlo.TRef.ofBuf_toBuf]) <;> rfl
theorem at_v90 : StableHlo.after hostOps0_19 W main_v90 = extui 32 (W main_v74 : IVec S32 1) natLt_1_32 := by
  after_reads_simp <;> (try simp only [StableHlo.TRef.ofBuf_toBuf]) <;> rfl
theorem at_v91 : StableHlo.after hostOps0_20 W main_v91 = running (W main_v90 : IVec S32 32) := by
  after_reads_simp <;> (try simp only [StableHlo.TRef.ofBuf_toBuf]) <;> rfl
theorem at_v94 : StableHlo.after hostOps0_21 W main_v94 = shapeCast S1 (W main_v53 : IVec S_ 32) shapeCasts_S_S1 := by
  after_reads_simp <;> (try simp only [StableHlo.TRef.ofBuf_toBuf]) <;> rfl
theorem at_v101 : StableHlo.after hostOps0_21 W main_v101 = byTile (W main_v89 : IVec S32 32) (W main_v72 : IVec S160 32) := by
  after_reads_simp <;> (try simp only [StableHlo.TRef.ofBuf_toBuf]) <;> rfl
theorem at_v110 : StableHlo.after hostOps0_21 W main_v110 = andi (byTile (subi (W main_v91 : IVec S32 32) (broadcastInDim S32 ![] bcast_S_S32 (constantI S_ 32 1#32))) (W main_v72 : IVec S160 32)) (broadcastInDim S160 ![] bcast_S_S160 (constantI S_ 32 1#32)) := by
  after_reads_simp <;> (try simp only [StableHlo.TRef.ofBuf_toBuf]) <;> rfl
theorem at_v118 : StableHlo.after hostOps0_21 W main_v118 = rows (F := F) (W main_arg0 : Vec F S2x8x2048x1024 .bf16) (W main_v46 : IVec S81920 32) := by
  after_reads_simp <;> (try simp only [StableHlo.TRef.ofBuf_toBuf]) <;> rfl
theorem at_v119 : StableHlo.after hostOps0_21 W main_v119 = shapeCast S32x1x2048 (W main_arg3 : Vec F S32x2048 .f32) shapeCasts_S32x2048_S32x1x2048 := by
  after_reads_simp <;> (try simp only [StableHlo.TRef.ofBuf_toBuf]) <;> rfl
theorem at_v120 : StableHlo.after hostOps0_21 W main_v120 = shapeCast S32x1x1024 (W main_arg5 : Vec F S32x1024 .f32) shapeCasts_S32x1024_S32x1x1024 := by
  after_reads_simp <;> (try simp only [StableHlo.TRef.ofBuf_toBuf]) <;> rfl
theorem at_v131 : StableHlo.after hostOps1 W main_v131 = back (F := F) (W main_v121 : Vec F S81920x1024 .bf16) (W main_v50 : IVec S16384x4 32) := by
  after_reads_simp <;> (try simp only [StableHlo.TRef.ofBuf_toBuf]) <;> rfl
theorem keep3_v13 : StableHlo.after hostOps0_3 W main_v13 = W main_v13 := by after_reads_simp
theorem keep4_v13 : StableHlo.after hostOps0_4 W main_v13 = W main_v13 := by after_reads_simp
theorem keep5_v13 : StableHlo.after hostOps0_5 W main_v13 = W main_v13 := by after_reads_simp
theorem keep6_v13 : StableHlo.after hostOps0_6 W main_v13 = W main_v13 := by after_reads_simp
theorem keep7_v13 : StableHlo.after hostOps0_7 W main_v13 = W main_v13 := by after_reads_simp
theorem keep8_v13 : StableHlo.after hostOps0_8 W main_v13 = W main_v13 := by after_reads_simp
theorem keep9_v13 : StableHlo.after hostOps0_9 W main_v13 = W main_v13 := by after_reads_simp
theorem keep10_v13 : StableHlo.after hostOps0_10 W main_v13 = W main_v13 := by after_reads_simp
theorem keep11_v13 : StableHlo.after hostOps0_11 W main_v13 = W main_v13 := by after_reads_simp
theorem keep12_v13 : StableHlo.after hostOps0_12 W main_v13 = W main_v13 := by after_reads_simp
theorem keep13_v13 : StableHlo.after hostOps0_13 W main_v13 = W main_v13 := by after_reads_simp
theorem keep14_v13 : StableHlo.after hostOps0_14 W main_v13 = W main_v13 := by after_reads_simp
theorem keep6_v21 : StableHlo.after hostOps0_6 W main_v21 = W main_v21 := by after_reads_simp
theorem keep7_v21 : StableHlo.after hostOps0_7 W main_v21 = W main_v21 := by after_reads_simp
theorem keep8_v21 : StableHlo.after hostOps0_8 W main_v21 = W main_v21 := by after_reads_simp
theorem keep9_v21 : StableHlo.after hostOps0_9 W main_v21 = W main_v21 := by after_reads_simp
theorem keep10_v21 : StableHlo.after hostOps0_10 W main_v21 = W main_v21 := by after_reads_simp
theorem keep11_v21 : StableHlo.after hostOps0_11 W main_v21 = W main_v21 := by after_reads_simp
theorem keep12_v21 : StableHlo.after hostOps0_12 W main_v21 = W main_v21 := by after_reads_simp
theorem keep13_v21 : StableHlo.after hostOps0_13 W main_v21 = W main_v21 := by after_reads_simp
theorem keep14_v21 : StableHlo.after hostOps0_14 W main_v21 = W main_v21 := by after_reads_simp
theorem keep5_v20 : StableHlo.after hostOps0_5 W main_v20 = W main_v20 := by after_reads_simp
theorem keep1_v11 : StableHlo.after hostOps0_1 W main_v11 = W main_v11 := by after_reads_simp
theorem keep2_v11 : StableHlo.after hostOps0_2 W main_v11 = W main_v11 := by after_reads_simp
theorem keep3_v11 : StableHlo.after hostOps0_3 W main_v11 = W main_v11 := by after_reads_simp
theorem keep4_v11 : StableHlo.after hostOps0_4 W main_v11 = W main_v11 := by after_reads_simp
theorem keep5_v11 : StableHlo.after hostOps0_5 W main_v11 = W main_v11 := by after_reads_simp
theorem keep6_v11 : StableHlo.after hostOps0_6 W main_v11 = W main_v11 := by after_reads_simp
theorem keep7_v11 : StableHlo.after hostOps0_7 W main_v11 = W main_v11 := by after_reads_simp
theorem keep7_v23 : StableHlo.after hostOps0_7 W main_v23 = W main_v23 := by after_reads_simp
theorem keep9_v39 : StableHlo.after hostOps0_9 W main_v39 = W main_v39 := by after_reads_simp
theorem keep10_v39 : StableHlo.after hostOps0_10 W main_v39 = W main_v39 := by after_reads_simp
theorem keep11_v39 : StableHlo.after hostOps0_11 W main_v39 = W main_v39 := by after_reads_simp
theorem keep12_v39 : StableHlo.after hostOps0_12 W main_v39 = W main_v39 := by after_reads_simp
theorem keep9_v41 : StableHlo.after hostOps0_9 W main_v41 = W main_v41 := by after_reads_simp
theorem keep10_v41 : StableHlo.after hostOps0_10 W main_v41 = W main_v41 := by after_reads_simp
theorem keep11_v41 : StableHlo.after hostOps0_11 W main_v41 = W main_v41 := by after_reads_simp
theorem keep10_v42 : StableHlo.after hostOps0_10 W main_v42 = W main_v42 := by after_reads_simp
theorem keep11_v42 : StableHlo.after hostOps0_11 W main_v42 = W main_v42 := by after_reads_simp
theorem keep13_v46 : StableHlo.after hostOps0_13 W main_v46 = W main_v46 := by after_reads_simp
theorem keep14_v46 : StableHlo.after hostOps0_14 W main_v46 = W main_v46 := by after_reads_simp
theorem keep15_v46 : StableHlo.after hostOps0_15 W main_v46 = W main_v46 := by after_reads_simp
theorem keep16_v46 : StableHlo.after hostOps0_16 W main_v46 = W main_v46 := by after_reads_simp
theorem keep17_v46 : StableHlo.after hostOps0_17 W main_v46 = W main_v46 := by after_reads_simp
theorem keep18_v46 : StableHlo.after hostOps0_18 W main_v46 = W main_v46 := by after_reads_simp
theorem keep19_v46 : StableHlo.after hostOps0_19 W main_v46 = W main_v46 := by after_reads_simp
theorem keep20_v46 : StableHlo.after hostOps0_20 W main_v46 = W main_v46 := by after_reads_simp
theorem keep14_v50 : StableHlo.after hostOps0_14 W main_v50 = W main_v50 := by after_reads_simp
theorem keep15_v50 : StableHlo.after hostOps0_15 W main_v50 = W main_v50 := by after_reads_simp
theorem keep16_v50 : StableHlo.after hostOps0_16 W main_v50 = W main_v50 := by after_reads_simp
theorem keep17_v50 : StableHlo.after hostOps0_17 W main_v50 = W main_v50 := by after_reads_simp
theorem keep18_v50 : StableHlo.after hostOps0_18 W main_v50 = W main_v50 := by after_reads_simp
theorem keep19_v50 : StableHlo.after hostOps0_19 W main_v50 = W main_v50 := by after_reads_simp
theorem keep20_v50 : StableHlo.after hostOps0_20 W main_v50 = W main_v50 := by after_reads_simp
theorem keep21_v50 : StableHlo.after hostOps0_21 W main_v50 = W main_v50 := by after_reads_simp
theorem keep15_v53 : StableHlo.after hostOps0_15 W main_v53 = W main_v53 := by after_reads_simp
theorem keep16_v53 : StableHlo.after hostOps0_16 W main_v53 = W main_v53 := by after_reads_simp
theorem keep17_v53 : StableHlo.after hostOps0_17 W main_v53 = W main_v53 := by after_reads_simp
theorem keep18_v53 : StableHlo.after hostOps0_18 W main_v53 = W main_v53 := by after_reads_simp
theorem keep19_v53 : StableHlo.after hostOps0_19 W main_v53 = W main_v53 := by after_reads_simp
theorem keep20_v53 : StableHlo.after hostOps0_20 W main_v53 = W main_v53 := by after_reads_simp
theorem keep16_v72 : StableHlo.after hostOps0_16 W main_v72 = W main_v72 := by after_reads_simp
theorem keep17_v72 : StableHlo.after hostOps0_17 W main_v72 = W main_v72 := by after_reads_simp
theorem keep18_v72 : StableHlo.after hostOps0_18 W main_v72 = W main_v72 := by after_reads_simp
theorem keep19_v72 : StableHlo.after hostOps0_19 W main_v72 = W main_v72 := by after_reads_simp
theorem keep20_v72 : StableHlo.after hostOps0_20 W main_v72 = W main_v72 := by after_reads_simp
theorem keep21_v72 : StableHlo.after hostOps0_21 W main_v72 = W main_v72 := by after_reads_simp
theorem keep16_v74 : StableHlo.after hostOps0_16 W main_v74 = W main_v74 := by after_reads_simp
theorem keep17_v74 : StableHlo.after hostOps0_17 W main_v74 = W main_v74 := by after_reads_simp
theorem keep18_v74 : StableHlo.after hostOps0_18 W main_v74 = W main_v74 := by after_reads_simp
theorem keep18_v86 : StableHlo.after hostOps0_18 W main_v86 = W main_v86 := by after_reads_simp
theorem keep19_v89 : StableHlo.after hostOps0_19 W main_v89 = W main_v89 := by after_reads_simp
theorem keep20_v89 : StableHlo.after hostOps0_20 W main_v89 = W main_v89 := by after_reads_simp

end Cert.Proof.Route
-- ==== Proof.Route.At.lean ====
/-
  What the host lines before the launch leave: each table as one term over the picks, each argument as it was.
-/
module

public import proofs.«01_k».proof.Proof.Route.Terms
public import Idealize.ShloMosaic.Lib.Pipeline.Frame

@[expose] public section

set_option maxRecDepth 16384

noncomputable section

namespace Cert.Proof.Route

open Cert.KernelIdeal Cert.KernelIdeal.Gen
open Idealize.ShloMosaic
open Idealize.ShloMosaic.TcCoe Idealize.ShloMosaic.Tactic

variable {F : FTy → Type} [FloatOps F]

/-- The lines before the launch, in their pieces. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]
/-- The lines after it. -/
abbrev post : List (List (HloOp τ sig (Elt F))) := [hostOps1]

variable (W : Valuation τ sig (Elt F))

/-! ## The contents after each piece -/

def S0 : Valuation τ sig (Elt F) := StableHlo.after hostOps0 W
def S1 : Valuation τ sig (Elt F) := StableHlo.after hostOps0_1 (S0 W)
def S2 : Valuation τ sig (Elt F) := StableHlo.after hostOps0_2 (S1 W)
def S3 : Valuation τ sig (Elt F) := StableHlo.after hostOps0_3 (S2 W)
def S4 : Valuation τ sig (Elt F) := StableHlo.after hostOps0_4 (S3 W)
def S5 : Valuation τ sig (Elt F) := StableHlo.after hostOps0_5 (S4 W)
def S6 : Valuation τ sig (Elt F) := StableHlo.after hostOps0_6 (S5 W)
def S7 : Valuation τ sig (Elt F) := StableHlo.after hostOps0_7 (S6 W)
def S8 : Valuation τ sig (Elt F) := StableHlo.after hostOps0_8 (S7 W)
def S9 : Valuation τ sig (Elt F) := StableHlo.after hostOps0_9 (S8 W)
def S10 : Valuation τ sig (Elt F) := StableHlo.after hostOps0_10 (S9 W)
def S11 : Valuation τ sig (Elt F) := StableHlo.after hostOps0_11 (S10 W)
def S12 : Valuation τ sig (Elt F) := StableHlo.after hostOps0_12 (S11 W)
def S13 : Valuation τ sig (Elt F) := StableHlo.after hostOps0_13 (S12 W)
def S14 : Valuation τ sig (Elt F) := StableHlo.after hostOps0_14 (S13 W)
def S15 : Valuation τ sig (Elt F) := StableHlo.after hostOps0_15 (S14 W)
def S16 : Valuation τ sig (Elt F) := StableHlo.after hostOps0_16 (S15 W)
def S17 : Valuation τ sig (Elt F) := StableHlo.after hostOps0_17 (S16 W)
def S18 : Valuation τ sig (Elt F) := StableHlo.after hostOps0_18 (S17 W)
def S19 : Valuation τ sig (Elt F) := StableHlo.after hostOps0_19 (S18 W)
def S20 : Valuation τ sig (Elt F) := StableHlo.after hostOps0_20 (S19 W)
def S21 : Valuation τ sig (Elt F) := StableHlo.after hostOps0_21 (S20 W)

theorem after_pre : StableHlo.after pre.flatten W = S21 W := by
  simp only [pre, List.flatten_cons, List.flatten_nil, StableHlo.after_append, StableHlo.after_nil]
  rfl

/-! ## The arguments -/

theorem arg0_S20 : S20 W main_arg0 = W main_arg0 := by
  unfold S20 S19 S18 S17 S16 S15 S14 S13 S12 S11 S10 S9 S8 S7 S6 S5 S4 S3 S2 S1 S0
  after_reads_simp
theorem arg0_S21 : S21 W main_arg0 = W main_arg0 := by
  have h := arg0_S20 W
  unfold S21
  refine Eq.trans ?_ h
  generalize S20 W = W'
  after_reads_simp
theorem arg1_S20 : S20 W main_arg1 = W main_arg1 := by
  unfold S20 S19 S18 S17 S16 S15 S14 S13 S12 S11 S10 S9 S8 S7 S6 S5 S4 S3 S2 S1 S0
  after_reads_simp
theorem arg1_S21 : S21 W main_arg1 = W main_arg1 := by
  have h := arg1_S20 W
  unfold S21
  refine Eq.trans ?_ h
  generalize S20 W = W'
  after_reads_simp
theorem arg2_S20 : S20 W main_arg2 = W main_arg2 := by
  unfold S20 S19 S18 S17 S16 S15 S14 S13 S12 S11 S10 S9 S8 S7 S6 S5 S4 S3 S2 S1 S0
  after_reads_simp
theorem arg2_S21 : S21 W main_arg2 = W main_arg2 := by
  have h := arg2_S20 W
  unfold S21
  refine Eq.trans ?_ h
  generalize S20 W = W'
  after_reads_simp
theorem arg3_S20 : S20 W main_arg3 = W main_arg3 := by
  unfold S20 S19 S18 S17 S16 S15 S14 S13 S12 S11 S10 S9 S8 S7 S6 S5 S4 S3 S2 S1 S0
  after_reads_simp
theorem arg3_S21 : S21 W main_arg3 = W main_arg3 := by
  have h := arg3_S20 W
  unfold S21
  refine Eq.trans ?_ h
  generalize S20 W = W'
  after_reads_simp
theorem arg4_S20 : S20 W main_arg4 = W main_arg4 := by
  unfold S20 S19 S18 S17 S16 S15 S14 S13 S12 S11 S10 S9 S8 S7 S6 S5 S4 S3 S2 S1 S0
  after_reads_simp
theorem arg4_S21 : S21 W main_arg4 = W main_arg4 := by
  have h := arg4_S20 W
  unfold S21
  refine Eq.trans ?_ h
  generalize S20 W = W'
  after_reads_simp
theorem arg5_S20 : S20 W main_arg5 = W main_arg5 := by
  unfold S20 S19 S18 S17 S16 S15 S14 S13 S12 S11 S10 S9 S8 S7 S6 S5 S4 S3 S2 S1 S0
  after_reads_simp
theorem arg5_S21 : S21 W main_arg5 = W main_arg5 := by
  have h := arg5_S20 W
  unfold S21
  refine Eq.trans ?_ h
  generalize S20 W = W'
  after_reads_simp

/-! ## The tables -/

/-- The picks of the logits, flat. -/
def picks : IVec S65536 32 := shapeCast S65536 (Host.topK S16384x4 1 (FloatOps.cmpfTotal .gt) (W main_arg1 : FVec F S16384x32 .f32) sliceFits_S16384x32_S16384x4).2 shapeCasts_S16384x4_S65536
abbrev cnt : IVec S32 32 := counts (picks W)
abbrev pad : IVec S32 32 := padded (cnt W)
abbrev ends : IVec S32 32 := running (pad W)
abbrev orig : IVec S81920 32 := origin (keys (picks W) (fillE (running (subi (pad W) (cnt W)))))

theorem v11_0 : S0 W main_v11 = picks W :=
  at_v11 W
theorem v11_1 : S1 W main_v11 = picks W := (keep1_v11 _).trans (v11_0 W)
theorem v11_2 : S2 W main_v11 = picks W := (keep2_v11 _).trans (v11_1 W)
theorem v11_3 : S3 W main_v11 = picks W := (keep3_v11 _).trans (v11_2 W)
theorem v11_4 : S4 W main_v11 = picks W := (keep4_v11 _).trans (v11_3 W)
theorem v11_5 : S5 W main_v11 = picks W := (keep5_v11 _).trans (v11_4 W)
theorem v11_6 : S6 W main_v11 = picks W := (keep6_v11 _).trans (v11_5 W)
theorem v11_7 : S7 W main_v11 = picks W := (keep7_v11 _).trans (v11_6 W)
theorem v13_2 : S2 W main_v13 = cnt W :=
  (at_v13 _).trans (by rw [show S1 W main_v12 = _ from (at_v12 _).trans (by rw [v11_0])]; rfl)
theorem v13_3 : S3 W main_v13 = cnt W := (keep3_v13 _).trans (v13_2 W)
theorem v13_4 : S4 W main_v13 = cnt W := (keep4_v13 _).trans (v13_3 W)
theorem v13_5 : S5 W main_v13 = cnt W := (keep5_v13 _).trans (v13_4 W)
theorem v13_6 : S6 W main_v13 = cnt W := (keep6_v13 _).trans (v13_5 W)
theorem v13_7 : S7 W main_v13 = cnt W := (keep7_v13 _).trans (v13_6 W)
theorem v13_8 : S8 W main_v13 = cnt W := (keep8_v13 _).trans (v13_7 W)
theorem v13_9 : S9 W main_v13 = cnt W := (keep9_v13 _).trans (v13_8 W)
theorem v13_10 : S10 W main_v13 = cnt W := (keep10_v13 _).trans (v13_9 W)
theorem v13_11 : S11 W main_v13 = cnt W := (keep11_v13 _).trans (v13_10 W)
theorem v13_12 : S12 W main_v13 = cnt W := (keep12_v13 _).trans (v13_11 W)
theorem v13_13 : S13 W main_v13 = cnt W := (keep13_v13 _).trans (v13_12 W)
theorem v13_14 : S14 W main_v13 = cnt W := (keep14_v13 _).trans (v13_13 W)
theorem v17_2 : S2 W main_v17 = subi (addi (cnt W) (broadcastInDim S32 ![] bcast_S_S32 (constantI S_ 32 512#32))) (broadcastInDim S32 ![] bcast_S_S32 (constantI S_ 32 1#32)) :=
  (at_v17 _).trans (by rw [show S1 W main_v12 = _ from (at_v12 _).trans (by rw [v11_0])]; rfl)
theorem v20_4 : S4 W main_v20 = pad W :=
  (at_v20 _).trans (by rw [show S3 W main_v18 = _ from (at_v18 _).trans (by rw [v17_2, show S2 W main_c_4 = _ from at_c4 _])]; rfl)
theorem v20_5 : S5 W main_v20 = pad W := (keep5_v20 _).trans (v20_4 W)
theorem v21_5 : S5 W main_v21 = ends W :=
  (at_v21 _).trans (congrArg running (v20_4 W))
theorem v21_6 : S6 W main_v21 = ends W := (keep6_v21 _).trans (v21_5 W)
theorem v21_7 : S7 W main_v21 = ends W := (keep7_v21 _).trans (v21_6 W)
theorem v21_8 : S8 W main_v21 = ends W := (keep8_v21 _).trans (v21_7 W)
theorem v21_9 : S9 W main_v21 = ends W := (keep9_v21 _).trans (v21_8 W)
theorem v21_10 : S10 W main_v21 = ends W := (keep10_v21 _).trans (v21_9 W)
theorem v21_11 : S11 W main_v21 = ends W := (keep11_v21 _).trans (v21_10 W)
theorem v21_12 : S12 W main_v21 = ends W := (keep12_v21 _).trans (v21_11 W)
theorem v21_13 : S13 W main_v21 = ends W := (keep13_v21 _).trans (v21_12 W)
theorem v21_14 : S14 W main_v21 = ends W := (keep14_v21 _).trans (v21_13 W)
theorem v24_6 : S6 W main_v24 = subi (pad W) (cnt W) :=
  (at_v24 _).trans (by rw [v20_5, v13_5])
theorem v25_7 : S7 W main_v25 = running (subi (pad W) (cnt W)) :=
  (at_v25 _).trans (congrArg running (v24_6 W))
theorem v23_7 : S7 W main_v23 = broadcastInDim S16384x1 ![0] bcast_S16384_S16384x1_0 (iotaInDim S16384 32 0) :=
  (keep7_v23 _).trans (at_v23 _)
theorem v39_8 : S8 W main_v39 = orig W :=
  (at_v39 _).trans (by rw [v11_7, v25_7, v23_7]; rfl)
theorem v39_9 : S9 W main_v39 = orig W := (keep9_v39 _).trans (v39_8 W)
theorem v39_10 : S10 W main_v39 = orig W := (keep10_v39 _).trans (v39_9 W)
theorem v39_11 : S11 W main_v39 = orig W := (keep11_v39 _).trans (v39_10 W)
theorem v39_12 : S12 W main_v39 = orig W := (keep12_v39 _).trans (v39_11 W)
theorem v41_8 : S8 W main_v41 = cmpi .slt (orig W) (broadcastInDim S81920 ![] bcast_S_S81920 (constantI S_ 32 65536#32)) :=
  (at_v41 _).trans (by rw [v11_7, v25_7, v23_7]; rfl)
theorem v41_9 : S9 W main_v41 = cmpi .slt (orig W) (broadcastInDim S81920 ![] bcast_S_S81920 (constantI S_ 32 65536#32)) := (keep9_v41 _).trans (v41_8 W)
theorem v41_10 : S10 W main_v41 = cmpi .slt (orig W) (broadcastInDim S81920 ![] bcast_S_S81920 (constantI S_ 32 65536#32)) := (keep10_v41 _).trans (v41_9 W)
theorem v41_11 : S11 W main_v41 = cmpi .slt (orig W) (broadcastInDim S81920 ![] bcast_S_S81920 (constantI S_ 32 65536#32)) := (keep11_v41 _).trans (v41_10 W)
theorem v42_9 : S9 W main_v42 = Routing.pyDiv bcast_S_S81920 (orig W) (constantI S_ 32 4#32) :=
  (at_v42 _).trans (by rw [v39_8, show S8 W main_c_10 = _ from at_c10 _])
theorem v42_10 : S10 W main_v42 = Routing.pyDiv bcast_S_S81920 (orig W) (constantI S_ 32 4#32) := (keep10_v42 _).trans (v42_9 W)
theorem v42_11 : S11 W main_v42 = Routing.pyDiv bcast_S_S81920 (orig W) (constantI S_ 32 4#32) := (keep11_v42 _).trans (v42_10 W)
theorem v46_12 : S12 W main_v46 = token (orig W) :=
  (at_v46 _).trans (by rw [v41_11, v42_11, show S11 W main_v45 = _ from (at_v45 _).trans (by rw [show S10 W main_v44 = _ from (at_v44 _).trans (by rw [v39_9]), show S10 W main_c_12 = _ from at_c12 _])]; rfl)
theorem v46_13 : S13 W main_v46 = token (orig W) := (keep13_v46 _).trans (v46_12 W)
theorem v46_14 : S14 W main_v46 = token (orig W) := (keep14_v46 _).trans (v46_13 W)
theorem v46_15 : S15 W main_v46 = token (orig W) := (keep15_v46 _).trans (v46_14 W)
theorem v46_16 : S16 W main_v46 = token (orig W) := (keep16_v46 _).trans (v46_15 W)
theorem v46_17 : S17 W main_v46 = token (orig W) := (keep17_v46 _).trans (v46_16 W)
theorem v46_18 : S18 W main_v46 = token (orig W) := (keep18_v46 _).trans (v46_17 W)
theorem v46_19 : S19 W main_v46 = token (orig W) := (keep19_v46 _).trans (v46_18 W)
theorem v46_20 : S20 W main_v46 = token (orig W) := (keep20_v46 _).trans (v46_19 W)
theorem v50_13 : S13 W main_v50 = places (orig W) :=
  (at_v50 _).trans (congrArg places (v39_12 W))
theorem v50_14 : S14 W main_v50 = places (orig W) := (keep14_v50 _).trans (v50_13 W)
theorem v50_15 : S15 W main_v50 = places (orig W) := (keep15_v50 _).trans (v50_14 W)
theorem v50_16 : S16 W main_v50 = places (orig W) := (keep16_v50 _).trans (v50_15 W)
theorem v50_17 : S17 W main_v50 = places (orig W) := (keep17_v50 _).trans (v50_16 W)
theorem v50_18 : S18 W main_v50 = places (orig W) := (keep18_v50 _).trans (v50_17 W)
theorem v50_19 : S19 W main_v50 = places (orig W) := (keep19_v50 _).trans (v50_18 W)
theorem v50_20 : S20 W main_v50 = places (orig W) := (keep20_v50 _).trans (v50_19 W)
theorem v50_21 : S21 W main_v50 = places (orig W) := (keep21_v50 _).trans (v50_20 W)
theorem v53_14 : S14 W main_v53 = Routing.pyDiv0 (total (ends W)) (constantI S_ 32 512#32) :=
  (at_v53 _).trans (by rw [show S13 W main_v52 = _ from (at_v52 _).trans (congrArg total (v21_12 W)), show S13 W main_c_13 = _ from at_c13 _])
theorem v53_15 : S15 W main_v53 = Routing.pyDiv0 (total (ends W)) (constantI S_ 32 512#32) := (keep15_v53 _).trans (v53_14 W)
theorem v53_16 : S16 W main_v53 = Routing.pyDiv0 (total (ends W)) (constantI S_ 32 512#32) := (keep16_v53 _).trans (v53_15 W)
theorem v53_17 : S17 W main_v53 = Routing.pyDiv0 (total (ends W)) (constantI S_ 32 512#32) := (keep17_v53 _).trans (v53_16 W)
theorem v53_18 : S18 W main_v53 = Routing.pyDiv0 (total (ends W)) (constantI S_ 32 512#32) := (keep18_v53 _).trans (v53_17 W)
theorem v53_19 : S19 W main_v53 = Routing.pyDiv0 (total (ends W)) (constantI S_ 32 512#32) := (keep19_v53 _).trans (v53_18 W)
theorem v53_20 : S20 W main_v53 = Routing.pyDiv0 (total (ends W)) (constantI S_ 32 512#32) := (keep20_v53 _).trans (v53_19 W)
theorem v72_15 : S15 W main_v72 = tileE (ends W) :=
  (at_v72 _).trans (congrArg tileE (v21_14 W))
theorem v72_16 : S16 W main_v72 = tileE (ends W) := (keep16_v72 _).trans (v72_15 W)
theorem v72_17 : S17 W main_v72 = tileE (ends W) := (keep17_v72 _).trans (v72_16 W)
theorem v72_18 : S18 W main_v72 = tileE (ends W) := (keep18_v72 _).trans (v72_17 W)
theorem v72_19 : S19 W main_v72 = tileE (ends W) := (keep19_v72 _).trans (v72_18 W)
theorem v72_20 : S20 W main_v72 = tileE (ends W) := (keep20_v72 _).trans (v72_19 W)
theorem v72_21 : S21 W main_v72 = tileE (ends W) := (keep21_v72 _).trans (v72_20 W)
theorem v74_15 : S15 W main_v74 = some? (cnt W) :=
  (at_v74 _).trans (congrArg some? (v13_14 W))
theorem v74_16 : S16 W main_v74 = some? (cnt W) := (keep16_v74 _).trans (v74_15 W)
theorem v74_17 : S17 W main_v74 = some? (cnt W) := (keep17_v74 _).trans (v74_16 W)
theorem v74_18 : S18 W main_v74 = some? (cnt W) := (keep18_v74 _).trans (v74_17 W)
theorem v85_16 : S16 W main_v85 = laters (cnt W) :=
  (at_v85 _).trans (by rw [show S15 W main_v83 = _ from (at_v83 _).trans (by rw [v13_14]), show S15 W main_v84 = _ from at_v84 _, show S15 W main_c_19 = _ from at_c19 _]; rfl)
theorem v86_17 : S17 W main_v86 = nextRaw (cnt W) :=
  (at_v86 _).trans (by rw [v85_16]; rfl)
theorem v86_18 : S18 W main_v86 = nextRaw (cnt W) :=
  (keep18_v86 _).trans (v86_17 W)
theorem v89_18 : S18 W main_v89 = nextE (cnt W) :=
  (at_v89 _).trans (by rw [v86_17, show S17 W main_v88 = _ from (at_v88 _).trans (by rw [v85_16]), show S17 W main_c_22 = _ from at_c22 _]; rfl)
theorem v89_19 : S19 W main_v89 = nextE (cnt W) := (keep19_v89 _).trans (v89_18 W)
theorem v89_20 : S20 W main_v89 = nextE (cnt W) := (keep20_v89 _).trans (v89_19 W)
theorem v91_20 : S20 W main_v91 = running (extui 32 (some? (cnt W)) natLt_1_32) :=
  (at_v91 _).trans (by rw [show S19 W main_v90 = _ from (at_v90 _).trans (by rw [v74_18])])
theorem v94_21 : S21 W main_v94 = tilesUsed (ends W) :=
  (at_v94 _).trans (by rw [v53_20]; rfl)
theorem v101_21 : S21 W main_v101 = byTile (nextE (cnt W)) (tileE (ends W)) :=
  (at_v101 _).trans (by rw [v89_20, v72_20])
theorem v110_21 : S21 W main_v110 = slotT (cnt W) (tileE (ends W)) :=
  (at_v110 _).trans (by rw [v91_20, v72_20]; rfl)
theorem v118_21 : S21 W main_v118 = rows (F := F) (W main_arg0 : Vec F S2x8x2048x1024 .bf16) (token (orig W)) :=
  (at_v118 _).trans (by rw [arg0_S20, v46_20])
theorem v119_21 : S21 W main_v119 = shapeCast S32x1x2048 (W main_arg3 : Vec F S32x2048 .f32) shapeCasts_S32x2048_S32x1x2048 :=
  (at_v119 _).trans (by rw [arg3_S20])
theorem v120_21 : S21 W main_v120 = shapeCast S32x1x1024 (W main_arg5 : Vec F S32x1024 .f32) shapeCasts_S32x1024_S32x1x1024 :=
  (at_v120 _).trans (by rw [arg5_S20])

end Cert.Proof.Route
-- ==== Proof.Moe.Run.lean ====
/-
  The launch of the expert kernel: what its windows stage, what is held between its tiles, its run, and what the run leaves.
-/
module

public import proofs.«01_k».proof.Proof.Moe.Step
public import proofs.«01_k».proof.Proof.Route.At
public import Idealize.ShloMosaic.Lib.Pipeline.FrameBody
public import Idealize.ShloMosaic.Lib.Pipeline.FrameSuffix
public import Idealize.ShloMosaic.Lib.Pipeline.Kit
public import Idealize.ShloMosaic.Lib.Claim

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The slots joined -/

section Join
variable (c : Dev nD)

theorem unsplitG (s : Fin 2) : (iprop((∃ f, slotG (F := F) c s f) ∗ ∃ f, slotG (F := F) c (oth s) f) : sProp 𝕄) ⊢ iprop(∃ f, hbPt (F := F) c bufG f) := by
  iintro ⟨⟨%f, H0⟩, ⟨%g, H1⟩⟩
  iexists ((setG (oth s)).piecewise g f)
  iapply (entails_of_eq (congrArg (fun S => (bufG.view.loc (c : Thread nD τ) ↦[S]{fullShare} (setG (oth s)).piecewise g f : sProp 𝕄)) (setG_cover s)))
  iapply (pointsTo_join (Val := Elt F) (ℓ := bufG.view.loc (c : Thread nD τ)) (setG_disjoint s))
  isplitl [H0]
  · iapply (entails_of_eq (congrArg (fun S => (bufG.view.loc (c : Thread nD τ) ↦[S]{fullShare} f : sProp 𝕄)) (slG_set s))); iexact H0
  · iapply (entails_of_eq (congrArg (fun S => (bufG.view.loc (c : Thread nD τ) ↦[S]{fullShare} g : sProp 𝕄)) (slG_set (oth s)))); iexact H1
theorem unsplitD (s : Fin 2) : (iprop((∃ f, slotD (F := F) c s f) ∗ ∃ f, slotD (F := F) c (oth s) f) : sProp 𝕄) ⊢ iprop(∃ f, hbPt (F := F) c bufD f) := by
  iintro ⟨⟨%f, H0⟩, ⟨%g, H1⟩⟩
  iexists ((setD (oth s)).piecewise g f)
  iapply (entails_of_eq (congrArg (fun S => (bufD.view.loc (c : Thread nD τ) ↦[S]{fullShare} (setD (oth s)).piecewise g f : sProp 𝕄)) (setD_cover s)))
  iapply (pointsTo_join (Val := Elt F) (ℓ := bufD.view.loc (c : Thread nD τ)) (setD_disjoint s))
  isplitl [H0]
  · iapply (entails_of_eq (congrArg (fun S => (bufD.view.loc (c : Thread nD τ) ↦[S]{fullShare} f : sProp 𝕄)) (slD_set s))); iexact H0
  · iapply (entails_of_eq (congrArg (fun S => (bufD.view.loc (c : Thread nD τ) ↦[S]{fullShare} g : sProp 𝕄)) (slD_set (oth s)))); iexact H1
end Join

/- What every buffer holds at the launch. -/
variable (m : Dev nD → Valuation τ sig (Elt F))

/-! ## At the launch -/

/-- The buffers at the launch, by reference. -/
abbrev V (c : Dev nD) (b : Ref sig .tc) : Buf (Elt F) ((c : Thread nD τ).loc b) := m c (Proc.devRef .tc b)

/-- The tables at the launch. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

/-- The tables of memory `m` make a plan. -/
def PlanM : Prop := Plan (pfE (tbl m)) (tbl m 2 : S160.Idx → BitVec 32) (tbl m 3 : S160.Idx → BitVec 32) (pfN (tbl m))
variable (hp : PlanM m)
/-- The windows' blocks are then inside their arrays. -/
abbrev adm : (pcfg0 (F := F)).Adm := ⟨tbl m, ok_of (tbl m) (Plan.te_lt hp)⟩
abbrev cfgM : Pipeline.Cfg sig Λ₀ := cfg0 (adm m hp)

theorem PhiT0_eq (c : Dev nD) : (Pipeline.ΦT pre0 (tbl m) c : sProp 𝕄) = tabs c (tbl m 0) (tbl m 1) (tbl m 2) (tbl m 3) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t` of the launch contents. -/
def iblk (c : Dev nD) (w : Fin (cfgM m hp).W) (t : Fin (cfgM m hp).N) : (((cfgM m hp).win w).xblock ((cfgM m hp).grid.coords t)).Idx → Elt F ((cfgM m hp).win w).elt :=
  (((cfgM m hp).win w).blk t).view.read (Elt F) (V m c (Pipeline.arrRef spec0 w))

theorem before0_0_of {c : Dev nD} (dat : Dat τ (Elt F) Unit ℕ (Pipeline.UD sig nD τ) ℕ (cfgM m hp) c) (hA : dat.A 0 = V m c (Pipeline.arrRef spec0 0))
    (hafter : ∀ t, dat.after 0 t = iblk m hp c 0 t) (t : Fin (cfgM m hp).N) (d) : dat.before 0 t d = iblk m hp c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m hp) c) (hA : dat.A 1 = V m c (Pipeline.arrRef spec0 1))
    (hafter : ∀ t, dat.after 1 t = iblk m hp c 1 t) (t : Fin (cfgM m hp).N) (d) : dat.before 1 t d = iblk m hp c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ (cfgM m hp) c) (hA : dat.A 2 = V m c (Pipeline.arrRef spec0 2))
    (hafter : ∀ t, dat.after 2 t = iblk m hp c 2 t) (t : Fin (cfgM m hp).N) (d) : dat.before 2 t d = iblk m hp c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin (cfgM m hp).N) : Memref sig .tc .vmem S512x1024 .bf16 := spec0_0.stage ((cfgM m hp).slots t 0)
abbrev hs0_0 (t : Fin (cfgM m hp).N) : (ms0_0 m hp t).IsWhole := hstage0_0 (((cfgM m hp).slots t 0).cast nbuf0_0)
abbrev ms0_1 (t : Fin (cfgM m hp).N) : Memref sig .tc .vmem S1x1x2048 .f32 := spec0_1.stage ((cfgM m hp).slots t 1)
abbrev hs0_1 (t : Fin (cfgM m hp).N) : (ms0_1 m hp t).IsWhole := hstage0_1 (((cfgM m hp).slots t 1).cast nbuf0_1)
abbrev ms0_2 (t : Fin (cfgM m hp).N) : Memref sig .tc .vmem S1x1x1024 .f32 := spec0_2.stage ((cfgM m hp).slots t 2)
abbrev hs0_2 (t : Fin (cfgM m hp).N) : (ms0_2 m hp t).IsWhole := hstage0_2 (((cfgM m hp).slots t 2).cast nbuf0_2)
abbrev ms0_3 (t : Fin (cfgM m hp).N) : Memref sig .tc .vmem S512x1024 .bf16 := spec0_3.stage ((cfgM m hp).slots t 3)
abbrev hs0_3 (t : Fin (cfgM m hp).N) : (ms0_3 m hp t).IsWhole := hstage0_3 (((cfgM m hp).slots t 3).cast nbuf0_3)

/-! ## The kernel's own counters and arrays -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 0 ∗ cellP (F := F) c 0 1 ∗ cellP (F := F) c 1 0 ∗ cellP (F := F) c 1 1) := by
  rw [Pipeline.ownSems0_eq_of_list c osem0 [0, 1, 2, 3] (by decide) (by decide)]; rfl
def H0 : Finset (Ref sig .tc) := {main_arg2, main_arg4}
theorem H0_sub : H0 ⊆ Pipeline.restRefsP sig pre0 spec0 := by decide
theorem hbmPts0_eq (c : Dev nD) :
    (bigSep H0 (fun b => ((c : Thread nD τ).loc b) ↦{fullShare} V m c b) : sProp 𝕄) = Wts c (V m c main_arg2) (V m c main_arg4) := by
  rw [BI.bigSep_eq_bigSepL_of_eq [main_arg2, main_arg4] (by decide) (by decide)]; rfl

/-- What the launch hands over and takes back, in the words of the kernel's invariant. -/
theorem PhiD0_eq (c : Dev nD) :
    (Pipeline.ΦD osem0 spec0 H0 (V m) c : sProp 𝕄)
      = iprop(iprop((∃ f, hbPt (F := F) c bufG f) ∗ (∃ f, hbPt (F := F) c bufD f) ∗ (∃ X, owns (c : Thread nD τ) bfG fullShare (X : Vec F S1024x2048 .bf16)) ∗ (∃ X, owns (c : Thread nD τ) bfD fullShare (X : Vec F S1024x1024 .bf16)))
        ∗ (∃ r, prngReg c r) ∗ iprop(cellP (F := F) c 0 0 ∗ cellP (F := F) c 0 1 ∗ cellP (F := F) c 1 0 ∗ cellP (F := F) c 1 1) ∗ Wts c (V m c main_arg2) (V m c main_arg4)) := by
  rw [Pipeline.ΦD_eq, scopedRest0_eq, ownSems00_eq, hbmPts0_eq]; simp only [bfG, bfD, owns_whole]; try rfl

theorem PhiD_quiet (c : Dev nD) : (Pipeline.ΦD osem0 spec0 H0 (V m) c : sProp 𝕄) ⊢ iprop(Quiet c (V m c main_arg2) (V m c main_arg4) ∗ (∃ r, prngReg c r)) := by
  rw [PhiD0_eq]; unfold Quiet AnyCur Free
  iintro ⟨⟨HG, HD, HBG, HBD⟩, Hr, ⟨H00, H01, H10, H11⟩, HW⟩
  ihave HG := (splitG c 0) $$ HG
  ihave HD := (splitD c 0) $$ HD
  icases HG with ⟨HG0, HG1⟩
  icases HD with ⟨HD0, HD1⟩
  isplitr [Hr]; swap; · iexact Hr
  isplitl [HBG HBD]
  · isplitl [HBG]; · iexact HBG
    iexact HBD
  isplitl [HW]; · iexact HW
  isplitl [HG0 HD0 H00 H10]
  · isplitl [HG0]; · iexact HG0
    isplitl [HD0]; · iexact HD0
    isplitl [H00]; · iexact H00
    iexact H10
  isplitl [HG1]; · iexact HG1
  isplitl [HD1]; · iexact HD1
  isplitl [H01]; · iexact H01
  iexact H11
theorem quiet_PhiD (c : Dev nD) : (iprop(Quiet c (V m c main_arg2) (V m c main_arg4) ∗ (∃ r, prngReg c r)) : sProp 𝕄) ⊢ Pipeline.ΦD osem0 spec0 H0 (V m) c := by
  rw [PhiD0_eq]; unfold Quiet AnyCur Free
  iintro ⟨⟨⟨HBG, HBD⟩, HW, ⟨HG0, HD0, H00, H10⟩, ⟨HG1, HD1, H01, H11⟩⟩, Hr⟩
  isplitl [HBG HBD HG0 HG1 HD0 HD1]
  · isplitl [HG0 HG1]
    · iapply (unsplitG c 0)
      isplitl [HG0]; · iexact HG0
      iexact HG1
    isplitl [HD0 HD1]
    · iapply (unsplitD c 0)
      isplitl [HD0]; · iexact HD0
      iexact HD1
    isplitl [HBG]; · iexact HBG
    iexact HBD
  isplitl [Hr]; · iexact Hr
  isplitr [HW]; swap; · iexact HW
  isplitl [H00]; · iexact H00
  isplitl [H01]; · iexact H01
  isplitl [H10]; · iexact H10
  iexact H11

/-! ## The pipeline's proof data -/

theorem tl_coords : ∀ t : Fin grid0.N, (tl (grid0.coords t)).val = t.val := by decide +kernel

/-- The block of results stored at point `t`. -/
def oblk (c : Dev nD) (t : Fin (cfgM m hp).N) : Vec F S512x1024 .bf16 :=
  outBlk c (iblk m hp c 0 t) (iblk m hp c 1 t) (iblk m hp c 2 t) (V m c main_arg2) (V m c main_arg4) (pfE (tbl m)) (pfN (tbl m)) (tl (grid0.coords t))

/-- What is held before tile `n`, for memory `m`. -/
abbrev InvM (c : Dev nD) (n : ℕ) : sProp 𝕄 :=
  Inv c (V m c main_arg2) (V m c main_arg4) (pfE (tbl m)) (tbl m 2 : S160.Idx → BitVec 32) (tbl m 3 : S160.Idx → BitVec 32) (pfN (tbl m)) n

/-- The proof data: the arrays as the launch finds them, each input's buffer left at its block, the output's at the block
    of results; between tiles what the plan leaves under way. -/
def dats (_ : Fin 1) (c : Dev nD) : Dat τ (Elt F) Unit ℕ (Pipeline.UD sig nD τ) ℕ (cfgM m hp) c where
  A w := V m c (Pipeline.arrRef spec0 w)
  after w t := match w with
    | ⟨0, _⟩ => iblk m hp c 0 t
    | ⟨1, _⟩ => iblk m hp c 1 t
    | ⟨2, _⟩ => iblk m hp c 2 t
    | ⟨3, _⟩ => oblk m hp c t
  Φ t := iprop(iprop(InvM m c t.val ∗ (∃ r, prngReg c r)) ∗ tabs c (tbl m 0) (tbl m 1) (tbl m 2) (tbl m 3))
  q _ := fullShare
  owed _ := 0

theorem A_eq (c : Dev nD) (w : Fin (cfgM m hp).W) : (dats m hp 0 c).A w = V m c (Pipeline.arrRef spec0 w) := by
  dsimp only [dats]
theorem after0_0 (c : Dev nD) (t : Fin (cfgM m hp).N) : (dats m hp 0 c).after 0 t = iblk m hp c 0 t := by dsimp only [dats]; try rfl
theorem after0_1 (c : Dev nD) (t : Fin (cfgM m hp).N) : (dats m hp 0 c).after 1 t = iblk m hp c 1 t := by dsimp only [dats]; try rfl
theorem after0_2 (c : Dev nD) (t : Fin (cfgM m hp).N) : (dats m hp 0 c).after 2 t = iblk m hp c 2 t := by dsimp only [dats]; try rfl
theorem after0_3 (c : Dev nD) (t : Fin (cfgM m hp).N) : (dats m hp 0 c).after 3 t = oblk m hp c t := by dsimp only [dats]; try rfl

theorem before0_0 (c : Dev nD) (t : Fin (cfgM m hp).N) (d) : (dats m hp 0 c).before 0 t d = iblk m hp c 0 t :=
  before0_0_of m hp (dats m hp 0 c) (A_eq m hp c 0) (after0_0 m hp c) t d
theorem before0_1 (c : Dev nD) (t : Fin (cfgM m hp).N) (d) : (dats m hp 0 c).before 1 t d = iblk m hp c 1 t :=
  before0_1_of m hp (dats m hp 0 c) (A_eq m hp c 1) (after0_1 m hp c) t d
theorem before0_2 (c : Dev nD) (t : Fin (cfgM m hp).N) (d) : (dats m hp 0 c).before 2 t d = iblk m hp c 2 t :=
  before0_2_of m hp (dats m hp 0 c) (A_eq m hp c 2) (after0_2 m hp c) t d

/-! ## The body at a point -/

abbrev bodyAt (t : Fin (cfgM m hp).N) : Prog (TpuEff nD τ sig (Elt F) Λ₀ .tc) PUnit :=
  bodyG (grid0.coords t) (ms0_0 m hp t) (hs0_0 m hp t) (ms0_1 m hp t) (hs0_1 m hp t) (ms0_2 m hp t) (hs0_2 m hp t) (ms0_3 m hp t) (hs0_3 m hp t)

def bodyPre (c : Dev nD) (t : Fin (cfgM m hp).N) : sProp 𝕄 :=
  iprop((dats m hp 0 c).Φ t.castSucc ∗ (dats m hp 0 c).owesAt () t.castSucc
    ∗ (∃ d, owns (c : Thread nD τ) (ms0_0 m hp t) fullShare ((dats m hp 0 c).before 0 t d))
    ∗ (∃ d, owns (c : Thread nD τ) (ms0_1 m hp t) fullShare ((dats m hp 0 c).before 1 t d))
    ∗ (∃ d, owns (c : Thread nD τ) (ms0_2 m hp t) fullShare ((dats m hp 0 c).before 2 t d))
    ∗ (∃ d, owns (c : Thread nD τ) (ms0_3 m hp t) fullShare ((dats m hp 0 c).before 3 t d)))
def bodyPost (c : Dev nD) (t : Fin (cfgM m hp).N) : sProp 𝕄 :=
  iprop((dats m hp 0 c).Φ t.succ ∗ (dats m hp 0 c).owesAt () t.succ
    ∗ owns (c : Thread nD τ) (ms0_0 m hp t) fullShare ((dats m hp 0 c).after 0 t)
    ∗ owns (c : Thread nD τ) (ms0_1 m hp t) fullShare ((dats m hp 0 c).after 1 t)
    ∗ owns (c : Thread nD τ) (ms0_2 m hp t) fullShare ((dats m hp 0 c).after 2 t)
    ∗ owns (c : Thread nD τ) (ms0_3 m hp t) fullShare ((dats m hp 0 c).after 3 t))

theorem nuW_at (c : Dev nD) (f : TbBuf (F := F) c tbN) : nuW c f = tbN.view.read (Elt F) f ix0 := by
  show View.readAt (Elt F) _ _ _ _ = _
  rw [View.readAt_apply]
  exact congrArg _ (funext fun a => Fin.ext (by fin_cases a; rfl))
theorem nuW_eq (c : Dev nD) : nuW c (tbl m 1) = pfN (tbl m) := nuW_at c (tbl m 1)

/-- One point's body at the pipeline's buffers. -/
theorem sound_body (c : Dev nD) (t : Fin (cfgM m hp).N) :
    bodyPre m hp c t ⊢ wp frame (wpE (defs₀ (F := F)) Variants.none c none) Set.univ (bodyAt m hp t) (fun _ => bodyPost m hp c t) := by
  unfold bodyPre bodyPost
  simp only [before0_0, before0_1, before0_2]
  rw [after0_0, after0_1, after0_2, after0_3]
  rw [show (dats m hp 0 c).Φ t.castSucc = iprop(iprop(InvM m c (tl (grid0.coords t)).val ∗ (∃ r, prngReg c r)) ∗ tabs c (tbl m 0) (tbl m 1) (tbl m 2) (tbl m 3)) from by
      rw [tl_coords t]; rfl,
    show (dats m hp 0 c).Φ t.succ = iprop(iprop(After c (V m c main_arg2) (V m c main_arg4) (pfE (tbl m)) (tbl m 2 : S160.Idx → BitVec 32) (tbl m 3 : S160.Idx → BitVec 32) (pfN (tbl m)) (tl (grid0.coords t)) ∗ (∃ r, prngReg c r)) ∗ tabs c (tbl m 0) (tbl m 1) (tbl m 2) (tbl m 3)) from by
      have e : InvM m c ((tl (grid0.coords t)).val + 1) = After c (V m c main_arg2) (V m c main_arg4) (pfE (tbl m)) (tbl m 2 : S160.Idx → BitVec 32) (tbl m 3 : S160.Idx → BitVec 32) (pfN (tbl m)) (tl (grid0.coords t)) := inv_succ c _ _ _ _ _ _ _
      rw [← e, tl_coords t]; rfl]
  unfold Dat.owesAt Pipeline.owesWithin
  rw [show (dats m hp 0 c).owed t.castSucc = 0 from rfl, show (dats m hp 0 c).owed t.succ = 0 from rfl]
  iintro ⟨⟨⟨HV, Hr⟩, HT⟩, ⟨%W, -, HW⟩, ⟨%d0, H0⟩, ⟨%d1, H1⟩, ⟨%d2, H2⟩, ⟨%d3, H3⟩⟩
  iapply (step c (grid0.coords t) (ms0_0 m hp t) (hs0_0 m hp t) (ms0_1 m hp t) (hs0_1 m hp t) (ms0_2 m hp t) (hs0_2 m hp t) (ms0_3 m hp t) (hs0_3 m hp t)
    (iblk m hp c 0 t) (iblk m hp c 1 t) (iblk m hp c 2 t) (tbl m 0) (tbl m 1) (tbl m 2) (tbl m 3) (V m c main_arg2) (V m c main_arg4) hp (fun _ => rfl) (fun _ => rfl) (fun _ => rfl) (nuW_eq m c) W _)
  isplitl [HT]; · iexact HT
  isplitl [H0 H1 H2]
  · isplitl [H0]; · iexact H0
    isplitl [H1]; · iexact H1
    iexact H2
  isplitl [H3]; · iexists _; iexact H3
  isplitl [HV]; · iexact HV
  isplitl [HW]; · iexact HW
  iintro ⟨HT, ⟨H0, H1, H2⟩, H3, HV, ⟨%W', HW'⟩⟩
  isplitl [HT HV Hr]
  · isplitl [HV Hr]
    · isplitl [HV]; · iexact HV
      iexact Hr
    iexact HT
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin (cfgM m hp).N) :
    defs₀ (F := F) .tc (cfgM m hp).body ((cfgM m hp).bodyArgs t ((cfgM m hp).slots t)) = bodyAt m hp t := by
  unfold defs₀; rw [Defs.onTc_tc]

/-- One of the two conditions under which a block is stored holds at every point. -/
theorem idle_word (i : grid0.Coords) (nu : BitVec 32) : (!(k0_cond4 i nu == 1#1) && !(k0_cond5 i nu == 1#1)) = false := by
  rw [cond4_eq, cond5_eq]
  generalize decide (Used nu (tl i)) = b
  cases b <;> rfl

/-- Every point stores its block of results: a tile is in use or it is not. -/
theorem idle_3 (t : Fin (cfgM m hp).N) : idle0 (tbl m) 3 ((pcfg0.gridAt (tbl m)).coords t) = false :=
  idle_word ((pcfg0.gridAt (tbl m)).coords t) ((tbl m).atD 1 ![0])

theorem body_obligation (c : Dev nD) : BodyObligation (dats (F := F) m hp 0 c) (defs₀ (F := F)) Variants.none () Set.univ := fun t => by
  rw [bigSep_W0, bigSep_W0, defs₀_row m hp]
  refine triple_restated (sound_body m hp c t) rfl .rfl fun _ => ?_
  unfold bodyPost
  iintro ⟨HV, HW, H0, H1, H2, H3⟩
  isplitl [HV]; · iexact HV
  isplitl [HW]; · iexact HW
  isplitl [H0]; · iexact H0
  isplitl [H1]; · iexact H1
  isplitl [H2]; · iexact H2
  dsimp only
  rw [idle_3 m hp t]
  iexact H3

/-! ## The run -/

theorem hin (c : Dev nD) : (iprop(Pipeline.ΦD osem0 spec0 H0 (V m) c ∗ Pipeline.ΦT pre0 (tbl m) c) : sProp 𝕄)
    ⊢ iprop(iprop(InvM m c 0 ∗ (∃ r, prngReg c r)) ∗ tabs c (tbl m 0) (tbl m 1) (tbl m 2) (tbl m 3)) := by
  rw [PhiT0_eq]
  iintro ⟨HD, HT⟩
  isplitl [HD]; · iapply (PhiD_quiet m c); iexact HD
  iexact HT
include hp in
theorem hout (c : Dev nD) : (iprop(iprop(InvM m c 160 ∗ (∃ r, prngReg c r)) ∗ tabs c (tbl m 0) (tbl m 1) (tbl m 2) (tbl m 3)) : sProp 𝕄)
    ⊢ Pipeline.ΦD osem0 spec0 H0 (V m) c := by
  iintro ⟨⟨HV, Hr⟩, -⟩
  iapply (quiet_PhiD m c)
  isplitl [HV]; · iapply (inv_last c (V m c main_arg2) (V m c main_arg4) hp); iexact HV
  iexact Hr
theorem Phi_first (c : Dev nD) : (dats m hp 0 c).Φ 0 = iprop(iprop(InvM m c 0 ∗ (∃ r, prngReg c r)) ∗ tabs c (tbl m 0) (tbl m 1) (tbl m 2) (tbl m 3)) := by
  dsimp only [dats]; rfl
theorem Phi_last (c : Dev nD) : (dats m hp 0 c).Φ (Fin.last grid0.N) = iprop(iprop(InvM m c 160 ∗ (∃ r, prngReg c r)) ∗ tabs c (tbl m 0) (tbl m 1) (tbl m 2) (tbl m 3)) := by
  have h : (Fin.last grid0.N).val = 160 := N_0
  dsimp only [dats]; rw [h]

/-! ## The host's lines around the launch -/

section Around
variable (m : (ℓ : Loc nD τ sig) → Buf (Elt F) ℓ) (ρ : Dev nD → PrngReg)

/-- The buffers at the launch: what the host's lines before it leave. -/
def V0 (c : Dev nD) : Valuation τ sig (Elt F) := StableHlo.after Route.pre.flatten (fun b => m (c, b))

theorem pre_sub : (Route.pre : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub, hostOps0_12_sub, hostOps0_13_sub, hostOps0_14_sub, hostOps0_15_sub, hostOps0_16_sub,
    hostOps0_17_sub, hostOps0_18_sub, hostOps0_19_sub, hostOps0_20_sub, hostOps0_21_sub⟩

theorem pre_fresh : (Route.pre : List (List (HloOp τ sig (Elt F)))).Forall fun ops => ops.Forall fun op => op.fresh = ∅ := by
  simp only [Route.pre, List.Forall]; repeat' constructor

/-- The run up to the launch, and the host's lines that follow it. -/
theorem hmain (𝒱₀ : Variants) : Pipeline.HMainPK (Ix := Unit) (Name := ℕ) (U := Pipeline.UD sig nD τ) (Lvl := ℕ) pcfgs 0 defs₀ 𝒱₀ m (main (F := F))
    (fun c b => V0 m c (Proc.devRef .tc b)) (fun _ => Pipeline.chain (Route.post.map StableHlo.seq)) :=
  Pipeline.hmainP_around pcfgs 0 defs₀ 𝒱₀ m main Route.pre Route.post pre_sub pre_fresh main_chain

/-- The buffers at the launch, stage by stage. -/
theorem V0_eq (c : Dev nD) : V0 m c = Route.S21 (fun b => m (c, b)) := Route.after_pre _

theorem V_arg0 (c : Dev nD) : V (V0 m) c main_arg0 = m ((c : Thread nD τ).loc main_arg0) := by
  show V0 m c _ = _; rw [V0_eq]; exact Route.arg0_S21 _
theorem V_arg1 (c : Dev nD) : V (V0 m) c main_arg1 = m ((c : Thread nD τ).loc main_arg1) := by
  show V0 m c _ = _; rw [V0_eq]; exact Route.arg1_S21 _
theorem V_arg2 (c : Dev nD) : V (V0 m) c main_arg2 = m ((c : Thread nD τ).loc main_arg2) := by
  show V0 m c _ = _; rw [V0_eq]; exact Route.arg2_S21 _
theorem V_arg3 (c : Dev nD) : V (V0 m) c main_arg3 = m ((c : Thread nD τ).loc main_arg3) := by
  show V0 m c _ = _; rw [V0_eq]; exact Route.arg3_S21 _
theorem V_arg4 (c : Dev nD) : V (V0 m) c main_arg4 = m ((c : Thread nD τ).loc main_arg4) := by
  show V0 m c _ = _; rw [V0_eq]; exact Route.arg4_S21 _
theorem V_arg5 (c : Dev nD) : V (V0 m) c main_arg5 = m ((c : Thread nD τ).loc main_arg5) := by
  show V0 m c _ = _; rw [V0_eq]; exact Route.arg5_S21 _

/-- The lines after the launch use neither its tables nor the two weight arrays. -/
theorem post_but : ∀ ops ∈ (Route.post : List (List (HloOp τ sig (Elt F)))), ∀ op ∈ ops, op.bufs ⊆ Pipeline.tailRefsBut sig pre0 spec0 H0 := by
  intro ops hops op hop
  obtain rfl := List.mem_singleton.mp hops
  have hk : ∀ b : Ref sig .tc, (b = main_v72 ∨ b = main_v94 ∨ b = main_v101 ∨ b = main_v110 ∨ b = main_arg2 ∨ b = main_arg4) → Proc.devRef .tc b ∉ op.bufs := by
    simp only [hostOps1, List.mem_cons, List.mem_nil_iff, or_false] at hop
    rcases hop with rfl | rfl | rfl | rfl | rfl | rfl | rfl | rfl | rfl | rfl | rfl | rfl
    all_goals intro b hb; rcases hb with rfl | rfl | rfl | rfl | rfl | rfl <;>
      simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  refine Pipeline.sub_tailRefsBut pre0 spec0 H0 op ((List.forall_iff_forall_mem.mp hostOps1_sub) op hop) ?_ ?_
  · have hj : ∀ j : Fin 4, (pre0.ref j = main_v72 ∨ pre0.ref j = main_v94 ∨ pre0.ref j = main_v101 ∨ pre0.ref j = main_v110 ∨ pre0.ref j = main_arg2 ∨ pre0.ref j = main_arg4) := by decide
    exact fun j => hk _ (hj j)
  · intro b hb
    simp only [H0, Finset.mem_insert, Finset.mem_singleton] at hb
    exact hk b (by rcases hb with h | h <;> simp only [h, true_or, or_true])

theorem post_fresh : ∀ ops ∈ (Route.post : List (List (HloOp τ sig (Elt F)))), ∀ op ∈ ops, op.fresh = ∅ := by
  intro ops hops
  obtain rfl := List.mem_singleton.mp hops
  refine List.forall_iff_forall_mem.mp ?_
  simp only [List.Forall]; repeat' constructor

/-- They write no array of the launch. -/
theorem post_keeps : ∀ ops ∈ (Route.post : List (List (HloOp τ sig (Elt F)))), ∀ op ∈ ops, ∀ w, Proc.devRef .tc (Pipeline.arrRef spec0 w) ∉ op.writes := by
  intro ops hops op hop
  obtain rfl := List.mem_singleton.mp hops
  have hk : ∀ b : Ref sig .tc, (b = main_v118 ∨ b = main_v119 ∨ b = main_v120 ∨ b = main_v121) → Proc.devRef .tc b ∉ op.writes := by
    simp only [hostOps1, List.mem_cons, List.mem_nil_iff, or_false] at hop
    rcases hop with rfl | rfl | rfl | rfl | rfl | rfl | rfl | rfl | rfl | rfl | rfl | rfl
    all_goals intro b hb; rcases hb with rfl | rfl | rfl | rfl <;>
      simp only [StableHlo.nullary_writes, StableHlo.unary_writes, StableHlo.binary_writes, StableHlo.ternary_writes, StableHlo.reshape_writes, Finset.mem_singleton] <;> exact StableHlo.devRef_ne_of_ne (by decide)
  have hj : ∀ w : Fin 4, (Pipeline.arrRef spec0 w = main_v118 ∨ Pipeline.arrRef spec0 w = main_v119 ∨ Pipeline.arrRef spec0 w = main_v120 ∨ Pipeline.arrRef spec0 w = main_v121) := by decide
  exact fun w => hk _ (hj w)

variable (hp : PlanM (V0 m))

/-- What every buffer the launch leaves alone holds at the end. -/
abbrev finalV (c : Dev nD) (b : Ref sig .tc) : Buf (Elt F) ((c : Thread nD τ).loc b) :=
  Pipeline.afterTail pcfgs (fun _ => adm (V0 m) hp) (dats (V0 m) hp) 0 (V0 m) Route.post c b

set_option backward.isDefEq.respectTransparency.types false in
/-- Every execution ends, with every array of the pipeline at what its proof data say, every other buffer at what the
    host's later lines leave, and every counter at zero. -/
theorem run_main : θ_run defs (onTc (τ := τ) (main (F := F))) (s₀ m ρ) (fun r => (Pipeline.FramePost (Pipeline.pin pcfgs fun _ => adm (V0 m) hp) (dats (V0 m) hp) 0 (finalV m hp)) r ∧ r.2.sem = fun _ => 0) :=
  Pipeline.θ_run_frameP_dma_around (Q' := _) pcfgs (fun _ => adm (V0 m) hp) (dats (V0 m) hp) (0 : Fin 1) launch0 osem0 defs₀ Variants.none ownSemFacts0 H0 H0_sub m ρ main
    (hbody := fun c => (body_obligation (V0 m) hp c).loose) (hshare := fun c => (dats (V0 m) hp 0 c).share_full fun _ => rfl)
    (howed := fun _ _ => rfl) (V₀ := V0 m) (opss := Route.post) (hsub := post_but) (hfresh := post_fresh) (hkeep := post_keeps)
    (hmain := hmain m Variants.none) (hA := A_eq (V0 m) hp) (hpf := V_pre (V0 m))
    (hin := fun c => by rw [Phi_first (V0 m) hp c]; exact hin (V0 m) c) (hout := fun c => (entails_of_eq (Phi_last (V0 m) hp c)).trans (hout (V0 m) hp c))

end Around

end Cert.Proof.Moe
-- ==== Proof.Route.Count.lean ====
/-
  The routing over the naturals: the rows of each expert rounded up to tiles, the experts' runs of tiles, and where a sorted row lands.
-/
module

public import Idealize.ShloMosaic.Lib.Routing.Count
public import Mathlib.Algebra.BigOperators.Intervals
public import Mathlib.Algebra.Order.BigOperators.Group.Finset
public import Mathlib.Data.Fintype.Card

@[expose] public section

set_option maxRecDepth 16384

namespace Cert.Proof.Route

open Idealize.ShloMosaic
open Finset

/-! ## Counts -/

theorem count_none (p : ℕ → Prop) [DecidablePred p] (n : ℕ) (h : ∀ k < n, ¬p k) : Nat.count p n = 0 := Nat.count_iff_forall_not.mpr h
theorem count_all (p : ℕ → Prop) [DecidablePred p] (n : ℕ) (h : ∀ k < n, p k) : Nat.count p n = n := Nat.count_iff_forall.mpr h
theorem sum_count (E : ℕ → ℕ) (N e : ℕ) : ∑ i ∈ range e, Nat.count (fun a => E a = i) N = Nat.count (fun a => E a < e) N := by
  induction e with
  | zero => rw [sum_range_zero, count_none _ _ fun _ _ => Nat.not_lt_zero _]
  | succ e ih =>
    rw [sum_range_succ, ih, ← Routing.card_filter_fin, ← Routing.card_filter_fin, ← Routing.card_filter_fin, ← card_union_of_disjoint]
    · congr 1; ext a; simp only [mem_union, mem_filter, mem_univ, true_and]; omega
    · rw [disjoint_filter]; intro a _ h1 h2; omega

section
variable (E : ℕ → ℕ)

/-- How many of the assignments go to expert `e`. -/
def cntN (e : ℕ) : ℕ := Nat.count (fun a => E a = e) 65536
/-- The same rounded up to whole tiles of 512. -/
def padN (e : ℕ) : ℕ := (cntN E e + 511) / 512 * 512
/-- Where expert `e`'s rows begin. -/
def finN (e : ℕ) : ℕ := ∑ i ∈ range e, padN E i
/-- How many filling rows the experts up to and including `e` take. -/
def fillcumN (e : ℕ) : ℕ := ∑ i ∈ range (e + 1), (padN E i - cntN E i)
/-- The expert filling row `j` counts for. -/
def fillN (j : ℕ) : ℕ := Nat.count (fun e => fillcumN E e ≤ j) 32
/-- The expert of row `r`, an assignment or a filling row. -/
def expN (r : ℕ) : ℕ := if r < 65536 then E r else fillN E (r - 65536)
/-- The key row `r` is sorted by. -/
def keyN (r : ℕ) : ℕ := expN E r * 131072 + r

theorem cnt_le_pad (e : ℕ) : cntN E e ≤ padN E e := by unfold padN; omega
theorem pad_le (e : ℕ) : padN E e ≤ cntN E e + 511 := by unfold padN; omega
theorem pad_pos {e : ℕ} (h : 0 < cntN E e) : 512 ≤ padN E e := by unfold padN; omega
theorem cnt_of_pad {e : ℕ} (h : padN E e = 0) : cntN E e = 0 := by unfold padN at h; omega
theorem pad_dvd (e : ℕ) : 512 ∣ padN E e := Dvd.intro_left _ rfl
theorem fin_succ (e : ℕ) : finN E (e + 1) = finN E e + padN E e := sum_range_succ _ _
theorem fin_dvd (e : ℕ) : 512 ∣ finN E e := by
  induction e with
  | zero => simp [finN]
  | succ e ih => rw [fin_succ]; exact Nat.dvd_add ih (pad_dvd E e)
theorem fin_mono {a b : ℕ} (h : a ≤ b) : finN E a ≤ finN E b :=
  sum_le_sum_of_subset (range_mono h)
theorem fillcum_mono {a b : ℕ} (h : a ≤ b) : fillcumN E a ≤ fillcumN E b :=
  sum_le_sum_of_subset (range_mono (by omega))
theorem fillcum_le (e : ℕ) : fillcumN E e ≤ 511 * (e + 1) := by
  unfold fillcumN
  refine (sum_le_card_nsmul _ _ 511 fun i _ => ?_).trans (by rw [card_range]; exact (Nat.mul_comm _ _).le)
  have := pad_le E i; omega

theorem sum_cnt (e : ℕ) : ∑ i ∈ range e, cntN E i = Nat.count (fun a => E a < e) 65536 := sum_count E _ e

theorem fin_eq (e : ℕ) : finN E (e + 1) = ∑ i ∈ range (e + 1), cntN E i + fillcumN E e := by
  unfold finN fillcumN
  rw [← sum_add_distrib]
  exact sum_congr rfl fun i _ => by have := cnt_le_pad E i; omega

theorem fill_lt (j e : ℕ) (he : e < 32) : fillN E j < e + 1 ↔ j < fillcumN E e := by
  have h := Routing.lt_count_iff (N := 32) (Q := fun e => fillcumN E e ≤ j) (fun a b hab _ hb => (fillcum_mono E hab).trans hb) he
  unfold fillN
  omega
theorem fill_le (j : ℕ) : fillN E j ≤ 32 := Nat.count_le (p := fun e => fillcumN E e ≤ j) (n := 32)

theorem count_lt (n m : ℕ) (h : m ≤ n) : Nat.count (fun j => j < m) n = m := by
  obtain ⟨d, rfl⟩ := Nat.exists_eq_add_of_le h
  rw [Nat.count_add, (Nat.count_iff_forall (p := fun j => j < m) (n := m)).mpr fun i hi => hi, Nat.count_iff_forall_not.mpr fun i _ => by omega]
  rfl

theorem count_exp (e : ℕ) (he : e ≤ 32) : Nat.count (fun r => expN E r < e) 81920 = finN E e := by
  rcases e with _ | e
  · rw [count_none _ _ fun _ _ => Nat.not_lt_zero _]; rfl
  · rw [show 81920 = 65536 + 16384 from rfl, Nat.count_add, fin_eq, sum_cnt]
    refine congrArg₂ (· + ·) ?_ ?_
    · exact Routing.count_congr_of_lt _ fun i hi => by rw [expN, if_pos hi]
    · have h1 := fillcum_le E e
      rw [← count_lt 16384 (fillcumN E e) (by omega)]
      refine Routing.count_congr_of_lt _ fun i hi => ?_
      rw [expN, if_neg (by omega), Nat.add_sub_cancel_left]
      exact fill_lt E i e (by omega)

theorem exp_le (hE : ∀ a < 65536, E a < 32) (r : ℕ) : expN E r ≤ 32 := by
  unfold expN; split
  · rename_i h; have := hE r h; omega
  · exact fill_le E _
theorem key_lt (hE : ∀ a < 65536, E a < 32) {r : ℕ} (hr : r < 81920) : keyN E r < 4325376 := by
  have := exp_le E hE r; unfold keyN; omega
theorem key_inj {a b : ℕ} (ha : a < 81920) (hb : b < 81920) (h : keyN E a = keyN E b) : a = b := by
  unfold keyN at h; omega

/-- A row's place in the order of the keys lies in its expert's run. -/
theorem place_mem (hE : ∀ a < 65536, E a < 32) (σ : Fin 81920 → Fin 81920) (hσ : Function.Bijective σ)
    (hm : ∀ i j, i < j → keyN E (σ i).val < keyN E (σ j).val) (p : Fin 81920) (hp : expN E (σ p).val < 32) :
    finN E (expN E (σ p).val) ≤ p.val ∧ p.val < finN E (expN E (σ p).val + 1) := by
  obtain ⟨a, ha⟩ : ∃ a, a = σ p := ⟨_, rfl⟩
  rw [← ha] at hp ⊢
  have hiff : ∀ q, keyN E (σ q).val < keyN E a.val ↔ q < p := fun q => by
    constructor
    · intro h; by_contra hq
      rcases (not_lt.mp hq).lt_or_eq with h1 | h1
      · have := hm p q h1; rw [← ha] at this; omega
      · subst h1; rw [← ha] at h; omega
    · intro h; rw [ha]; exact hm q p h
  have hc : (univ.filter fun r : Fin 81920 => keyN E r.val < keyN E a.val).card = p.val := by
    refine (congrArg card (a₂ := (univ.filter fun q : Fin 81920 => q < p).map ⟨σ, hσ.1⟩) ?_).trans ?_
    · ext r
      obtain ⟨q, rfl⟩ := hσ.2 r
      simp only [mem_filter, mem_univ, true_and, mem_map, Function.Embedding.coeFn_mk]
      rw [hiff]
      constructor
      · intro h; exact ⟨q, h, rfl⟩
      · rintro ⟨q', h, e⟩; rwa [← hσ.1 e]
    · rw [card_map]
      have := Fin.card_Iio p
      rw [← this]; exact congrArg card (by ext q; simp only [mem_filter, mem_univ, true_and, mem_Iio])
  have h1 := count_exp E (expN E a.val) (by omega)
  have h2 := count_exp E (expN E a.val + 1) (by omega)
  rw [← Routing.card_filter_fin] at h1 h2
  constructor
  · rw [← h1, ← hc]
    refine card_le_card fun r hr => ?_
    simp only [mem_filter, mem_univ, true_and] at hr ⊢
    unfold keyN; have := r.isLt; omega
  · rw [← h2, ← hc]
    refine card_lt_card ⟨fun r hr => ?_, fun h => ?_⟩
    · simp only [mem_filter, mem_univ, true_and] at hr ⊢
      unfold keyN at hr; have := a.isLt; omega
    · have := h (show a ∈ _ by simp)
      simp at this

/-! ## Tiles -/

/-- The expert of tile `k`. -/
def tileN (k : ℕ) : ℕ := min (Nat.count (fun e => finN E (e + 1) ≤ k * 512) 32) (Nat.count (fun e => finN E (e + 1) ≤ finN E 32 - 1) 32)

theorem count_fin_iff (x e : ℕ) (he : e < 32) : finN E (e + 1) ≤ x ↔ e < Nat.count (fun e => finN E (e + 1) ≤ x) 32 :=
  Routing.lt_count_iff (N := 32) (Q := fun e => finN E (e + 1) ≤ x) (fun a b hab _ hb => (fin_mono E (by omega)).trans hb) he

variable (hE : ∀ a < 65536, E a < 32)
include hE

theorem total_cnt : ∑ i ∈ range 32, cntN E i = 65536 := by
  rw [sum_cnt]; exact count_all _ _ hE
theorem total_ge : 65536 ≤ finN E 32 := by
  rw [show (32 : ℕ) = 31 + 1 from rfl, fin_eq, total_cnt E hE]; omega
theorem total_le : finN E 32 ≤ 81888 := by
  have h := fillcum_le E 31
  rw [show (32 : ℕ) = 31 + 1 from rfl, fin_eq, total_cnt E hE]; omega
theorem cnt_le (e : ℕ) : cntN E e ≤ 65536 := Nat.count_le (p := fun a => E a = e) (n := 65536)
theorem last_lt : Nat.count (fun e => finN E (e + 1) ≤ finN E 32 - 1) 32 < 32 := by
  have h := count_fin_iff E (finN E 32 - 1) 31 (by omega)
  have := total_ge E hE
  have h2 : Nat.count (fun e => finN E (e + 1) ≤ finN E 32 - 1) 32 ≤ 32 := Nat.count_le (p := fun e => finN E (e + 1) ≤ finN E 32 - 1) (n := 32)
  simp only [show 31 + 1 = 32 from rfl] at h
  omega
theorem tile_lt (k : ℕ) : tileN E k < 32 := lt_of_le_of_lt (min_le_right _ _) (last_lt E hE)

/-- A tile in use begins inside its expert's run. -/
theorem tile_mem {k : ℕ} (hk : k * 512 < finN E 32) : finN E (tileN E k) ≤ k * 512 ∧ k * 512 < finN E (tileN E k + 1) := by
  have hl := last_lt E hE
  have hle : Nat.count (fun e => finN E (e + 1) ≤ k * 512) 32 ≤ Nat.count (fun e => finN E (e + 1) ≤ finN E 32 - 1) 32 :=
    by
      rw [← Routing.card_filter_fin, ← Routing.card_filter_fin]
      exact card_le_card fun x hx => by simp only [mem_filter, mem_univ, true_and] at hx ⊢; omega
  have e : tileN E k = Nat.count (fun e => finN E (e + 1) ≤ k * 512) 32 := min_eq_left hle
  constructor
  · rcases h : tileN E k with _ | t
    · simp [finN]
    · exact (count_fin_iff E (k * 512) t (by omega)).mpr (by omega)
  · have := (count_fin_iff E (k * 512) (tileN E k) (by omega)).not.mpr (by omega)
    omega

/-- The expert whose run an aligned place is in is its tile's. -/
theorem tile_of_place {p e : ℕ} (he : e < 32) (h1 : finN E e ≤ p) (h2 : p < finN E (e + 1)) : tileN E (p / 512) = e := by
  have hm := fin_mono E (show e + 1 ≤ 32 by omega)
  obtain ⟨d, hd⟩ := fin_dvd E e
  obtain ⟨a, b⟩ := tile_mem E hE (k := p / 512) (by omega)
  rcases lt_trichotomy (tileN E (p / 512)) e with h | h | h
  · have := fin_mono E (show tileN E (p / 512) + 1 ≤ e by omega); omega
  · exact h
  · have := fin_mono E (show e + 1 ≤ tileN E (p / 512) by omega)
    omega

theorem tile_cnt {k : ℕ} (hk : k * 512 < finN E 32) : 0 < cntN E (tileN E k) := by
  obtain ⟨a, b⟩ := tile_mem E hE hk
  rw [fin_succ] at b
  by_contra h
  have : padN E (tileN E k) = 0 := by unfold padN; omega
  omega

/-- Where the expert changes from one tile to the next, no expert between has rows. -/
theorem tile_step {k : ℕ} (hk : (k + 1) * 512 < finN E 32) (hne : tileN E (k + 1) ≠ tileN E k) :
    tileN E k < tileN E (k + 1) ∧ ∀ e, tileN E k < e → e < tileN E (k + 1) → cntN E e = 0 := by
  obtain ⟨a, b⟩ := tile_mem E hE (k := k) (by omega)
  obtain ⟨a', b'⟩ := tile_mem E hE hk
  obtain ⟨d, hd⟩ := fin_dvd E (tileN E k + 1)
  have hlt : tileN E k < tileN E (k + 1) := by
    by_contra h
    have := fin_mono E (show tileN E (k + 1) + 1 ≤ tileN E k by omega)
    omega
  refine ⟨hlt, fun e h1 h2 => cnt_of_pad E ?_⟩
  have h3 := fin_mono E (show e + 1 ≤ tileN E (k + 1) by omega)
  have h4 := fin_mono E (show tileN E k + 1 ≤ e by omega)
  rw [fin_succ] at h3
  omega

theorem count_step {k : ℕ} (hk : (k + 1) * 512 < finN E 32) (hne : tileN E (k + 1) ≠ tileN E k) :
    Nat.count (fun e => 0 < cntN E e) (tileN E (k + 1) + 1) = Nat.count (fun e => 0 < cntN E e) (tileN E k + 1) + 1 := by
  obtain ⟨h1, h2⟩ := tile_step E hE hk hne
  obtain ⟨d, hd⟩ := Nat.exists_eq_add_of_le (show tileN E k + 1 ≤ tileN E (k + 1) by omega)
  rw [Nat.count_succ, if_pos (tile_cnt E hE hk), hd, Nat.count_add,
    (Nat.count_iff_forall_not (p := fun i => 0 < cntN E (tileN E k + 1 + i)) (n := d)).mpr fun i hi => by rw [h2 _ (by omega) (by omega)]; omega]

/-- No expert after the last tile's has rows. -/
theorem tile_last {k e : ℕ} (hk : k * 512 < finN E 32) (hl : finN E 32 ≤ (k + 1) * 512) (he : e < 32) (h : tileN E k < e) : cntN E e = 0 := by
  obtain ⟨a, b⟩ := tile_mem E hE hk
  obtain ⟨d, hd⟩ := fin_dvd E (tileN E k + 1)
  have h3 := fin_mono E (show e + 1 ≤ 32 by omega)
  have h4 := fin_mono E (show tileN E k + 1 ≤ e by omega)
  rw [fin_succ] at h3
  exact cnt_of_pad E (by omega)
end

end Cert.Proof.Route
-- ==== Proof.Route.Words.lean ====
/-
  The routing's stages read at an index: each holds the word of its natural number.
-/
module

public import proofs.«01_k».proof.Proof.Route.Terms
public import proofs.«01_k».proof.Proof.Route.Count
public import Idealize.ShloMosaic.Lib.Routing.OpsSearch
public import Idealize.ShloMosaic.Lib.PlanTiles.Rows
public import Idealize.ShloMosaic.Lib.SortFacts
public import Mathlib.Order.WellFounded
public import Idealize.ShloMosaic.Lib.SortNet.Extract
public import Idealize.ShloMosaic.Lib.StableHlo.Predicate

@[expose] public section

set_option maxRecDepth 16384

noncomputable section

namespace Cert.Proof.Route

open Cert.KernelIdeal Cert.KernelIdeal.Gen
open Idealize.ShloMosaic Idealize.ShloMosaic.ValueIdx Idealize.ShloMosaic.WordCmp
open Idealize.ShloMosaic.TcCoe

/-! ## Words -/

theorem list_sum (f : ℕ → ℕ) (n : ℕ) : ((List.range n).map f).sum = ∑ i ∈ Finset.range n, f i := by
  induction n with
  | zero => rfl
  | succ n ih => rw [List.range_succ, List.map_append, List.sum_append, ih, Finset.sum_range_succ]; simp

theorem ofBool_one (p : Prop) [Decidable p] : (BitVec.ofBool (decide p) = 1#1) ↔ p := ofBool_decide_eq_one_iff p

theorem word_eq {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A word shifted up by seventeen joined with a smaller number is their sum. -/
theorem join_word {k r : ℕ} (hk : k ≤ 32) (hr : r < 131072) :
    IntOp.ori (IntOp.shli .host (BitVec.ofNat 32 k) 17#32) (BitVec.ofNat 32 r) = BitVec.ofNat 32 (k * 131072 + r) := by
  have h : IntOp.shli .host (BitVec.ofNat 32 k) 17#32 = BitVec.ofNat 32 (k * 131072) := by
    have : k < 33 := by omega
    interval_cases k <;> decide
  rw [h]
  show BitVec.ofNat 32 (k * 131072) ||| BitVec.ofNat 32 r = _
  apply BitVec.eq_of_toNat_eq
  rw [BitVec.toNat_or, BitVec.toNat_ofNat, BitVec.toNat_ofNat, BitVec.toNat_ofNat, Nat.mod_eq_of_lt (by omega), Nat.mod_eq_of_lt (by omega), Nat.mod_eq_of_lt (by omega)]
  rw [show k * 131072 = 2 ^ 17 * k from by omega]
  exact (Nat.two_pow_add_eq_or_of_lt (by simpa using hr) k).symm

/-- The low seventeen bits of a key. -/
theorem low_word {n : ℕ} (hn : n < 2 ^ 32) : IntOp.andi (BitVec.ofNat 32 n) 131071#32 = BitVec.ofNat 32 (n % 131072) := by
  show BitVec.ofNat 32 n &&& 131071#32 = _
  apply BitVec.eq_of_toNat_eq
  rw [BitVec.toNat_and, BitVec.toNat_ofNat, BitVec.toNat_ofNat, BitVec.toNat_ofNat, Nat.mod_eq_of_lt hn, Nat.mod_eq_of_lt (by omega), Nat.mod_eq_of_lt (by omega)]
  exact Nat.and_two_pow_sub_one_eq_mod n 17

/-! ## The sort -/

/-- The row a place of the order by distinct keys comes from. -/
def srcOf {n : ℕ} (K : Fin n → ℕ) : Fin n → Fin n := sortedFrom fun a b => decide (K a < K b)

theorem srcOf_bij {n : ℕ} (K : Fin n → ℕ) : Function.Bijective (srcOf K) := ⟨sortedFrom_injective _, sortedFrom_surjective _⟩
theorem srcOf_mono {n : ℕ} (K : Fin n → ℕ) (hK : Function.Injective K) (i j : Fin n) (h : i < j) : K (srcOf K i) < K (srcOf K j) := by
  have := sortedFrom_noInversion (fun a b => decide (K a < K b)) (fun a b => decide (K a < K b))
    (fun a b h => by simp only [decide_eq_true_eq, decide_eq_false_iff_not] at h ⊢; omega) (fun _ _ h => h)
    (fun a b c h₁ h₂ => by simp only [decide_eq_false_iff_not] at h₁ h₂ ⊢; omega) i j h
  simp only [decide_eq_false_iff_not] at this
  have hne : K (srcOf K i) ≠ K (srcOf K j) := fun e => absurd ((srcOf_bij K).1 (hK e)) h.ne
  unfold srcOf at hne ⊢
  omega

/-- Sorting the row numbers of a permutation inverts it. -/
theorem srcOf_inv {n : ℕ} (σ : Fin n → Fin n) (hσ : Function.Bijective σ) (r : Fin n) : σ (srcOf (fun p => (σ p).val) r) = r := by
  have hm : StrictMono fun r => σ (srcOf (fun p => (σ p).val) r) := fun i j h =>
    srcOf_mono (fun p => (σ p).val) (fun a b e => hσ.1 (Fin.ext e)) i j h
  have hs : Function.Surjective fun r => σ (srcOf (fun p => (σ p).val) r) := hσ.2.comp (srcOf_bij _).2
  have hr : Set.range (fun r => σ (srcOf (fun p => (σ p).val) r)) = Set.range (id : Fin n → Fin n) := by
    rw [Set.range_id]; exact hs.range_eq
  exact congrFun ((StrictMono.range_inj hm strictMono_id).mp hr) r

theorem ofFin_ix {n : ℕ} (k : Fin n) : Shape.Idx.ofFin k = ix1 k := by
  funext a; have : a = 0 := Subsingleton.elim _ _; subst this; rfl

theorem before_word {a b : ℕ} (ha : a < 2 ^ 31) (hb : b < 2 ^ 31) : (IntOp.cmpi .slt (BitVec.ofNat 32 a) (BitVec.ofNat 32 b) == 1#1) = decide (a < b) := by
  rw [cmpi_slt_ofNat (w := 32) ha hb]
  by_cases h : a < b <;> simp [h]

theorem sort_ap {n : ℕ} (x : IVec ⟨1, ![n]⟩ 32) (K : Fin n → ℕ) (hx : ∀ a, x (ix1 a) = BitVec.ofNat 32 (K a)) (hK : ∀ a, K a < 2 ^ 31) (r : Fin n) :
    Host.sort ⟨1, ![n]⟩ 0 comparator_i32_d0 x (ix1 r) = BitVec.ofNat 32 (K (srcOf K r)) := by
  rw [Host.sort_rank1, ofFin_ix, hx]
  unfold srcOf
  congr 3
  funext a b
  rw [ofFin_ix, ofFin_ix, hx, hx]
  exact before_word (hK a) (hK b)

theorem sort2_ap {n : ℕ} (x : IVec ⟨1, ![n]⟩ 32) (y : (⟨1, ![n]⟩ : Shape).Idx → BitVec 32) (K : Fin n → ℕ) (hx : ∀ a, x (ix1 a) = BitVec.ofNat 32 (K a)) (hK : ∀ a, K a < 2 ^ 31) (r : Fin n) :
    (Host.sort2 ⟨1, ![n]⟩ 0 comparator_i32_i32_d0 x y).2 (ix1 r) = y (ix1 (srcOf K r)) := by
  have hd : 0 < (⟨1, ![n]⟩ : Shape).rank := Nat.one_pos
  have e : ∀ c : Fin n, (ix1 r).along (⟨0, hd⟩ : Fin (⟨1, ![n]⟩ : Shape).rank) c = ix1 c := fun c => (Shape.Idx.along_rank1 _ c).trans (ofFin_ix c)
  have hsrc : sortedFrom (n := n)
      (fun a b : Fin n => comparator_i32_i32_d0 (x ((ix1 r).along ⟨0, hd⟩ a), y ((ix1 r).along ⟨0, hd⟩ a))
        (x ((ix1 r).along ⟨0, hd⟩ b), y ((ix1 r).along ⟨0, hd⟩ b)) == 1#1) r = srcOf K r := by
    unfold srcOf
    refine congrFun (congrArg sortedFrom (funext fun a => funext fun b => ?_)) r
    show (IntOp.cmpi .slt (x ((ix1 r).along ⟨0, hd⟩ a)) (x ((ix1 r).along ⟨0, hd⟩ b)) == 1#1) = _
    rw [show x ((ix1 r).along ⟨0, hd⟩ a) = _ from (congrArg x (e a)).trans (hx a), show x ((ix1 r).along ⟨0, hd⟩ b) = _ from (congrArg x (e b)).trans (hx b)]
    exact before_word (hK a) (hK b)
  unfold Host.sort2
  rw [dif_pos hd]
  exact (congrArg (fun c : Fin n => y ((ix1 r).along ⟨0, hd⟩ c)) hsrc).trans (congrArg y (e _))

/-! ## The stages -/

section
variable (E : ℕ → ℕ) (hE : ∀ a < 65536, E a < 32) (fe : IVec S65536 32) (hfe : ∀ a : Fin 65536, fe (ix1 a) = BitVec.ofNat 32 (E a.val))
include hE hfe

theorem counts_ap (e : Fin 32) : counts fe (ix1 e) = BitVec.ofNat 32 (cntN E e.val) := by
  unfold counts cntN
  apply BitVec.eq_of_toNat_eq
  rw [StableHlo.Predicate.toNat_reduce_count_rows (by decide), BitVec.toNat_ofNat, Nat.mod_eq_of_lt (lt_of_le_of_lt (Nat.count_le _) (by decide)), ← Routing.card_filter_fin]
  refine congrArg Finset.card (Finset.filter_congr fun p _ => ?_)
  rw [Routing.ij_eq_ix2]
  show IntOp.cmpi .eq _ _ = 1#1 ↔ _
  rw [cmpi_eq_eq, ofBool_one]
  rw [Routing.bcRows, hfe, broadcastInDim_apply _ _ _ _ (ix2 (0 : Fin 1) e) (fun a => by fin_cases a <;> rfl)]
  show BitVec.ofNat 32 (E p.val) = BitVec.ofNat 32 e.val ↔ _
  exact word_eq (by have := hE p.val p.isLt; omega) (by have := e.isLt; omega)

theorem padded_ap (e : Fin 32) : padded (counts fe) (ix1 e) = BitVec.ofNat 32 (padN E e.val) := by
  have hc := cnt_le E hE e.val
  unfold padded
  show IntOp.muli _ _ = _
  rw [Routing.pyDiv_ap (a := cntN E e.val + 511) (b := 512) _ _ _ _ ?_ rfl (by omega) (by omega) (by omega), Routing.bc0]
  · show BitVec.ofNat 32 _ * BitVec.ofNat 32 512 = _
    unfold padN
    apply BitVec.eq_of_toNat_eq
    rw [BitVec.toNat_mul]; simp only [BitVec.toNat_ofNat]; omega
  · rw [Routing.subi_ap, Routing.addi_ap, counts_ap E hE fe hfe, Routing.bc0, Routing.bc0]
    show BitVec.ofNat 32 _ + BitVec.ofNat 32 512 - BitVec.ofNat 32 1 = _
    rw [BitVec.ofNat_add_ofNat, Routing.ofNat32_sub (by omega)]
    rfl

omit hE hfe in
theorem running_ap (x : IVec S32 32) (f : ℕ → ℕ) (hx : ∀ i : Fin 32, x (ix1 i) = BitVec.ofNat 32 (f i.val)) (j : Fin 32) :
    running x (ix1 j) = BitVec.ofNat 32 (∑ i ∈ Finset.range (j.val + 1), f i) := by
  unfold running
  rw [← list_sum]
  exact Routing.cumsum1 (by decide) x f hx _ (by rw [Routing.bc0]; rfl) _ _ j

theorem ends_ap (j : Fin 32) : running (padded (counts fe)) (ix1 j) = BitVec.ofNat 32 (finN E (j.val + 1)) :=
  running_ap _ (padN E) (padded_ap E hE fe hfe) j

theorem fillcum_ap (j : Fin 32) : running (subi (padded (counts fe)) (counts fe)) (ix1 j) = BitVec.ofNat 32 (fillcumN E j.val) :=
  running_ap _ (fun i => padN E i - cntN E i) (fun i => by
    rw [Routing.subi_ap, padded_ap E hE fe hfe, counts_ap E hE fe hfe, Routing.ofNat32_sub (cnt_le_pad E _)]) j

theorem fill_ap (j : Fin 16384) : fillE (running (subi (padded (counts fe)) (counts fe))) (ix1 j) = BitVec.ofNat 32 (fillN E j.val) := by
  unfold fillE fillN
  refine Routing.reduce_count (by decide) _ _ _ _ j (fun e => fillcumN E e ≤ j.val) fun q => ?_
  show IntOp.cmpi .sge _ _ = 1#1 ↔ _
  rw [Routing.bcRows, Routing.bcCols, fillcum_ap E hE fe hfe]
  have h1 := fillcum_le E q.val
  exact cmpi_sge_ofNat_eq_one_iff (w := 32) (lt_of_lt_of_le j.isLt (by decide)) (by have := q.isLt; omega)

theorem keys_ap (r : Fin 81920) : keys fe (fillE (running (subi (padded (counts fe)) (counts fe)))) (ix1 r) = BitVec.ofNat 32 (keyN E r.val) := by
  unfold keys
  have hc : concatenate S81920 0 [⟨S65536, fe⟩, ⟨S16384, fillE (running (subi (padded (counts fe)) (counts fe)))⟩] concatenates_S65536_S16384_S81920_d0 (ix1 r) = BitVec.ofNat 32 (expN E r.val) := by
    unfold expN
    split
    · rename_i h
      rw [← hfe ⟨r.val, h⟩]
      exact concatenate_pair_apply_left (t := S81920) (s₁ := S65536) (s₂ := S16384) 0 _ _ _ _ rfl (ix1 ⟨r.val, h⟩) fun b => by have : b = 0 := Subsingleton.elim (α := Fin 1) _ _; subst this; rfl
    · rename_i h
      rw [← fill_ap E hE fe hfe ⟨r.val - 65536, by have := r.isLt; omega⟩]
      exact concatenate_pair_apply_right (t := S81920) (s₁ := S65536) (s₂ := S16384) 0 _ _ _ _ rfl rfl (ix1 ⟨r.val - 65536, by have := r.isLt; omega⟩)
        (fun b hb => absurd (Subsingleton.elim (α := Fin 1) _ _) hb) (Nat.sub_add_cancel (Nat.le_of_not_lt h))
  show IntOp.ori (IntOp.shli .host _ _) _ = _
  rw [hc, Routing.bc0]
  exact join_word (exp_le E hE _) (lt_of_lt_of_le r.isLt (by decide))
end
end Cert.Proof.Route
-- ==== Proof.Route.Tables.lean ====
/-
  The routing's tables read at an index: where each sorted place comes from, each tile's expert, the experts after it, its slot.
-/
module

public import proofs.«01_k».proof.Proof.Route.Words

@[expose] public section

set_option maxRecDepth 16384

noncomputable section

namespace Cert.Proof.Route

open Cert.KernelIdeal Cert.KernelIdeal.Gen
open Idealize.ShloMosaic Idealize.ShloMosaic.ValueIdx Idealize.ShloMosaic.WordCmp
open Idealize.ShloMosaic.TcCoe

/-- The row sorted place `p` comes from. -/
def rowAt (E : ℕ → ℕ) : Fin 81920 → Fin 81920 := srcOf fun r : Fin 81920 => keyN E r.val
/-- The place row `r` is sorted to. -/
def placeOf (E : ℕ → ℕ) : Fin 81920 → Fin 81920 := srcOf fun p : Fin 81920 => (rowAt E p).val

theorem rowAt_placeOf (E : ℕ → ℕ) (r : Fin 81920) : rowAt E (placeOf E r) = r := srcOf_inv (rowAt E) (srcOf_bij _) r

section
variable (E : ℕ → ℕ) (hE : ∀ a < 65536, E a < 32)
include hE

/-- An assignment's place lies in its expert's run, and its tile is its expert's. -/
theorem placeOf_tile (a : Fin 81920) (ha : a.val < 65536) :
    tileN E ((placeOf E a).val / 512) = E a.val ∧ (placeOf E a).val < finN E 32 := by
  have h := place_mem E hE (rowAt E) (srcOf_bij _) (fun i j h => srcOf_mono (fun r : Fin 81920 => keyN E r.val)
    (fun a b e => Fin.ext (key_inj E a.isLt b.isLt e)) i j h) (placeOf E a)
  rw [rowAt_placeOf] at h
  have e : expN E a.val = E a.val := if_pos ha
  rw [e] at h
  have hl := hE a.val ha
  obtain ⟨h1, h2⟩ := h hl
  exact ⟨tile_of_place E hE hl h1 h2, lt_of_lt_of_le h2 (fin_mono E (by omega))⟩

variable (fe : IVec S65536 32) (hfe : ∀ a : Fin 65536, fe (ix1 a) = BitVec.ofNat 32 (E a.val))
include hfe

local notation "OG" => origin (keys fe (fillE (running (subi (padded (counts fe)) (counts fe)))))
local notation "PE" => running (padded (counts fe))

theorem origin_ap (p : Fin 81920) : OG (ix1 p) = BitVec.ofNat 32 (rowAt E p).val := by
  have hk : ∀ r : Fin 81920, keyN E r.val < 2 ^ 31 := fun r => by have := key_lt E hE r.isLt; omega
  unfold origin
  show IntOp.andi _ _ = _
  rw [sort_ap _ (fun r : Fin 81920 => keyN E r.val) (keys_ap E hE fe hfe) hk, Routing.bc0]
  refine (low_word (lt_trans (hk _) (by decide))).trans ?_
  have := (rowAt E p).isLt
  show BitVec.ofNat 32 (keyN E (rowAt E p).val % 131072) = _
  unfold keyN
  rw [Nat.add_comm, Nat.add_mul_mod_self_right, Nat.mod_eq_of_lt (lt_of_lt_of_le this (by decide))]

theorem places_ap (t : Fin 16384) (k : Fin 4) :
    places OG (ix2 t k) = BitVec.ofNat 32 (placeOf E ⟨t.val * 4 + k.val, by omega⟩).val := by
  unfold places
  rw [Routing.cast12 _ _ t k ⟨t.val * 4 + k.val, by omega⟩ rfl, Routing.slice1 0 _ _ _ (by show 0 + (t.val * 4 + k.val) < 81920; omega),
    sort2_ap _ _ (fun p : Fin 81920 => (rowAt E p).val) (origin_ap E hE fe hfe) (fun a => by have := (rowAt E a).isLt; omega)]
  show BitVec.ofNat 32 (placeOf E ⟨0 + (t.val * 4 + k.val), _⟩).val = _
  congr 3; exact Fin.ext (Nat.zero_add _)

theorem token_ap (p : Fin 81920) (hp : (rowAt E p).val < 65536) : token OG (ix1 p) = BitVec.ofNat 32 ((rowAt E p).val / 4) := by
  unfold token
  show Scalar.select (IntOp.cmpi .slt _ _) _ _ = _
  rw [origin_ap E hE fe hfe, Routing.bc0, Routing.pyDiv_ap (a := (rowAt E p).val) (b := 4) _ _ _ _ (origin_ap E hE fe hfe p) rfl (by omega) (by omega) (by omega)]
  rw [show constantI S_ 32 65536#32 ix0 = BitVec.ofNat 32 65536 from rfl, cmpi_slt_ofNat (w := 32) (by omega) (by omega), select_decide, if_pos hp]

theorem total_ap : total PE ix0 = BitVec.ofNat 32 (finN E 32) := by
  unfold total
  rw [shapeCast_apply _ _ _ (ix1 (0 : Fin 1)) (by decide), Routing.slice1 31 _ _ _ (by decide)]
  exact ends_ap E hE fe hfe ⟨31, by decide⟩

theorem used_ap : tilesUsed PE (ix1 0) = BitVec.ofNat 32 (finN E 32 / 512) := by
  have h := total_le E hE
  unfold tilesUsed
  rw [shapeCast_apply _ _ _ ix0 (by decide)]
  exact Routing.pyDiv0_ap _ _ (total_ap E hE fe hfe) rfl (by omega) (by omega) (by omega)

theorem tileE_ap (k : Fin 160) : tileE PE (ix1 k) = BitVec.ofNat 32 (tileN E k.val) := by
  have hT := total_le E hE
  have hT' := total_ge E hE
  have hfl : ∀ q : Fin 32, finN E (q.val + 1) < 2 ^ 31 := fun q => by have := fin_mono E (show q.val + 1 ≤ 32 by omega); omega
  have h1 : ∀ p : ℕ → Prop, ∀ [DecidablePred p], Nat.count p 32 < 2 ^ 31 := fun p _ => lt_of_le_of_lt (Nat.count_le p) (by decide)
  unfold tileE tileN
  show IntOp.minsi _ _ = _
  rw [Routing.bc0,
    Routing.reduce_count (by decide) _ _ _ _ k (fun e => finN E (e + 1) ≤ k.val * 512) fun q => ?_,
    Routing.reduce_sum _ (fun e => if finN E (e + 1) ≤ finN E 32 - 1 then 1 else 0) fun q => ?_, Routing.sum_map_ite,
    PlanTiles.minsi_word (h1 _) (h1 _), min_comm]
  · show (IntOp.cmpi .sge _ _ : BitVec 1).setWidth 32 = _
    rw [Routing.bc0, Routing.subi_ap, total_ap E hE fe hfe, ends_ap E hE fe hfe,
      show constantI S_ 32 1#32 ix0 = BitVec.ofNat 32 1 from rfl, Routing.ofNat32_sub (by omega), cmpi_sge_ofNat (w := 32) (by omega) (hfl q), Routing.setWidth_ofBool]
  · show IntOp.cmpi .sge _ _ = 1#1 ↔ _
    rw [Routing.bcRows, Routing.bcCols, ends_ap E hE fe hfe, Routing.muli_ap, Routing.bc0,
      show iotaInDim S160 32 0 (ix1 k) * constantI S_ 32 512#32 ix0 = BitVec.ofNat 32 (k.val * 512) from (BitVec.ofNat_mul_ofNat ..)]
    exact cmpi_sge_ofNat_eq_one_iff (w := 32) (by omega) (hfl q)

theorem some_ap (e : Fin 32) : some? (counts fe) (ix1 e) = BitVec.ofBool (decide (0 < cntN E e.val)) := by
  have := cnt_le E hE e.val
  unfold some?
  show IntOp.cmpi .sgt _ _ = _
  rw [Routing.bc0, counts_ap E hE fe hfe]
  exact cmpi_sgt_ofNat (w := 32) (by omega) (by omega)

theorem laters_ap (e q : Fin 32) : laters (counts fe) (ix2 e q) = BitVec.ofNat 32 (if 0 < cntN E q.val ∧ e.val < q.val then q.val else 32) := by
  unfold laters
  show Scalar.select (IntOp.andi _ (IntOp.cmpi .sgt _ _)) _ _ = _
  rw [Routing.bcCols, Routing.bcCols, Routing.bcRows, Routing.bc0, some_ap E hE fe hfe]
  show Scalar.select (BitVec.ofBool _ &&& IntOp.cmpi .sgt (BitVec.ofNat 32 q.val) (BitVec.ofNat 32 e.val)) (BitVec.ofNat 32 q.val) (BitVec.ofNat 32 32) = _
  rw [cmpi_sgt_ofNat (w := 32) (by omega) (by omega)]
  by_cases h1 : 0 < cntN E q.val <;> by_cases h2 : e.val < q.val <;> simp [h1, h2, Scalar.select]

omit hE hfe fe in
theorem foldl_min {ι : Type} (l : List ι) (g : ι → BitVec 32) (f : ι → ℕ) (hg : ∀ i, g i = BitVec.ofNat 32 (f i)) (hf : ∀ i, f i < 2 ^ 31) (a : ℕ) (ha : a < 2 ^ 31) :
    ∃ n, l.foldl (fun r i => IntOp.minsi r (g i)) (BitVec.ofNat 32 a) = BitVec.ofNat 32 n ∧ n ≤ a ∧ (∀ i ∈ l, n ≤ f i) ∧ (n = a ∨ ∃ i ∈ l, n = f i) := by
  induction l generalizing a with
  | nil => exact ⟨a, rfl, le_rfl, fun _ h => absurd h List.not_mem_nil, Or.inl rfl⟩
  | cons i l ih =>
    have hi := hf i
    obtain ⟨n, h1, h2, h3, h4⟩ := ih (min (f i) a) (by omega)
    refine ⟨n, ?_, by omega, fun j hj => ?_, ?_⟩
    · rw [List.foldl_cons, hg, PlanTiles.minsi_word ha hi]; exact h1
    · rcases List.mem_cons.mp hj with rfl | hj
      · omega
      · exact h3 j hj
    · rcases h4 with h4 | ⟨j, hj, h4⟩
      · rcases Nat.le_total (f i) a with h | h
        · exact Or.inr ⟨i, List.mem_cons_self, by omega⟩
        · exact Or.inl (by omega)
      · exact Or.inr ⟨j, List.mem_cons_of_mem _ hj, h4⟩

/-- The first later expert that has rows. -/
theorem nextRaw_ap (e : Fin 32) : ∃ n ≤ 32, nextRaw (counts fe) (ix1 e) = BitVec.ofNat 32 n
    ∧ (∀ q < 32, e.val < q → 0 < cntN E q → n ≤ q) ∧ (n < 32 → e.val < n ∧ 0 < cntN E n) := by
  have hix : ∀ i : S32x32.Idx, i = ix2 (i 0) (i 1) := fun i => by funext a; fin_cases a <;> rfl
  have hd : ∀ i : S32x32.Idx, (reducesTo_S32x32_S32_d1).drop i = ix1 e ↔ i 0 = e := fun i => by
    have hv : ((reducesTo_S32x32_S32_d1).drop i 0 : ℕ) = i 0 := Shape.ReducesTo.drop_apply_val reducesTo_S32x32_S32_d1 i 0
    constructor
    · intro h; rw [h] at hv; exact Fin.ext hv.symm
    · intro h; funext a; have : a = 0 := Subsingleton.elim (α := Fin 1) _ _; subst this; exact Fin.ext (hv.trans (congrArg Fin.val h))
  unfold nextRaw
  rw [Host.reduce_eq_foldl]
  obtain ⟨n, h1, -, h3, h4⟩ := foldl_min (((List.finRange S32x32.numel).map S32x32.rowMajor.symm).filter fun i => (reducesTo_S32x32_S32_d1).drop i = ix1 e)
    (laters (counts fe)) (fun i => if 0 < cntN E (i 1).val ∧ (i 0).val < (i 1).val then (i 1).val else 32)
    (fun i => by conv_lhs => rw [hix i]
                 exact laters_ap E hE fe hfe (i 0) (i 1))
    (fun i => by have : (i 1).val < 32 := (i 1).isLt
                 split <;> omega) 2147483647 (by decide)
  have hmem : ∀ q : Fin 32, ix2 e q ∈ (((List.finRange S32x32.numel).map S32x32.rowMajor.symm).filter fun i => (reducesTo_S32x32_S32_d1).drop i = ix1 e) := fun q => by
    rw [List.mem_filter, decide_eq_true_eq, hd]
    exact ⟨List.mem_map.mpr ⟨S32x32.rowMajor (ix2 e q), List.mem_finRange _, Equiv.symm_apply_apply _ _⟩, rfl⟩
  have hle : ∀ q : Fin 32, n ≤ if 0 < cntN E q.val ∧ e.val < q.val then q.val else 32 := fun q => h3 (ix2 e q) (hmem q)
  have h32 : n ≤ 32 := (hle 0).trans (by split <;> omega)
  refine ⟨n, h32, h1, fun q hq h5 h6 => ?_, fun hn => ?_⟩
  · have := hle ⟨q, hq⟩; rwa [if_pos ⟨h6, h5⟩] at this
  · rcases h4 with h4 | ⟨i, hi, h4⟩
    · omega
    · rw [List.mem_filter, decide_eq_true_eq, hd] at hi
      split at h4
      · rename_i h; have he : (i 0).val = e.val := congrArg Fin.val hi.2
        subst h4; exact ⟨by omega, h.1⟩
      · omega

theorem nextE_ap (e : Fin 32) : (∃ n < 32, nextE (counts fe) (ix1 e) = BitVec.ofNat 32 n ∧ e.val < n ∧ 0 < cntN E n ∧ ∀ q < 32, e.val < q → 0 < cntN E q → n ≤ q)
    ∨ (nextE (counts fe) (ix1 e) = 4294967295#32 ∧ ∀ q < 32, e.val < q → cntN E q = 0) := by
  obtain ⟨n, h32, h1, h2, h3⟩ := nextRaw_ap E hE fe hfe e
  have hs : nextE (counts fe) (ix1 e) = if n < 32 then BitVec.ofNat 32 n else 4294967295#32 := by
    unfold nextE
    show Scalar.select (IntOp.cmpi .slt _ _) _ _ = _
    rw [h1, Routing.bc0, Routing.bc0, show constantI S_ 32 32#32 ix0 = BitVec.ofNat 32 32 from rfl, cmpi_slt_ofNat (w := 32) (by omega) (by omega), select_decide]
    rfl
  by_cases h : n < 32
  · rw [if_pos h] at hs
    exact Or.inl ⟨n, h, hs, (h3 h).1, (h3 h).2, h2⟩
  · rw [if_neg h] at hs
    exact Or.inr ⟨hs, fun q hq h5 => by by_contra h6; have := h2 q hq h5 (by omega); omega⟩

theorem ordinal_ap (e : Fin 32) : ordinal (counts fe) (ix1 e) = BitVec.ofNat 32 (Nat.count (fun e => 0 < cntN E e) (e.val + 1)) - 1#32 := by
  unfold ordinal
  rw [Routing.subi_ap, Routing.bc0, running_ap _ (fun e => if 0 < cntN E e then 1 else 0) (fun i => by
    show (some? (counts fe) (ix1 i)).setWidth 32 = _
    rw [some_ap E hE fe hfe, Routing.setWidth_ofBool]), ← list_sum, Routing.sum_map_ite]
  rfl

omit hE hfe E fe in
theorem byTile_ap (x : IVec S32 32) (te : IVec S160 32) (k : Fin 160) (t : ℕ) (ht : t < 32) (h : te (ix1 k) = BitVec.ofNat 32 t) :
    byTile x te (ix1 k) = x (ix1 ⟨t, ht⟩) := by
  unfold byTile
  refine Routing.take_ap _ rfl rfl rfl rfl x _ k ht (by omega) ?_
  rw [Routing.bcCol]
  show Scalar.select (IntOp.cmpi .slt _ _) _ _ = _
  rw [h, Routing.bc0, show constantI S_ 32 0#32 ix0 = BitVec.ofNat 32 0 from rfl, cmpi_slt_ofNat (w := 32) (by omega) (by omega), select_decide, if_neg (by omega)]

theorem next_ap (k : Fin 160) : byTile (nextE (counts fe)) (tileE PE) (ix1 k) = nextE (counts fe) (ix1 ⟨tileN E k.val, tile_lt E hE _⟩) :=
  byTile_ap _ _ k _ (tile_lt E hE _) (tileE_ap E hE fe hfe k)
theorem slot_ap (k : Fin 160) : slotT (counts fe) (tileE PE) (ix1 k) = (BitVec.ofNat 32 (Nat.count (fun e => 0 < cntN E e) (tileN E k.val + 1)) - 1#32) &&& 1#32 := by
  unfold slotT
  show IntOp.andi _ _ = _
  rw [byTile_ap _ _ k _ (tile_lt E hE _) (tileE_ap E hE fe hfe k), ordinal_ap E hE fe hfe, Routing.bc0]
  rfl
end

end Cert.Proof.Route
-- ==== Proof.Route.Planned.lean ====
/-
  The tables the routing makes are a plan: each tile's expert, the expert after it and its slot fit together from tile to tile.
-/
module

public import proofs.«01_k».proof.Proof.Route.Tables
public import proofs.«01_k».proof.Proof.Route.At
public import proofs.«01_k».proof.Proof.Moe.Plan

@[expose] public section

set_option maxRecDepth 16384

noncomputable section

namespace Cert.Proof.Route

open Cert.KernelIdeal Cert.KernelIdeal.Gen
open Idealize.ShloMosaic Idealize.ShloMosaic.ValueIdx Idealize.ShloMosaic.WordCmp
open Idealize.ShloMosaic.TcCoe

theorem ix_eq (k : Fin 160) : Moe.ix k = ix1 k := by funext a; fin_cases a; rfl
theorem ix0_eq : Moe.ix0 = ix1 (0 : Fin 1) := by funext a; fin_cases a; rfl

/-- A small number's word, read as signed. -/
theorem toInt_small {n : ℕ} (h : n < 2 ^ 31) : (BitVec.ofNat 32 n).toInt = (n : ℤ) := by
  rw [BitVec.toInt_eq_toNat_of_lt (by rw [BitVec.toNat_ofNat]; omega), BitVec.toNat_ofNat]; congr 1; omega

theorem and_one_lt (x : BitVec 32) : (x &&& 1#32).toNat < 2 := by
  rw [BitVec.toNat_and, show (1#32 : BitVec 32).toNat = 1 from rfl, Nat.and_one_is_mod]; omega

/-- One more turns the slot over. -/
theorem flip_word (n : ℕ) (h : n + 1 < 2 ^ 31) : (BitVec.ofNat 32 (n + 1) - 1#32) &&& 1#32 = 1#32 - ((BitVec.ofNat 32 n - 1#32) &&& 1#32) := by
  have e : BitVec.ofNat 32 (n + 1) - 1#32 = BitVec.ofNat 32 n := by rw [BitVec.ofNat_add]; exact BitVec.add_sub_cancel _ _
  rw [e]
  generalize BitVec.ofNat 32 n = x
  have hx := x.isLt
  have h1 : ((2 ^ 32 - 1 + x.toNat) % 2 ^ 32) % 2 = (x.toNat + 1) % 2 := by omega
  have h2 : ((x - 1#32) &&& 1#32).toNat = (x.toNat + 1) % 2 := by
    rw [BitVec.toNat_and, BitVec.toNat_sub, show (1#32 : BitVec 32).toNat = 1 from rfl, Nat.and_one_is_mod, h1]
  apply BitVec.eq_of_toNat_eq
  rw [BitVec.toNat_sub, h2, BitVec.toNat_and, show (1#32 : BitVec 32).toNat = 1 from rfl, Nat.and_one_is_mod]
  omega

section
variable (E : ℕ → ℕ) (hE : ∀ a < 65536, E a < 32) (fe : IVec S65536 32) (hfe : ∀ a : Fin 65536, fe (ix1 a) = BitVec.ofNat 32 (E a.val))
include hE hfe

local notation "PE" => running (padded (counts fe))

/-- A tile is in use when it begins before the end of the experts' rows. -/
theorem used_iff (k : Fin 160) : Moe.Used (tilesUsed PE Moe.ix0) k ↔ k.val * 512 < finN E 32 := by
  have h := total_le E hE
  obtain ⟨d, hd⟩ := fin_dvd E 32
  unfold Moe.Used
  rw [ix0_eq, used_ap E hE fe hfe, toInt_small (by omega), hd, Nat.mul_div_cancel_left _ (by decide)]
  omega

theorem te_eq (k k' : Fin 160) : tileE PE (ix1 k) = tileE PE (ix1 k') ↔ tileN E k.val = tileN E k'.val := by
  rw [tileE_ap E hE fe hfe, tileE_ap E hE fe hfe]
  have h := tile_lt E hE k.val
  have h' := tile_lt E hE k'.val
  constructor
  · intro e
    have := congrArg BitVec.toNat e
    rw [BitVec.toNat_ofNat, BitVec.toNat_ofNat] at this
    omega
  · intro e; rw [e]

/-- The tables are a plan. -/
theorem plan_tables : Moe.Plan (tileE PE) (byTile (nextE (counts fe)) (tileE PE)) (slotT (counts fe) (tileE PE)) (tilesUsed PE Moe.ix0) where
  te_lt k := by
    have h := tile_lt E hE k.val
    rw [ix_eq, tileE_ap E hE fe hfe, BitVec.toNat_ofNat]; omega
  nx_lt k := by
    rw [ix_eq, next_ap E hE fe hfe]
    rcases nextE_ap E hE fe hfe ⟨tileN E k.val, tile_lt E hE _⟩ with ⟨n, hn, e, -⟩ | ⟨e, -⟩
    · rw [e, toInt_small (by omega)]; omega
    · rw [e]; decide
  sl_lt k := by
    rw [ix_eq, slot_ap E hE fe hfe]; exact and_one_lt _
  same k hu h := by
    rw [ix_eq, ix_eq, te_eq E hE fe hfe] at h
    rw [ix_eq, ix_eq, slot_ap E hE fe hfe, slot_ap E hE fe hfe, next_ap E hE fe hfe, next_ap E hE fe hfe]
    have hf : (⟨tileN E k.val, tile_lt E hE _⟩ : Fin 32) = ⟨tileN E (Moe.pr k).val, tile_lt E hE _⟩ := Fin.ext h
    rw [hf, h]; exact ⟨rfl, rfl⟩
  new k hu h := by
    rw [used_iff E hE fe hfe] at hu
    rw [ix_eq, ix_eq, Ne, te_eq E hE fe hfe] at h
    obtain ⟨j, hj⟩ : ∃ j, k.val = j + 1 := Nat.exists_eq_succ_of_ne_zero fun h0 => h (congrArg (tileN E) (by show k.val = k.val - 1; omega))
    have hp : (Moe.pr k).val = j := by show k.val - 1 = j; omega
    rw [hp, hj] at h
    rw [hj] at hu
    obtain ⟨h1, h2⟩ := tile_step E hE hu h
    have h3 := tile_cnt E hE hu
    have h4 := tile_lt E hE (j + 1)
    rw [ix_eq, ix_eq, tileE_ap E hE fe hfe, slot_ap E hE fe hfe, slot_ap E hE fe hfe, next_ap E hE fe hfe]
    have hf : (⟨tileN E (Moe.pr k).val, tile_lt E hE _⟩ : Fin 32) = ⟨tileN E j, tile_lt E hE _⟩ := Fin.ext (congrArg (tileN E) hp)
    rw [hf, hp, hj]
    refine ⟨?_, ?_⟩
    · rcases nextE_ap E hE fe hfe ⟨tileN E j, tile_lt E hE _⟩ with ⟨n, hn, e, e1, e2, e3⟩ | ⟨e, e1⟩
      · rw [e]
        have a1 := e3 _ h4 h1 h3
        have a2 : ¬ n < tileN E (j + 1) := fun hlt => by have := h2 n e1 hlt; omega
        congr 1; omega
      · have := e1 _ h4 h1; omega
    · rw [count_step E hE hu h]
      have := Nat.count_le (p := fun e => 0 < cntN E e) (n := tileN E j + 1)
      have := tile_lt E hE j
      exact flip_word _ (by omega)
  last k hu h := by
    rw [used_iff E hE fe hfe] at hu
    have ht := total_le E hE
    have hl : finN E 32 ≤ (k.val + 1) * 512 := by
      rcases h with h | h
      · obtain ⟨d, hd⟩ := fin_dvd E 32
        rw [ix0_eq, used_ap E hE fe hfe, toInt_small (by omega), hd, Nat.mul_div_cancel_left _ (by decide)] at h
        omega
      · omega
    rw [ix_eq, next_ap E hE fe hfe]
    rcases nextE_ap E hE fe hfe ⟨tileN E k.val, tile_lt E hE _⟩ with ⟨n, hn, e, e1, e2, e3⟩ | ⟨e, -⟩
    · have := tile_last E hE hu hl hn e1; omega
    · rw [e]; decide
end

/-! ## The picked experts -/

variable {F : FTy → Type} [FloatOps F]

/-- The column of each entry of the logits. -/
def cols : IVec S16384x32 32 := fun i => if hd : 1 < S16384x32.rank then iotaInDim S16384x32 32 ⟨1, hd⟩ i else 0#32

theorem cols_lt (i : S16384x32.Idx) : (cols i).toNat < 32 := by
  have h : (i 1).val < 32 := (i 1).isLt
  show (BitVec.ofNat 32 (i 1).val).toNat < 32
  rw [BitVec.toNat_ofNat]; exact lt_of_le_of_lt (Nat.mod_le _ _) h

/-- What is picked is an expert. -/
theorem topK_lt (x : Vec F S16384x32 .f32) (gt : F .f32 → F .f32 → BitVec 1) (h) (j : S16384x4.Idx) : ((Host.topK S16384x4 1 gt x h).2 j).toNat < 32 := by
  have h1 : ∀ i, ((Host.sort2 S16384x32 1 (fun l r => gt l.1 r.1) x cols).2 i).toNat < 32 := fun i => by
    unfold Host.sort2
    rw [dif_pos (show 1 < S16384x32.rank by decide)]
    exact cols_lt _
  unfold Host.topK extractStridedSlice
  dsimp only
  exact h1 _

variable (W : Valuation τ sig (Elt F))

/-- The expert of each assignment, as a number. -/
def pickE (a : ℕ) : ℕ := if h : a < 65536 then (picks W (ix1 ⟨a, h⟩)).toNat else 0

theorem pickE_lt : ∀ a < 65536, pickE W a < 32 := fun a h => by
  unfold pickE; rw [dif_pos h]
  exact topK_lt _ _ _ _

theorem picks_ap (a : Fin 65536) : picks W (ix1 a) = BitVec.ofNat 32 (pickE W a.val) := by
  have g : ∀ x : BitVec 32, x = BitVec.ofNat 32 x.toNat := fun x => BitVec.eq_of_toNat_eq (by rw [BitVec.toNat_ofNat, Nat.mod_eq_of_lt x.isLt])
  unfold pickE; rw [dif_pos a.isLt]
  generalize picks W = f
  exact g (f (ix1 a))

end Cert.Proof.Route
-- ==== Proof.Moe.Frame.lean ====
/-
  What the expert kernel's run leaves: the arguments as they were, the counters at zero, the result as the host's last
  lines read it out of the array the windows filled; and the plan its tables are, for every memory.
-/
module

public import proofs.«01_k».proof.Proof.Moe.Run
public import proofs.«01_k».proof.Proof.Route.Planned

@[expose] public section

set_option maxRecDepth 16384

noncomputable section

namespace Cert.Proof.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The launch memory as one device's buffers. -/
abbrev memW (c : Dev nD) : Valuation τ sig (Elt F) := fun b => m (c, b)

theorem tbl0 : (tbl (V0 m) 0 : S160.Idx → BitVec 32) = Route.tileE (Route.ends (memW m 0)) := by
  show V0 m 0 main_v72 = _; rw [V0_eq]; exact Route.v72_21 _
theorem tbl1 : (tbl (V0 m) 1 : S1.Idx → BitVec 32) = Route.tilesUsed (Route.ends (memW m 0)) := by
  show V0 m 0 main_v94 = _; rw [V0_eq]; exact Route.v94_21 _
theorem tbl2 : (tbl (V0 m) 2 : S160.Idx → BitVec 32) = Route.byTile (Route.nextE (Route.cnt (memW m 0))) (Route.tileE (Route.ends (memW m 0))) := by
  show V0 m 0 main_v101 = _; rw [V0_eq]; exact Route.v101_21 _
theorem tbl3 : (tbl (V0 m) 3 : S160.Idx → BitVec 32) = Route.slotT (Route.cnt (memW m 0)) (Route.tileE (Route.ends (memW m 0))) := by
  show V0 m 0 main_v110 = _; rw [V0_eq]; exact Route.v110_21 _

/-- The tables the host makes are a plan. -/
theorem planM : PlanM (V0 m) := by
  have h := Route.plan_tables (Route.pickE (memW m 0)) (Route.pickE_lt _) (Route.picks (memW m 0)) (Route.picks_ap _)
  unfold PlanM
  have e1 : pfN (tbl (V0 m)) = Route.tilesUsed (Route.ends (memW m 0)) ix0 := congrFun (tbl1 m) ix0
  rw [e1, tbl2, tbl3]
  have e0 : pfE (tbl (V0 m)) = Route.tileE (Route.ends (memW m 0)) := tbl0 m
  rw [e0]
  exact h

/-- The result: the array the windows filled, read at each assignment's place. -/
theorem finalV_res (c : Dev nD) : finalV m (planM m) c main_v131
    = Route.back ((dats (V0 m) (planM m) 0 c).arrAt 3 (cfgM (V0 m) (planM m)).N : Vec F S81920x1024 .bf16) (Route.places (Route.orig (memW m c))) := by
  have h3 := Pipeline.withArrays_arr spec0 (by decide) c (V0 m c) (fun w => (dats (V0 m) (planM m) 0 c).arrAt w (cfgM (V0 m) (planM m)).N) 3
  have h50 := Pipeline.withArrays_of_ne spec0 c (V0 m c) (fun w => (dats (V0 m) (planM m) 0 c).arrAt w (cfgM (V0 m) (planM m)).N) main_v50 (by decide)
  refine (Route.at_v131 _).trans ?_
  have e50 : V0 m c main_v50 = Route.places (Route.orig (memW m c)) := by rw [V0_eq]; exact Route.v50_21 _
  exact congrArg₂ Route.back h3 (h50.trans e50)

/-- The host's last lines write no argument. -/
theorem finalV_keep (c : Dev nD) (b : Ref sig .tc) (hb : b = main_arg0 ∨ b = main_arg1 ∨ b = main_arg2 ∨ b = main_arg3 ∨ b = main_arg4 ∨ b = main_arg5) :
    finalV m (planM m) c b = V0 m c b := by
  have hn : ∀ w, Pipeline.arrRef spec0 w ≠ b := by
    rcases hb with rfl | rfl | rfl | rfl | rfl | rfl <;> decide
  have hw : ∀ op ∈ (Route.post : List (List (HloOp τ sig (Elt F)))).flatten, Proc.devRef .tc b ∉ op.writes := by
    show ∀ op ∈ (hostOps1 ++ [] : List (HloOp τ sig (Elt F))), Proc.devRef .tc b ∉ op.writes
    intro op hop
    rw [List.append_nil] at hop
    simp only [hostOps1, List.mem_cons, List.mem_nil_iff, or_false] at hop
    rcases hop with rfl | rfl | rfl | rfl | rfl | rfl | rfl | rfl | rfl | rfl | rfl | rfl
    all_goals rcases hb with rfl | rfl | rfl | rfl | rfl | rfl <;>
      simp only [StableHlo.nullary_writes, StableHlo.unary_writes, StableHlo.binary_writes, StableHlo.ternary_writes, StableHlo.reshape_writes, Finset.mem_singleton] <;>
      exact StableHlo.devRef_ne_of_ne (by decide)
  exact (StableHlo.after_of_forall_not_mem _ _ hw).trans (Pipeline.withArrays_of_ne spec0 c (V0 m c) _ b hn)

/-- The run leaves the result so, every argument as it was, and every counter at zero. -/
theorem run_post :
    θ_run defs (onTc (τ := τ) (main (F := F))) (s₀ m ρ) (fun r => (∀ c : Dev nD,
      r.2.mem ((c.tc : Thread nD τ).loc main_v131) = Route.back ((dats (V0 m) (planM m) 0 c).arrAt 3 (cfgM (V0 m) (planM m)).N : Vec F S81920x1024 .bf16) (Route.places (Route.orig (memW m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ ⟨h, hz⟩ => ⟨fun c =>
    ⟨((h c).2 main_v131 (by decide : main_v131 ∈ Pipeline.restRefs sig spec0)).trans (finalV_res m c),
      ((h c).2 main_arg0 (by decide : main_arg0 ∈ Pipeline.restRefs sig spec0)).trans ((finalV_keep m c main_arg0 (by decide)).trans (V_arg0 m c)),
      ((h c).2 main_arg1 (by decide : main_arg1 ∈ Pipeline.restRefs sig spec0)).trans ((finalV_keep m c main_arg1 (by decide)).trans (V_arg1 m c)),
      ((h c).2 main_arg2 (by decide : main_arg2 ∈ Pipeline.restRefs sig spec0)).trans ((finalV_keep m c main_arg2 (by decide)).trans (V_arg2 m c)),
      ((h c).2 main_arg3 (by decide : main_arg3 ∈ Pipeline.restRefs sig spec0)).trans ((finalV_keep m c main_arg3 (by decide)).trans (V_arg3 m c)),
      ((h c).2 main_arg4 (by decide : main_arg4 ∈ Pipeline.restRefs sig spec0)).trans ((finalV_keep m c main_arg4 (by decide)).trans (V_arg4 m c)),
      ((h c).2 main_arg5 (by decide : main_arg5 ∈ Pipeline.restRefs sig spec0)).trans ((finalV_keep m c main_arg5 (by decide)).trans (V_arg5 m c))⟩, hz⟩)
    (run_main m ρ (planM m))

end Cert.Proof.Moe
-- ==== Proof.Moe.Same.lean ====
/-
  The kernel's printed program and the ideal kernel's are one program text: equal at any float values.
-/
module

public import proofs.«01_k».proof.Proof.Gen.Kernel
public import proofs.«01_k».proof.Proof.Gen.KernelIdeal

@[expose] public section

set_option maxRecDepth 16384

namespace Cert.Proof.Moe

open Idealize.ShloMosaic Idealize.SL.Sem

variable {F : FTy → Type} [FloatOps F]

set_option maxHeartbeats 1000000 in
/-- The two bodies. -/
theorem same_body : @Cert.Kernel.cc0_moe_experts F _ _ = @Cert.KernelIdeal.cc0_moe_experts F _ _ := rfl

/-- The two tables of bodies. -/
theorem same_defs₀ : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => dsimp only; rw [same_body]; rfl
  | ⟨n + 1, h⟩, _ => exact absurd h (Nat.not_lt.2 (Nat.le_add_left _ _))

/-- The two tables with the calls' regions. -/
theorem same_defs : Cert.Kernel.defs (F := F) = Cert.KernelIdeal.defs (F := F) := by
  unfold Cert.Kernel.defs Cert.KernelIdeal.defs; rw [same_defs₀]; rfl

set_option maxHeartbeats 8000000 in
/-- The entry functions' parts, one by one. -/
theorem same_part0 : Cert.Kernel.main_part0 (F := F) = Cert.KernelIdeal.main_part0 (F := F) := rfl
set_option maxHeartbeats 8000000 in
theorem same_part1 : Cert.Kernel.main_part1 (F := F) = Cert.KernelIdeal.main_part1 (F := F) := rfl
set_option maxHeartbeats 8000000 in
theorem same_part2 : Cert.Kernel.main_part2 (F := F) = Cert.KernelIdeal.main_part2 (F := F) := rfl

set_option maxHeartbeats 8000000 in
/-- The two entry functions. -/
theorem same_main : Cert.Kernel.main (F := F) = Cert.KernelIdeal.main (F := F) := by
  unfold Cert.Kernel.main Cert.KernelIdeal.main
  rw [same_part0, same_part1, same_part2]
  rfl

end Cert.Proof.Moe
-- ==== Proof.Moe.Expert.lean ====
/-
  One expert's output for one row, over the extended reals: the gated unit between its two products.
-/
module

public import Idealize.ShloMosaic.Lib.Pointwise

@[expose] public section

noncomputable section

namespace Cert.Proof.Moe

open Idealize.ShloMosaic

/-- The bound seven, its negative, one, and the slope of the gate, as their printed words read. -/
abbrev seven : EReal := Ideal.ofBits .f32 0x40E00000#32
abbrev minusSeven : EReal := Ideal.ofBits .f32 0xC0E00000#32
abbrev slope : EReal := Ideal.ofBits .f32 0x3FD9DB23#32

/-- The clamped gated unit: `(clip up + 1) · min gate 7 · sigmoid (1.702 · min gate 7)`. -/
def gated (gate up : EReal) : EReal :=
  (min seven (max minusSeven up) + 1) * min gate seven * Ideal.div 1 (1 + Ideal.exp (-(min gate seven * slope)))

variable (x : Fin 1024 → EReal) (wG : (⟨3, ![32, 1024, 2048]⟩ : Shape).Idx → EReal)
    (bG : (⟨2, ![32, 2048]⟩ : Shape).Idx → EReal) (wD : (⟨3, ![32, 1024, 1024]⟩ : Shape).Idx → EReal)
    (bD : (⟨2, ![32, 1024]⟩ : Shape).Idx → EReal)

/-- Expert `e`'s first product at a row `x`, column `j`, with its bias. -/
def expertPre (e : Fin 32) (j : Fin 2048) : EReal :=
  (∑ k : Fin 1024, wG (ix3 e k j) * x k) + bG (ix2 e j)

/-- Expert `e`'s output at a row `x`, column `d`. -/
def expertOut (e : Fin 32) (d : Fin 1024) : EReal :=
  (∑ f : Fin 1024, gated (expertPre x wG bG e ⟨f.val, by omega⟩) (expertPre x wG bG e ⟨1024 + f.val, by omega⟩) * wD (ix3 e f d)) + bD (ix2 e d)

end Cert.Proof.Moe
-- ==== Proof.Moe.KerVal.lean ====
/-
  What the expert kernel leaves in its result, read element by element over the extended reals.
-/
module

public import proofs.«01_k».proof.Proof.Moe.Run
public import proofs.«01_k».proof.Proof.Moe.Expert
public import Idealize.ShloMosaic.Lib.Pipeline.ValueKit
public import Idealize.ShloMosaic.Lib.Tactic.CleanTypes

@[expose] public section

set_option maxRecDepth 16384

noncomputable section

namespace Cert.Proof.Moe

open Cert.KernelIdeal Cert.KernelIdeal.Gen
open Idealize.ShloMosaic
open Idealize.ShloMosaic.TcCoe

/-- A tile's output at row `p` and column `d`, from its blocks. -/
theorem pay4_apply (x0 : Vec Ideal S512x1024 .bf16) (wG : Vec Ideal S1x1024x2048 .f32) (x1 : Vec Ideal S1x1x2048 .f32)
    (wD : Vec Ideal S1x1024x1024 .f32) (x2 : Vec Ideal S1x1x1024 .f32) (p : Fin 512) (d : Fin 1024) :
    (k0_pay4 x0 (k0_pay2 wG) x1 (k0_pay3 wD) x2 (ix2 p d) : EReal)
      = (∑ f : Fin 1024,
          gated ((∑ k : Fin 1024, (wG (ix3 0 k ⟨f.val, by omega⟩) : EReal) * (x0 (ix2 p k) : EReal)) + (x1 (ix3 0 0 ⟨f.val, by omega⟩) : EReal))
            ((∑ k : Fin 1024, (wG (ix3 0 k ⟨1024 + f.val, by omega⟩) : EReal) * (x0 (ix2 p k) : EReal)) + (x1 (ix3 0 0 ⟨1024 + f.val, by omega⟩) : EReal))
          * (wD (ix3 0 f d) : EReal)) + (x2 (ix3 0 0 d) : EReal) := by
  unfold k0_pay4 k0_pay2 k0_pay3
  pointwise
  simp only [gated, zero_sub]
  refine congrArg (· + _) (Finset.sum_congr rfl fun f _ => ?_)
  simp only [mul_comm (x0 _ : EReal)]

theorem pay1_apply (p : Fin 512) (d : Fin 1024) : ((k0_pay1 (F := Ideal)) (ix2 p d) : EReal) = 0 := by
  unfold k0_pay1
  pointwise

/-- An expert's weight block at an element is the weight array there. -/
theorem wblkG_apply (c : Dev nD) (WG : HbBuf (F := Ideal) c wguM) (e : Fin 32) (k : Fin 1024) (j : Fin 2048) :
    wblkG c WG e (ix3 0 k j) = (WG : S32x1024x2048.Idx → EReal) (ix3 e k j) := by
  unfold wblkG
  show (WG : S32x1024x2048.Idx → EReal) _ = _
  congr 1
  funext a
  fin_cases a <;> apply Fin.ext <;> simp [eOff] <;> rfl

theorem wblkD_apply (c : Dev nD) (WD : HbBuf (F := Ideal) c wdM) (e : Fin 32) (k : Fin 1024) (j : Fin 1024) :
    wblkD c WD e (ix3 0 k j) = (WD : S32x1024x1024.Idx → EReal) (ix3 e k j) := by
  unfold wblkD
  show (WD : S32x1024x1024.Idx → EReal) _ = _
  congr 1
  funext a
  fin_cases a <;> apply Fin.ext <;> simp [eOff] <;> rfl

variable (m : Dev nD → Valuation τ sig (Elt Ideal)) (hp : PlanM m) (c : Dev nD)

/-- The two bias arrays at the launch, by expert and column. -/
def biasG : (⟨2, ![32, 2048]⟩ : Shape).Idx → EReal := fun i => (V m c main_v119 : S32x1x2048.Idx → EReal) (ix3 (i 0) 0 (i 1))
def biasD : (⟨2, ![32, 1024]⟩ : Shape).Idx → EReal := fun i => (V m c main_v120 : S32x1x1024.Idx → EReal) (ix3 (i 0) 0 (i 1))
/-- The row of the launch's inputs at place `r`. -/
def rowX (r : Fin 81920) : Fin 1024 → EReal := fun k => (V m c main_v118 : S81920x1024.Idx → EReal) (ix2 r k)

/-- Where window 0's block at a tile in use stands: its own rows. -/
theorem emb0 (t : Fin (cfgM m hp).N) (ht : Used (pfN (tbl m)) (tl (grid0.coords t))) (p : Fin 512) (k : Fin 1024) :
    (((cfgM m hp).win 0).blk t).view.emb (ix2 p k) = (ix2 ⟨512 * (tl (grid0.coords t)).val + p.val, by have := (tl (grid0.coords t)).isLt; omega⟩ k : S81920x1024.Idx) := by
  have e := map0_eq (tbl m) (grid0.coords t)
  rw [rows_eq _ _ ht] at e
  funext a
  apply Fin.ext
  have h := Pipeline.Window.rect_emb_val ((cfgM m hp).win 0) t (ix2 p k) a
  refine h.trans ?_
  have e' : ((cfgM m hp).win 0).index t = ![(tl (grid0.coords t)).val, 0] := e
  rw [e']
  fin_cases a
  · show (tl (grid0.coords t)).val * 512 + p.val = 512 * (tl (grid0.coords t)).val + p.val
    omega
  · show 0 * 1024 + k.val = k.val
    omega

theorem emb1 (t : Fin (cfgM m hp).N) (j : Fin 2048) :
    (((cfgM m hp).win 1).blk t).view.emb (ix3 0 0 j) = (ix3 ⟨(pfE (tbl m) (ix (tl (grid0.coords t)))).toNat, Plan.te_lt hp _⟩ 0 j : S32x1x2048.Idx) := by
  have e := map1_eq (tbl m) (grid0.coords t)
  funext a
  apply Fin.ext
  have h := Pipeline.Window.rect_emb_val ((cfgM m hp).win 1) t (ix3 0 0 j) a
  refine h.trans ?_
  have e' : ((cfgM m hp).win 1).index t = ![(pfE (tbl m) (ix (tl (grid0.coords t)))).toNat, 0, 0] := e
  rw [e']
  fin_cases a
  · show (pfE (tbl m) (ix (tl (grid0.coords t)))).toNat * 1 + 0 = (pfE (tbl m) (ix (tl (grid0.coords t)))).toNat
    omega
  · rfl
  · show 0 * 2048 + j.val = j.val
    omega

theorem emb2 (t : Fin (cfgM m hp).N) (j : Fin 1024) :
    (((cfgM m hp).win 2).blk t).view.emb (ix3 0 0 j) = (ix3 ⟨(pfE (tbl m) (ix (tl (grid0.coords t)))).toNat, Plan.te_lt hp _⟩ 0 j : S32x1x1024.Idx) := by
  have e := map2_eq (tbl m) (grid0.coords t)
  funext a
  apply Fin.ext
  have h := Pipeline.Window.rect_emb_val ((cfgM m hp).win 2) t (ix3 0 0 j) a
  refine h.trans ?_
  have e' : ((cfgM m hp).win 2).index t = ![(pfE (tbl m) (ix (tl (grid0.coords t)))).toNat, 0, 0] := e
  rw [e']
  fin_cases a
  · show (pfE (tbl m) (ix (tl (grid0.coords t)))).toNat * 1 + 0 = (pfE (tbl m) (ix (tl (grid0.coords t)))).toNat
    omega
  · rfl
  · show 0 * 1024 + j.val = j.val
    omega

/-- Where the result's block stands. -/
theorem emb3 (t : Fin (cfgM m hp).N) (p : Fin 512) (k : Fin 1024) :
    (((cfgM m hp).win 3).blk t).view.emb (ix2 p k) = (ix2 ⟨512 * (tl (grid0.coords t)).val + p.val, by have := (tl (grid0.coords t)).isLt; omega⟩ k : S81920x1024.Idx) := by
  have e := map3_eq (grid0.coords t)
  funext a
  apply Fin.ext
  have h := Pipeline.Window.rect_emb_val ((cfgM m hp).win 3) t (ix2 p k) a
  refine h.trans ?_
  have e' : ((cfgM m hp).win 3).index t = ![(tl (grid0.coords t)).val, 0] := e
  rw [e']
  fin_cases a
  · show (tl (grid0.coords t)).val * 512 + p.val = 512 * (tl (grid0.coords t)).val + p.val
    omega
  · show 0 * 1024 + k.val = k.val
    omega

/-- The array the kernel leaves: each row's tile's expert's output, or zero past the tiles in use. -/
def moeOut : S81920x1024.Idx → EReal := fun i =>
  if ((i 0).val / 512 : ℕ) < (pfN (tbl m)).toInt then
    expertOut (rowX m c (i 0)) (V m c main_arg2) (biasG m c)
      (V m c main_arg4) (biasD m c)
      ⟨(pfE (tbl m) (ix ⟨(i 0).val / 512, by have : (i 0).val < 81920 := (i 0).isLt; omega⟩)).toNat, Plan.te_lt hp _⟩ (i 1)
  else 0

/-- The array at row `r` and column `d`. -/
theorem moeOut_row (r : Fin 81920) (d : Fin 1024) :
    moeOut m hp c (ix2 r d)
      = if (r.val / 512 : ℕ) < (pfN (tbl m)).toInt then
          expertOut (rowX m c r) (V m c main_arg2) (biasG m c)
            (V m c main_arg4) (biasD m c)
            ⟨(pfE (tbl m) (ix ⟨r.val / 512, by omega⟩)).toNat, Plan.te_lt hp _⟩ d
        else 0 := rfl

/-- … and at row `p` of tile `k`. -/
theorem moeOut_apply (k : Fin 160) (p : Fin 512) (d : Fin 1024) :
    moeOut m hp c (ix2 ⟨512 * k.val + p.val, by have := k.isLt; omega⟩ d)
      = if Used (pfN (tbl m)) k then
          expertOut (rowX m c ⟨512 * k.val + p.val, by have := k.isLt; omega⟩) (V m c main_arg2) (biasG m c)
            (V m c main_arg4) (biasD m c)
            ⟨(pfE (tbl m) (ix k)).toNat, Plan.te_lt hp _⟩ d
        else 0 := by
  have hq : (512 * k.val + p.val) / 512 = k.val := by have := p.isLt; omega
  have hk : (⟨(512 * k.val + p.val) / 512, by omega⟩ : Fin 160) = k := Fin.ext hq
  unfold moeOut Used
  show (if (((512 * k.val + p.val) / 512 : ℕ) : ℤ) < _ then expertOut _ _ _ _ _ ⟨(pfE (tbl m) (ix ⟨(512 * k.val + p.val) / 512, _⟩)).toNat, _⟩ _ else 0) = _
  simp only [hk, hq]
  rfl

/-- Each tile's output is the array's block there. -/
theorem oblk_apply (t : Fin (cfgM m hp).N) (p : Fin 512) (d : Fin 1024) :
    (oblk m hp c t (ix2 p d) : EReal) = moeOut m hp c (ix2 ⟨512 * (tl (grid0.coords t)).val + p.val, by have := (tl (grid0.coords t)).isLt; omega⟩ d) := by
  rw [moeOut_apply]
  unfold oblk outBlk
  by_cases hu : Used (pfN (tbl m)) (tl (grid0.coords t))
  · rw [if_pos hu, if_pos hu]
    refine (pay4_apply (iblk m hp c 0 t) _ (iblk m hp c 1 t) _ (iblk m hp c 2 t) p d).trans ?_
    have he : eOf (pfE (tbl m) (ix (tl (grid0.coords t)))) = ⟨(pfE (tbl m) (ix (tl (grid0.coords t)))).toNat, Plan.te_lt hp _⟩ :=
      Fin.ext (Nat.mod_eq_of_lt (Plan.te_lt hp _))
    have h0 : ∀ k : Fin 1024, (iblk m hp c 0 t (ix2 p k) : EReal) = rowX m c ⟨512 * (tl (grid0.coords t)).val + p.val, by have := (tl (grid0.coords t)).isLt; omega⟩ k := fun k =>
      congrArg (V m c main_v118 : S81920x1024.Idx → EReal) (emb0 m hp t hu p k)
    have h1 : ∀ j : Fin 2048, (iblk m hp c 1 t (ix3 0 0 j) : EReal) = biasG m c (ix2 ⟨(pfE (tbl m) (ix (tl (grid0.coords t)))).toNat, Plan.te_lt hp _⟩ j) := fun j =>
      congrArg (V m c main_v119 : S32x1x2048.Idx → EReal) (emb1 m hp t j)
    have h2 : ∀ j : Fin 1024, (iblk m hp c 2 t (ix3 0 0 j) : EReal) = biasD m c (ix2 ⟨(pfE (tbl m) (ix (tl (grid0.coords t)))).toNat, Plan.te_lt hp _⟩ j) := fun j =>
      congrArg (V m c main_v120 : S32x1x1024.Idx → EReal) (emb2 m hp t j)
    unfold expertOut expertPre
    simp only [h0, h1, h2, wblkG_apply, wblkD_apply, he]
    try rfl
  · rw [if_neg hu, if_neg hu]
    exact pay1_apply p d

/-- A place of a tile's block, and of the whole array, by its row and column. -/
theorem at_block (y : S512x1024.Idx) : ∃ (p : Fin 512) (d : Fin 1024), y = ix2 p d := ⟨y 0, y 1, eq_ix2 y⟩
theorem at_array (i : S81920x1024.Idx) : ∃ (r : Fin 81920) (d : Fin 1024), i = ix2 r d := ⟨i 0, i 1, eq_ix2 i⟩

/-- Every place of the result lies in its row's tile's block. -/
theorem in_block (r : Fin 81920) (d : Fin 1024) (t : Fin (cfgM m hp).N) (ht : t.val = r.val / 512) :
    (ix2 r d : S81920x1024.Idx) ∈ (((cfgM m hp).win 3).blk t).view.set := by
  have h := emb3 m hp t ⟨r.val % 512, Nat.mod_lt _ (by omega)⟩ d
  have e : (ix2 ⟨512 * (tl (grid0.coords t)).val + r.val % 512, by have := (tl (grid0.coords t)).isLt; omega⟩ d : S81920x1024.Idx) = ix2 r d := by
    congr 1
    apply Fin.ext
    show 512 * (tl (grid0.coords t)).val + r.val % 512 = r.val
    rw [tl_coords t, ht]
    omega
  rw [← e]
  exact h ▸ View.emb_mem_set _ _

/-- The result's array after the run. -/
theorem arr3 : (dats m hp 0 c).arrAt 3 (cfgM m hp).N = moeOut m hp c := by
  refine (dats m hp 0 c).arrAt_eq_of_emb 3 _ (fun t hf y => ?_) fun i => ?_
  · obtain ⟨p, d, hy⟩ := at_block y
    rw [after0_3]
    have h := oblk_apply m hp c t p d
    rw [← emb3 m hp t p d] at h
    rw [← hy] at h
    exact h
  · obtain ⟨r, d, hi⟩ := at_array i
    have hN : r.val / 512 < (cfgM m hp).N := by show r.val / 512 < 160; have := r.isLt; omega
    refine ⟨⟨r.val / 512, hN⟩, ?_, ?_⟩
    · exact (Pipeline.Window.flushOf_reads cc0_transform_5 reads0_3 hreads0_3 0 (by decide) (by decide) (Pipeline.Window.sep_of_coord cc0_transform_5 0 0 (fun _ => rfl) (by decide)) (P := 1) (m := 0) (by decide) rfl _).mpr (Nat.mod_one _)
    · rw [show i = (ix2 r d : S81920x1024.Idx) from hi]
      exact in_block m hp r d _ rfl

end Cert.Proof.Moe
-- ==== Proof.Route.Reads.lean ====
/-
  The gather of the tokens' rows and the read back of the assignments' results, at an index.
-/
module

public import proofs.«01_k».proof.Proof.Route.Tables

@[expose] public section

set_option maxRecDepth 16384

noncomputable section

namespace Cert.Proof.Route

open Cert.KernelIdeal Cert.KernelIdeal.Gen
open Idealize.ShloMosaic Idealize.ShloMosaic.ValueIdx Idealize.ShloMosaic.WordCmp
open Idealize.ShloMosaic.TcCoe

variable {F : FTy → Type}

/-- A gathered row is the row of the token it reads. -/
theorem rows_ap (h2 : Vec F S2x8x2048x1024 .bf16) (tk : IVec S81920 32) (p : Fin 81920) (b : Fin 8) (l : Fin 2048) (q : Fin 1024)
    (h : tk (ix1 p) = BitVec.ofNat 32 (b.val * 2048 + l.val)) : rows h2 tk (ix2 p q) = h2 (ix4 0 b l q) := by
  have ht : b.val * 2048 + l.val < 32768 := by have := b.isLt; have := l.isLt; omega
  unfold rows
  refine (Routing.gather_row _ rfl rfl rfl rfl rfl _ _ p q ⟨b.val * 2048 + l.val, ht⟩ ?_ (by decide)).trans ?_
  · rw [Routing.bcCol]
    show Scalar.select (IntOp.cmpi .slt _ _) _ _ = _
    rw [h, Routing.bc0, show constantI S_ 32 0#32 ix0 = BitVec.ofNat 32 0 from rfl, cmpi_slt_ofNat (w := 32) (by omega) (by omega), select_decide, if_neg (by omega)]
  · refine shapeCast_apply _ _ _ _ ?_
    rw [Shape.rowMajor_val_four, Shape.rowMajor_val_two]
    show ((0 * 8 + b.val) * 2048 + l.val) * 1024 + q.val = (b.val * 2048 + l.val) * 1024 + q.val
    omega

/-- The result read back at an assignment is the row at its place. -/
theorem back_ap (ys : Vec F S81920x1024 .bf16) (pl : IVec S16384x4 32) (k : Fin 4) (b : Fin 8) (l : Fin 2048) (d : Fin 1024) (t : Fin 16384)
    (ht : t.val = b.val * 2048 + l.val) (p : Fin 81920) (h : pl (ix2 t k) = BitVec.ofNat 32 p.val) : back ys pl (ix4 k b l d) = ys (ix2 p d) := by
  have hr : k.val * 16384 + t.val < 65536 := by have := k.isLt; have := t.isLt; omega
  have hq : shapeCast S65536 (transpose S4x16384 [1, 0] pl transposes_S16384x4_S4x16384_1_0) shapeCasts_S4x16384_S65536 (ix1 ⟨k.val * 16384 + t.val, hr⟩) = BitVec.ofNat 32 p.val := by
    rw [Routing.cast21 _ _ k t _ rfl]
    refine (transpose_apply _ _ _ _ (ix2 t k) fun a => ?_).trans h
    fin_cases a <;> rfl
  unfold back
  dsimp only
  refine (shapeCast_apply _ _ _ (ix2 ⟨k.val * 16384 + t.val, hr⟩ d) ?_).trans (Routing.gather_row _ rfl rfl rfl rfl rfl _ _ _ d p ?_ (by decide))
  · rw [Shape.rowMajor_val_four, Shape.rowMajor_val_two]
    show (k.val * 16384 + t.val) * 1024 + d.val = ((k.val * 8 + b.val) * 2048 + l.val) * 1024 + d.val
    omega
  · rw [Routing.bcCol]
    show Scalar.select (IntOp.cmpi .slt _ _) _ _ = _
    have := p.isLt
    rw [hq, Routing.bc0, show constantI S_ 32 0#32 ix0 = BitVec.ofNat 32 0 from rfl, cmpi_slt_ofNat (w := 32) (by omega) (by omega), select_decide, if_neg (by omega)]

end Cert.Proof.Route
-- ==== Proof.Moe.Result.lean ====
/-
  The kernel's whole result, element by element: at pick `k` of a token the picked expert's output at the token's row.
-/
module

public import proofs.«01_k».proof.Proof.Moe.Frame
public import proofs.«01_k».proof.Proof.Moe.KerVal
public import proofs.«01_k».proof.Proof.Route.Reads

@[expose] public section

set_option maxRecDepth 16384

noncomputable section

namespace Cert.Proof.Moe

open Cert.KernelIdeal Cert.KernelIdeal.Gen
open Idealize.ShloMosaic
open Idealize.ShloMosaic.TcCoe

variable (m : (ℓ : Loc nD τ sig) → Buf (Elt Ideal) ℓ)

/-- The two ways an index is written by its coordinates are one. -/
theorem ix2_same {n0 n1 : Nat} (i : Fin n0) (j : Fin n1) : ValueIdx.ix2 i j = ix2 i j := by
  funext d; match d with
  | ⟨0, _⟩ => rfl
  | ⟨1, _⟩ => rfl
theorem ix4_same {n0 n1 n2 n3 : Nat} (i : Fin n0) (j : Fin n1) (k : Fin n2) (l : Fin n3) : ValueIdx.ix4 i j k l = ix4 i j k l := by
  funext d; match d with
  | ⟨0, _⟩ => rfl
  | ⟨1, _⟩ => rfl
  | ⟨2, _⟩ => rfl
  | ⟨3, _⟩ => rfl

/-- The expert of assignment `a`. -/
abbrev expertN (a : ℕ) : ℕ := Route.pickE (memW m 0) a

theorem biasG_eq (c : Dev nD) : biasG (V0 m) c = (m ((c.tc : Thread nD τ).loc main_arg3) : S32x2048.Idx → EReal) := by
  have e : V0 m c main_v119 = shapeCast S32x1x2048 (m ((c.tc : Thread nD τ).loc main_arg3) : Vec Ideal S32x2048 .f32) shapeCasts_S32x2048_S32x1x2048 := by rw [V0_eq]; exact Route.v119_21 _
  funext i
  unfold biasG
  rw [show V (V0 m) c main_v119 = _ from e]
  refine (shapeCast_apply _ _ _ i ?_)
  rw [Shape.rowMajor_val_two, Shape.rowMajor_val_three]
  show (i 0).val * 2048 + (i 1).val = ((i 0).val * 1 + 0) * 2048 + (i 1).val
  omega

theorem biasD_eq (c : Dev nD) : biasD (V0 m) c = (m ((c.tc : Thread nD τ).loc main_arg5) : S32x1024.Idx → EReal) := by
  have e : V0 m c main_v120 = shapeCast S32x1x1024 (m ((c.tc : Thread nD τ).loc main_arg5) : Vec Ideal S32x1024 .f32) shapeCasts_S32x1024_S32x1x1024 := by rw [V0_eq]; exact Route.v120_21 _
  funext i
  unfold biasD
  rw [show V (V0 m) c main_v120 = _ from e]
  refine (shapeCast_apply _ _ _ i ?_)
  rw [Shape.rowMajor_val_two, Shape.rowMajor_val_three]
  show (i 0).val * 1024 + (i 1).val = ((i 0).val * 1 + 0) * 1024 + (i 1).val
  omega

/-- The row at an assignment's place is its token's. -/
theorem rowX_eq (k : Fin 4) (b : Fin 8) (l : Fin 2048) (a : Fin 81920) (ha : a.val = (b.val * 2048 + l.val) * 4 + k.val) :
    rowX (V0 m) 0 (Route.placeOf (expertN m) a)
      = fun q => (m (((0 : Dev nD).tc : Thread nD τ).loc main_arg0) : S2x8x2048x1024.Idx → EReal) (ix4 0 b l q) := by
  have e : V0 m 0 main_v118 = Route.rows (m (((0 : Dev nD).tc : Thread nD τ).loc main_arg0) : Vec Ideal S2x8x2048x1024 .bf16) (Route.token (Route.orig (memW m 0))) := by rw [V0_eq]; exact Route.v118_21 _
  have hr : Route.rowAt (expertN m) (Route.placeOf (expertN m) a) = a := Route.rowAt_placeOf _ a
  have hl : (Route.rowAt (expertN m) (Route.placeOf (expertN m) a)).val < 65536 := by
    rw [hr, ha]; have := b.isLt; have := l.isLt; have := k.isLt; omega
  have ht := Route.token_ap (expertN m) (Route.pickE_lt _) (Route.picks (memW m 0)) (Route.picks_ap _) _ hl
  rw [hr, ha, show ((b.val * 2048 + l.val) * 4 + k.val) / 4 = b.val * 2048 + l.val from by have := k.isLt; omega] at ht
  funext q
  unfold rowX
  rw [show V (V0 m) 0 main_v118 = _ from e]
  rw [← ix2_same, ← ix4_same]
  exact Route.rows_ap _ _ _ b l q ht

/-- A place before the end of the experts' rows lies in a tile in use. -/
theorem used_at (p : Fin 81920) (h : p.val < Route.finN (expertN m) 32) : ((p.val / 512 : ℕ) : ℤ) < (pfN (tbl (V0 m))).toInt := by
  have hq : p.val / 512 < 160 := by have := p.isLt; omega
  have e1 : pfN (tbl (V0 m)) = Route.tilesUsed (Route.ends (memW m 0)) ix0 := congrFun (tbl1 m) ix0
  rw [e1]
  exact (Route.used_iff (expertN m) (Route.pickE_lt _) (Route.picks (memW m 0)) (Route.picks_ap _) ⟨p.val / 512, hq⟩).mpr
    (lt_of_le_of_lt (Nat.div_mul_le_self _ _) h)

/-- The table's expert at a place's tile. -/
theorem expert_at (p : Fin 81920) (e : ℕ) (h : Route.tileN (expertN m) (p.val / 512) = e) :
    (pfE (tbl (V0 m)) (ix ⟨p.val / 512, by have := p.isLt; omega⟩)).toNat = e := by
  have hl := Route.tile_lt (expertN m) (Route.pickE_lt _) (p.val / 512)
  rw [show pfE (tbl (V0 m)) = Route.tileE (Route.ends (memW m 0)) from tbl0 m, Route.ix_eq,
    Route.tileE_ap (expertN m) (Route.pickE_lt _) (Route.picks (memW m 0)) (Route.picks_ap _), BitVec.toNat_ofNat, ← h]
  exact Nat.mod_eq_of_lt (lt_trans hl (by decide))

theorem arg2_at : V (V0 m) 0 main_arg2 = m (((0 : Dev nD).tc : Thread nD τ).loc main_arg2) := V_arg2 m 0
theorem arg4_at : V (V0 m) 0 main_arg4 = m (((0 : Dev nD).tc : Thread nD τ).loc main_arg4) := V_arg4 m 0

theorem expertOut_same (x wG bG wD bD) {e e' : ℕ} (he : e = e') (h : e < 32) (h' : e' < 32) (d : Fin 1024) :
    expertOut x wG bG wD bD ⟨e, h⟩ d = expertOut x wG bG wD bD ⟨e', h'⟩ d := by
  subst he; rfl

/-- The result at pick `k` of token `(b, l)`, column `d`. -/
theorem result_ap (k : Fin 4) (b : Fin 8) (l : Fin 2048) (d : Fin 1024) (a : ℕ) (ha : a = (b.val * 2048 + l.val) * 4 + k.val) (hE : expertN m a < 32) :
    (Route.back (F := Ideal) (moeOut (V0 m) (planM m) 0) (Route.places (Route.orig (memW m 0))) (ix4 k b l d) : EReal)
      = expertOut (fun q => (m (((0 : Dev nD).tc : Thread nD τ).loc main_arg0) : S2x8x2048x1024.Idx → EReal) (ix4 0 b l q))
          (m (((0 : Dev nD).tc : Thread nD τ).loc main_arg2)) (m (((0 : Dev nD).tc : Thread nD τ).loc main_arg3))
          (m (((0 : Dev nD).tc : Thread nD τ).loc main_arg4)) (m (((0 : Dev nD).tc : Thread nD τ).loc main_arg5)) ⟨expertN m a, hE⟩ d := by
  have ht : b.val * 2048 + l.val < 16384 := by have := b.isLt; have := l.isLt; omega
  have ha' : a < 81920 := by have := k.isLt; omega
  have hp := Route.places_ap (expertN m) (Route.pickE_lt _) (Route.picks (memW m 0)) (Route.picks_ap _) ⟨b.val * 2048 + l.val, ht⟩ k
  have hf : (⟨(b.val * 2048 + l.val) * 4 + k.val, by have := k.isLt; omega⟩ : Fin 81920) = ⟨a, ha'⟩ := Fin.ext ha.symm
  have hp' : Route.places (Route.orig (memW m 0)) (ValueIdx.ix2 ⟨b.val * 2048 + l.val, ht⟩ k) = BitVec.ofNat 32 (Route.placeOf (expertN m) ⟨a, ha'⟩).val := by
    rw [← hf]; exact hp
  rw [← ix4_same k b l d, Route.back_ap _ _ k b l d ⟨b.val * 2048 + l.val, ht⟩ rfl (Route.placeOf (expertN m) ⟨a, ha'⟩) hp']
  obtain ⟨h1, h2⟩ := Route.placeOf_tile (expertN m) (Route.pickE_lt _) ⟨a, ha'⟩ (by show a < 65536; have := k.isLt; omega)
  have hx := rowX_eq m k b l ⟨a, ha'⟩ ha
  obtain ⟨p, hpd⟩ : ∃ p, p = Route.placeOf (expertN m) ⟨a, ha'⟩ := ⟨_, rfl⟩
  rw [← hpd] at h1 h2 hx ⊢
  rw [ix2_same]
  have hpl := p.isLt
  have hu := used_at m p h2
  have he := expert_at m p _ h1
  generalize expertN m a = e at he hE
  refine (moeOut_row (V0 m) (planM m) 0 p d).trans ((if_pos hu).trans ?_)
  rw [hx, biasG_eq, biasD_eq, arg2_at, arg4_at]
  exact expertOut_same _ _ _ _ _ he _ _ d

end Cert.Proof.Moe
-- ==== Proof.Moe.RefVal.lean ====
/-
  The reference's result at a row and a column: its rows' experts and the tiles in use select one expert's output.
-/
module

public import proofs.«01_k».proof.Proof.Gen.ReferenceIdeal.Run
public import Idealize.ShloMosaic.Lib.Pointwise
public import Idealize.ShloMosaic.Lib.Tactic.CleanTypes
public import Idealize.ShloMosaic.Lib.Routing.OpsSearch
public import proofs.«01_k».proof.Proof.Moe.Expert

@[expose] public section

set_option maxRecDepth 16384

noncomputable section

namespace Cert.Proof.Moe.Ref

open Cert.ReferenceIdeal Cert.ReferenceIdeal.Gen Cert.ReferenceIdeal.Value
open Idealize.ShloMosaic
open Idealize.ShloMosaic.TcCoe

variable (m : (ℓ : Loc nD τ sig) → Buf (Elt Ideal) ℓ) (c : Dev nD)

/-- One expert's output weighted by its bit, summed over the experts: the picked expert's. -/
theorem sum_select (w : BitVec 32) (hw : w.toNat < 32) (y : Fin 32 → EReal) :
    (∑ e : Fin 32, (FloatOps.uitofp (F := Ideal) .f32 (IntOp.cmpi .eq w (BitVec.ofNat 32 e.val)) : EReal) * y e) = y ⟨w.toNat, hw⟩ := by
  have he : ∀ e : Fin 32, (FloatOps.uitofp (F := Ideal) .f32 (IntOp.cmpi .eq w (BitVec.ofNat 32 e.val)) : EReal) = if e = ⟨w.toNat, hw⟩ then 1 else 0 := by
    intro e
    by_cases h : e = ⟨w.toNat, hw⟩
    · have : w = BitVec.ofNat 32 e.val := by
        rw [h]; apply BitVec.eq_of_toNat_eq; rw [BitVec.toNat_ofNat]; exact (Nat.mod_eq_of_lt (by omega)).symm
      rw [if_pos h, StableHlo.Predicate.cmpi_eq_iff.mpr this]
      show (((1 : ℕ) : ℝ) : EReal) = 1; simp
    · have : ¬ IntOp.cmpi .eq w (BitVec.ofNat 32 e.val) = 1#1 := by
        rw [StableHlo.Predicate.cmpi_eq_iff]
        intro h'; apply h; apply Fin.ext; show e.val = w.toNat; rw [h', BitVec.toNat_ofNat]; exact (Nat.mod_eq_of_lt (by omega)).symm
      rw [if_neg h, (BitVec.eq_zero_or_eq_one _).resolve_right this]
      show (((0 : ℕ) : ℝ) : EReal) = 0; simp
  simp only [he, ite_mul, one_mul, zero_mul, Finset.sum_ite_eq', Finset.mem_univ, if_true]

/-- The four picked experts of every token. -/
def topPick (x : Vec Ideal S16384x32 .f32) : IVec S16384x4 32 := (Host.topK (α := Ideal .f32) S16384x4 1 (FloatOps.cmpfTotal .gt) x sliceFits_S16384x32_S16384x4).2

/-- The reference's result at pick `k` of token `(b, l)`, column `d`: the picked expert's output at the token's row. -/
theorem ref_val (k : Fin 4) (b : Fin 8) (l : Fin 2048) (d : Fin 1024) (w : BitVec 32) (hw : w.toNat < 32) (t : Fin 16384) (ht : t.val = b.val * 2048 + l.val)
    (h : topPick (m ((c.tc : Thread nD τ).loc main_arg1)) (ix2 t k) = w) :
    (res_main_v34 m c (ix4 k b l d) : EReal)
      = expertOut (fun q => (m ((c.tc : Thread nD τ).loc main_arg0) : S2x8x2048x1024.Idx → EReal) (ix4 0 b l q)) (m ((c.tc : Thread nD τ).loc main_arg2)) (m ((c.tc : Thread nD τ).loc main_arg3))
          (m ((c.tc : Thread nD τ).loc main_arg4)) (m ((c.tc : Thread nD τ).loc main_arg5)) ⟨w.toNat, hw⟩ d := by
  unfold res_main_v34
  change shapeCast _ _ _ _ = _
  unfold topPick at h
  generalize (Host.topK S16384x4 1 _ _ _).2 = tk at h ⊢
  clean_types
  pointwise
  simp only [id]
  have h' : ∀ hh : b.val * 2048 + l.val < 16384, tk (ix2 ⟨b.val * 2048 + l.val, hh⟩ k) = w := fun hh =>
    (congrArg (fun t => tk (ix2 t k)) (Fin.ext ht.symm)).trans h
  refine Eq.trans (Finset.sum_congr rfl fun e _ => ?_) (sum_select _ hw (fun e => expertOut (fun q => (m ((c.tc : Thread nD τ).loc main_arg0) : S2x8x2048x1024.Idx → EReal) (ix4 0 b l q))
    (m ((c.tc : Thread nD τ).loc main_arg2)) (m ((c.tc : Thread nD τ).loc main_arg3)) (m ((c.tc : Thread nD τ).loc main_arg4)) (m ((c.tc : Thread nD τ).loc main_arg5)) e d))
  refine (mul_comm _ _).trans ?_
  rw [h' _]
  rfl

end Cert.Proof.Moe.Ref
-- ==== Proof.Moe.Both.lean ====
/-
  The two results side by side: the kernel's and the reference's pick the same expert at the same row.
-/
module

public import proofs.«01_k».proof.Proof.Moe.Result
public import proofs.«01_k».proof.Proof.Moe.RefVal

@[expose] public section

set_option maxRecDepth 16384

noncomputable section

namespace Cert.Proof.Moe

open Idealize.ShloMosaic
open Idealize.ShloMosaic.TcCoe

variable (m : (ℓ : Loc Cert.KernelIdeal.nD Cert.KernelIdeal.τ Cert.KernelIdeal.sig) → Buf (Elt Ideal) ℓ)

/-- The number of an assignment's expert is its pick's word. -/
theorem expert_pick (a : ℕ) (h : a < 65536) (t : Fin 16384) (k : Fin 4) (ha : a = t.val * 4 + k.val) :
    expertN m a = (Ref.topPick (m (((0 : Dev Cert.KernelIdeal.nD).tc : Thread Cert.KernelIdeal.nD Cert.KernelIdeal.τ).loc Cert.KernelIdeal.main_arg1)) (ix2 t k)).toNat := by
  unfold expertN Route.pickE Ref.topPick
  rw [dif_pos h]
  refine congrArg BitVec.toNat ?_
  rw [← ix2_same]
  exact Routing.cast21 _ _ t k ⟨a, h⟩ ha

/-- A place of the whole result, by its coordinates. -/
theorem at_result (i : (⟨4, ![4, 8, 2048, 1024]⟩ : Shape).Idx) : ∃ (k : Fin 4) (b : Fin 8) (l : Fin 2048) (d : Fin 1024), i = ix4 k b l d :=
  ⟨i 0, i 1, i 2, i 3, (ValueIdx.eq_ix4 i).trans (ix4_same _ _ _ _)⟩

variable (m' : (ℓ : Loc Cert.ReferenceIdeal.nD Cert.ReferenceIdeal.τ Cert.ReferenceIdeal.sig) → Buf (Elt Ideal) ℓ) (c : Dev Cert.KernelIdeal.nD)

/-- From the same arguments the reference's result is the kernel's. -/
theorem both (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.res_main_v34 m' c : (⟨4, ![4, 8, 2048, 1024]⟩ : Shape).Idx → EReal)
      = Route.back (F := Ideal) (moeOut (V0 m) (planM m) c) (Route.places (Route.orig (memW m c))) := by
  obtain rfl : c = (0 : Dev Cert.KernelIdeal.nD) := Subsingleton.elim _ _
  obtain ⟨a0, a1, a2, a3, a4, a5⟩ := h
  funext i
  obtain ⟨k, b, l, d, rfl⟩ := at_result i
  have ht : b.val * 2048 + l.val < 16384 := by have := b.isLt; have := l.isLt; omega
  have hlt : (b.val * 2048 + l.val) * 4 + k.val < 65536 := by have := k.isLt; omega
  have hE : expertN m ((b.val * 2048 + l.val) * 4 + k.val) < 32 := Route.pickE_lt (memW m 0) _ hlt
  have he := expert_pick m _ hlt ⟨b.val * 2048 + l.val, ht⟩ k rfl
  refine Eq.trans ?_ (result_ap m k b l d _ rfl hE).symm
  refine (Ref.ref_val m' 0 k b l d _ (he ▸ hE) ⟨b.val * 2048 + l.val, ht⟩ rfl (by rw [a1])).trans ?_
  rw [a0, a2, a3, a4, a5]
  exact expertOut_same _ _ _ _ _ he.symm _ _ d

end Cert.Proof.Moe
-- ==== Proof.Final.Row.lean ====
/-
  One element of the layer's result, as a plain expression over the extended reals.
-/
module

public import Idealize.ShloMosaic.Lib.Pointwise

@[expose] public section

noncomputable section

namespace Cert.Proof.Final

open Idealize.ShloMosaic

/-- A token's residual row: its stream plus the gate times the weighted sum of its four picks. -/
def resid (x g : Fin 1024 → EReal) (w : Fin 4 → EReal) (y : Fin 4 → Fin 1024 → EReal) (d : Fin 1024) : EReal :=
  x d + g d * ∑ k : Fin 4, w k * y k d

/-- A token's result at feature `d`: its residual row over the root of the row's mean square plus
    `1e-6`, times the norm's weight. The two words are the numerals 1024 and `1e-6` as both programs write them. -/
def normed (x g nf : Fin 1024 → EReal) (w : Fin 4 → EReal) (y : Fin 4 → Fin 1024 → EReal) (d : Fin 1024) : EReal :=
  resid x g w y d
      * Ideal.rsqrt
          (Ideal.div (∑ e : Fin 1024, resid x g w y e * resid x g w y e) (Ideal.ofBits FTy.f32 1149239296#32)
            + Ideal.ofBits FTy.f32 897988541#32)
    * nf d

/-- The four picks written out one after the other. -/
theorem resid_four (x g : Fin 1024 → EReal) (w : Fin 4 → EReal) (y : Fin 4 → Fin 1024 → EReal) (d : Fin 1024) :
    resid x g w y d = x d + g d * (w 0 * y 0 d + w 1 * y 1 d + w 2 * y 2 d + w 3 * y 3 d) := by
  unfold resid
  rw [Fin.sum_univ_four]

/-- Equal rows give equal results. -/
theorem normed_congr {x x' g g' nf nf' : Fin 1024 → EReal} {w w' : Fin 4 → EReal} {y y' : Fin 4 → Fin 1024 → EReal}
    (hx : ∀ e, x e = x' e) (hg : ∀ e, g e = g' e) (hn : ∀ e, nf e = nf' e) (hw : ∀ k, w k = w' k)
    (hy : ∀ k e, y k e = y' k e) (d : Fin 1024) : normed x g nf w y d = normed x' g' nf' w' y' d := by
  rw [funext hx, funext hg, funext hn, funext hw, funext fun k => funext (hy k)]

end Cert.Proof.Final
-- ==== Proof.Final.Ref.lean ====
/-
  What the plain program computes, read element by element over the extended reals.
-/
module

public import proofs.«01_k».proof.Proof.Final.Row
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Proof.Final.Ref

open Cert.Reference2Ideal Cert.Reference2Ideal.Gen Cert.Reference2Ideal.Value
open Idealize.ShloMosaic
open Idealize.ShloMosaic.TcCoe

/-- The four largest logits of every token. -/
def top (lg : Vec Ideal S16384x32 .f32) : FVec Ideal S16384x4 .f32 :=
  (Host.topK S16384x4 1 (FloatOps.cmpfTotal .gt) lg sliceFits_S16384x32_S16384x4).1

/-- Their exponentials, each token's largest subtracted first. -/
def expo (lg : Vec Ideal S16384x32 .f32) : FVec Ideal S16384x4 .f32 :=
  Host.exp (subf (top lg) (broadcastInDim S16384x4 ![0, 1] bcast_S16384x1_S16384x4_0_1
    (broadcastInDim S16384x1 ![0] bcast_S16384_S16384x1_0
      (maximumf (broadcastInDim S16384 ![] bcast_S_S16384 (constant S_ .f32 0xFF800000#32))
        (Host.reduce FloatOps.maximumf (top lg) (constant S_ .f32 0xFF800000#32) reducesTo_S16384x4_S16384_d1 h_S_)))))

/-- The routing weights: the softmax of every token's four largest logits. -/
def weights (lg : Vec Ideal S16384x32 .f32) : FVec Ideal S16384x4 .f32 :=
  Host.divf (expo lg) (broadcastInDim S16384x4 ![0, 1] bcast_S16384x1_S16384x4_0_1
    (broadcastInDim S16384x1 ![0] bcast_S16384_S16384x1_0
      (Host.reduceAdd (expo lg) (constant S_ .f32 0x00000000#32) reducesTo_S16384x4_S16384_d1 h_S_)))

/-- The plain program's result at batch `b`, position `l` and feature `d`. -/
theorem result_apply (m : (ℓ : Loc nD τ sig) → Buf (Elt Ideal) ℓ) (c : Dev nD)
    (A0 : Vec Ideal S8x2048x1024 .f32) (A1 : Vec Ideal S4x8x2048x1024 .bf16) (A2 : Vec Ideal S16384x32 .f32)
    (A3 : Vec Ideal S16x6144 .f32) (A4 : Vec Ideal S1024 .f32)
    (h0 : m ((c.tc : Thread nD τ).loc main_arg0) = A0) (h1 : m ((c.tc : Thread nD τ).loc main_arg1) = A1)
    (h2 : m ((c.tc : Thread nD τ).loc main_arg2) = A2) (h3 : m ((c.tc : Thread nD τ).loc main_arg3) = A3)
    (h4 : m ((c.tc : Thread nD τ).loc main_arg4) = A4)
    (b : Fin 8) (l : Fin 2048) (d : Fin 1024) :
    (res_main_v37 m c : Vec Ideal S8x2048x1024 .f32) (ix3 b l d)
      = normed (fun e => A0 (ix3 b l e)) (fun e => A3 (ix2 (⟨b.val, by omega⟩ : Fin 16) (⟨5120 + e.val, by omega⟩ : Fin 6144)))
          (fun e => A4 (ix1 e)) (fun k => weights A2 (ix2 (⟨b.val * 2048 + l.val, by omega⟩ : Fin 16384) k))
          (fun k e => A1 (ix4 k b l e)) d := by
  have hW : (Host.divf (expo A2) (broadcastInDim S16384x4 ![0, 1] bcast_S16384x1_S16384x4_0_1
    (broadcastInDim S16384x1 ![0] bcast_S16384_S16384x1_0
      (Host.reduceAdd (expo A2) (constant S_ .f32 0x00000000#32) reducesTo_S16384x4_S16384_d1 h_S_)))) = weights A2 := rfl
  unfold res_main_v37
  rw [h0, h1, h2, h3, h4]
  clean_types
  unfold expo top at hW
  rw [hW]
  generalize weights A2 = W
  pointwise
  rfl

end Cert.Proof.Final.Ref
-- ==== Proof.Final.Ker.lean ====
/-
  What the combining kernel leaves in its result, read element by element over the extended reals.
-/
module

public import proofs.«01_k».proof.Proof.Final.Row
public import proofs.«01_k».proof.Proof.Final.Ref
public import proofs.«01_k».proof.Proof.Gen.Kernel2Ideal.Value
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Proof.Final

open Cert.Kernel2Ideal Cert.Kernel2Ideal.Gen
open Idealize.ShloMosaic
open Idealize.ShloMosaic.TcCoe

/-- A grid point's block of the result at row `r` and feature `d`, from its input blocks. -/
theorem block_apply (x0 : Vec Ideal S1x256x1024 .f32) (x1 x2 x3 x4 : Vec Ideal S1x1x256x1024 .bf16)
    (x5 : Vec Ideal S1x256x128 .f32) (x6 : Vec Ideal S1x1x1024 .f32) (x7 : Vec Ideal S1x1024 .f32)
    (r : Fin 256) (d : Fin 1024) :
    (out0_8 x0 x1 x2 x3 x4 x5 x6 x7 (ix3 (0 : Fin 1) r d) : EReal)
      = normed (fun e => x0 (ix3 (0 : Fin 1) r e)) (fun e => x6 (ix3 (0 : Fin 1) (0 : Fin 1) e))
          (fun e => x7 (ix2 (0 : Fin 1) e))
          ![x5 (ix3 (0 : Fin 1) r (0 : Fin 128)), x5 (ix3 (0 : Fin 1) r (1 : Fin 128)),
            x5 (ix3 (0 : Fin 1) r (2 : Fin 128)), x5 (ix3 (0 : Fin 1) r (3 : Fin 128))]
          ![fun e => x1 (ix4 (0 : Fin 1) (0 : Fin 1) r e), fun e => x2 (ix4 (0 : Fin 1) (0 : Fin 1) r e),
            fun e => x3 (ix4 (0 : Fin 1) (0 : Fin 1) r e), fun e => x4 (ix4 (0 : Fin 1) (0 : Fin 1) r e)] d := by
  unfold normed
  simp only [resid_four]
  frame_out
  unfold k0_pay1 k0_pay2 k0_pay3 k0_pay4
  clean_types
  pointwise

variable (m : (ℓ : Loc nD τ sig) → Buf (Elt Ideal) ℓ) (c : Dev nD)

/-- The first four lanes of the padded weights are the routing weights. -/
theorem weight_apply (A2 : Vec Ideal S16384x32 .f32) (h2 : m ((c.tc : Thread nD τ).loc main_arg2) = A2)
    (b : Fin 8) (l : Fin 2048) (k : Fin 128) (hk : k.val < 4) :
    (V m c main_v14 : Vec Ideal S8x2048x128 .f32) (ix3 b l k)
      = Ref.weights A2 (ix2 (⟨b.val * 2048 + l.val, by omega⟩ : Fin 16384) (⟨k.val, hk⟩ : Fin 4)) := by
  unfold V
  simp only [hostOps0, hostOps0_1, hostOps0_2, List.flatten_cons, List.flatten_nil, List.append_nil, List.cons_append, List.nil_append]
  entry_read
  subst h2
  show (shapeCast S8x2048x128 (pad S16384x128 ![0, 0] ![0, 124] ![0, 0]
      (Ref.weights (m ((c.tc : Thread nD τ).loc main_arg2)) : Vec Ideal S16384x4 .f32)
      (sitofp .f32 (constantI S_ 32 0#32) : FVec Ideal S_ .f32) pads_S16384x4_S16384x128_000_01240 h_S_)
      shapeCasts_S16384x128_S8x2048x128 : Vec Ideal S8x2048x128 .f32) (ix3 b l k) = _
  generalize Ref.weights (m ((c.tc : Thread nD τ).loc main_arg2)) = W
  pointwise
  exact dif_pos ⟨by omega, hk⟩

/-- The norm's weight under its added axis. -/
theorem nf_apply (A4 : Vec Ideal S1024 .f32) (h4 : m ((c.tc : Thread nD τ).loc main_arg4) = A4) (k : Fin 1024) :
    (V m c main_v15 : Vec Ideal S1x1024 .f32) (ix2 (0 : Fin 1) k) = A4 (ix1 k) := by
  unfold V
  simp only [hostOps0, hostOps0_1, hostOps0_2, List.flatten_cons, List.flatten_nil, List.append_nil, List.cons_append, List.nil_append]
  entry_read
  rw [h4]
  pointwise

/-- Row `6 b + 5` of the modulation's reshaped rows is the last of batch `b`'s six vectors: its gate. -/
theorem mod_apply (A3 : Vec Ideal S16x6144 .f32) (h3 : m ((c.tc : Thread nD τ).loc main_arg3) = A3) (b : Fin 8) (k : Fin 1024) :
    (V m c main_v1 : Vec Ideal S54x1x1024 .f32) (ix3 (⟨b.val * 6 + 5, by omega⟩ : Fin 54) (0 : Fin 1) k)
      = A3 (ix2 (⟨b.val, by omega⟩ : Fin 16) (⟨5120 + k.val, by omega⟩ : Fin 6144)) := by
  unfold V
  simp only [hostOps0, hostOps0_1, hostOps0_2, List.flatten_cons, List.flatten_nil, List.append_nil, List.cons_append, List.nil_append]
  entry_read
  rw [h3]
  pointwise
  exact congrArg A3 (congrArg₂ ix2 (Fin.ext (by show (b.val * 6 + 5) / 6 = b.val; omega))
    (Fin.ext (by show (b.val * 6 + 5) % 6 * 1024 + k.val = 5120 + k.val; omega)))

/-- The blocks' places: a grid point is a batch and one of its eight tiles of 256 positions. -/
theorem idx : ∀ t : Fin cfg0.N,
    win0_0.index t = ![t.val / 8, t.val % 8, 0] ∧ win0_1.index t = ![0, t.val / 8, t.val % 8, 0]
      ∧ win0_2.index t = ![1, t.val / 8, t.val % 8, 0] ∧ win0_3.index t = ![2, t.val / 8, t.val % 8, 0]
      ∧ win0_4.index t = ![3, t.val / 8, t.val % 8, 0] ∧ win0_5.index t = ![t.val / 8, t.val % 8, 0]
      ∧ win0_6.index t = ![t.val / 8 * 6 + 5, 0, 0] ∧ win0_7.index t = ![0, 0]
      ∧ win0_8.index t = ![t.val / 8, t.val % 8, 0] :=
  (by decide +kernel : ∀ t : Fin grid0.N, _)

/-- Window 0's block: the tile's rows of the stream. -/
theorem iblk0 (t : Fin cfg0.N) (r : Fin 256) (e : Fin 1024) (A0 : Vec Ideal S8x2048x1024 .f32)
    (h0 : m ((c.tc : Thread nD τ).loc main_arg0) = A0) :
    (iblk m c 0 t : Vec Ideal S1x256x1024 .f32) (ix3 (0 : Fin 1) r e) = A0 (ix3 (⟨t.val / 8, by have : t.val < 64 := t.isLt; omega⟩ : Fin 8) (⟨t.val % 8 * 256 + r.val, by omega⟩ : Fin 2048) e) := by
  have e0 := (idx t).1
  rw [← h0]
  blk_ext [iblk, e0]

/-- Window 1's block: the tile's rows of pick 0. -/
theorem iblk1 (t : Fin cfg0.N) (r : Fin 256) (e : Fin 1024) (A1 : Vec Ideal S4x8x2048x1024 .bf16)
    (h1 : m ((c.tc : Thread nD τ).loc main_arg1) = A1) :
    (iblk m c 1 t : Vec Ideal S1x1x256x1024 .bf16) (ix4 (0 : Fin 1) (0 : Fin 1) r e) = A1 (ix4 (0 : Fin 4) (⟨t.val / 8, by have : t.val < 64 := t.isLt; omega⟩ : Fin 8) (⟨t.val % 8 * 256 + r.val, by omega⟩ : Fin 2048) e) := by
  have e0 := (idx t).2.1
  rw [← h1]
  blk_ext [iblk, e0]

/-- Window 2's block: the tile's rows of pick 1. -/
theorem iblk2 (t : Fin cfg0.N) (r : Fin 256) (e : Fin 1024) (A1 : Vec Ideal S4x8x2048x1024 .bf16)
    (h1 : m ((c.tc : Thread nD τ).loc main_arg1) = A1) :
    (iblk m c 2 t : Vec Ideal S1x1x256x1024 .bf16) (ix4 (0 : Fin 1) (0 : Fin 1) r e) = A1 (ix4 (1 : Fin 4) (⟨t.val / 8, by have : t.val < 64 := t.isLt; omega⟩ : Fin 8) (⟨t.val % 8 * 256 + r.val, by omega⟩ : Fin 2048) e) := by
  have e0 := (idx t).2.2.1
  rw [← h1]
  blk_ext [iblk, e0]

/-- Window 3's block: the tile's rows of pick 2. -/
theorem iblk3 (t : Fin cfg0.N) (r : Fin 256) (e : Fin 1024) (A1 : Vec Ideal S4x8x2048x1024 .bf16)
    (h1 : m ((c.tc : Thread nD τ).loc main_arg1) = A1) :
    (iblk m c 3 t : Vec Ideal S1x1x256x1024 .bf16) (ix4 (0 : Fin 1) (0 : Fin 1) r e) = A1 (ix4 (2 : Fin 4) (⟨t.val / 8, by have : t.val < 64 := t.isLt; omega⟩ : Fin 8) (⟨t.val % 8 * 256 + r.val, by omega⟩ : Fin 2048) e) := by
  have e0 := (idx t).2.2.2.1
  rw [← h1]
  blk_ext [iblk, e0]

/-- Window 4's block: the tile's rows of pick 3. -/
theorem iblk4 (t : Fin cfg0.N) (r : Fin 256) (e : Fin 1024) (A1 : Vec Ideal S4x8x2048x1024 .bf16)
    (h1 : m ((c.tc : Thread nD τ).loc main_arg1) = A1) :
    (iblk m c 4 t : Vec Ideal S1x1x256x1024 .bf16) (ix4 (0 : Fin 1) (0 : Fin 1) r e) = A1 (ix4 (3 : Fin 4) (⟨t.val / 8, by have : t.val < 64 := t.isLt; omega⟩ : Fin 8) (⟨t.val % 8 * 256 + r.val, by omega⟩ : Fin 2048) e) := by
  have e0 := (idx t).2.2.2.2.1
  rw [← h1]
  blk_ext [iblk, e0]

/-- Window 5's block: the tile's rows of the padded weights. -/
theorem iblk5 (t : Fin cfg0.N) (r : Fin 256) (k : Fin 128) (W : Vec Ideal S8x2048x128 .f32) (hW : V m c main_v14 = W) :
    (iblk m c 5 t : Vec Ideal S1x256x128 .f32) (ix3 (0 : Fin 1) r k) = W (ix3 (⟨t.val / 8, by have : t.val < 64 := t.isLt; omega⟩ : Fin 8) (⟨t.val % 8 * 256 + r.val, by omega⟩ : Fin 2048) k) := by
  have e0 := (idx t).2.2.2.2.2.1
  unfold iblk
  rw [show V m c (Pipeline.arrRef spec0 5) = W from hW]
  blk_ext [e0]

/-- Window 6's block: the batch's gate. -/
theorem iblk6 (t : Fin cfg0.N) (e : Fin 1024) (G : Vec Ideal S54x1x1024 .f32) (hG : V m c main_v1 = G) :
    (iblk m c 6 t : Vec Ideal S1x1x1024 .f32) (ix3 (0 : Fin 1) (0 : Fin 1) e)
      = G (ix3 (⟨t.val / 8 * 6 + 5, by have : t.val < 64 := t.isLt; omega⟩ : Fin 54) (0 : Fin 1) e) := by
  have e0 := (idx t).2.2.2.2.2.2.1
  unfold iblk
  rw [show V m c (Pipeline.arrRef spec0 6) = G from hG]
  blk_ext [e0]

/-- Window 7's block: the norm's weight. -/
theorem iblk7 (t : Fin cfg0.N) (e : Fin 1024) (N : Vec Ideal S1x1024 .f32) (hN : V m c main_v15 = N) :
    (iblk m c 7 t : Vec Ideal S1x1024 .f32) (ix2 (0 : Fin 1) e) = N (ix2 (0 : Fin 1) e) := by
  have e0 := (idx t).2.2.2.2.2.2.2.1
  unfold iblk
  rw [show V m c (Pipeline.arrRef spec0 7) = N from hN]
  blk_ext [e0]

/-- The plain program's result as a function of the arguments. -/
def result (A0 : Vec Ideal S8x2048x1024 .f32) (A1 : Vec Ideal S4x8x2048x1024 .bf16) (A2 : Vec Ideal S16384x32 .f32)
    (A3 : Vec Ideal S16x6144 .f32) (A4 : Vec Ideal S1024 .f32) (b : Fin 8) (l : Fin 2048) (d : Fin 1024) : EReal :=
  normed (fun e => A0 (ix3 b l e)) (fun e => A3 (ix2 (⟨b.val, by omega⟩ : Fin 16) (⟨5120 + e.val, by omega⟩ : Fin 6144)))
    (fun e => A4 (ix1 e)) (fun k => Ref.weights A2 (ix2 (⟨b.val * 2048 + l.val, by omega⟩ : Fin 16384) k))
    (fun k e => A1 (ix4 k b l e)) d

/-- What grid point `t` leaves at row `r` and feature `d` of its block. -/
theorem point_apply (A0 : Vec Ideal S8x2048x1024 .f32) (A1 : Vec Ideal S4x8x2048x1024 .bf16) (A2 : Vec Ideal S16384x32 .f32)
    (A3 : Vec Ideal S16x6144 .f32) (A4 : Vec Ideal S1024 .f32)
    (h0 : m ((c.tc : Thread nD τ).loc main_arg0) = A0) (h1 : m ((c.tc : Thread nD τ).loc main_arg1) = A1)
    (h2 : m ((c.tc : Thread nD τ).loc main_arg2) = A2) (h3 : m ((c.tc : Thread nD τ).loc main_arg3) = A3)
    (h4 : m ((c.tc : Thread nD τ).loc main_arg4) = A4)
    (t : Fin cfg0.N) (r : Fin 256) (d : Fin 1024) :
    ((dats m 0 c).after 8 t : Vec Ideal S1x256x1024 .f32) (ix3 (0 : Fin 1) r d)
      = result A0 A1 A2 A3 A4 (⟨t.val / 8, by have : t.val < 64 := t.isLt; omega⟩ : Fin 8) (⟨t.val % 8 * 256 + r.val, by omega⟩ : Fin 2048) d := by
  rw [after0_8]
  refine (block_apply _ _ _ _ _ _ _ _ r d).trans ?_
  have hw : ∀ k : Fin 4, (iblk m c 5 t : Vec Ideal S1x256x128 .f32) (ix3 (0 : Fin 1) r (⟨k.val, by omega⟩ : Fin 128))
      = Ref.weights A2 (ix2 (⟨t.val / 8 * 2048 + (t.val % 8 * 256 + r.val), by have : t.val < 64 := t.isLt; omega⟩ : Fin 16384) k) := fun k =>
    (iblk5 m c t r _ _ rfl).trans (weight_apply m c A2 h2 _ _ _ k.isLt)
  unfold result
  refine normed_congr (fun e => iblk0 m c t r e A0 h0)
    (fun e => (iblk6 m c t e _ rfl).trans (mod_apply m c A3 h3 (⟨t.val / 8, by have : t.val < 64 := t.isLt; omega⟩ : Fin 8) e))
    (fun e => (iblk7 m c t e _ rfl).trans (nf_apply m c A4 h4 e)) (fun k => ?_) (fun k e => ?_) d
  · refine Eq.trans ?_ (hw k)
    fin_cases k <;> rfl
  · fin_cases k
    · exact iblk1 m c t r e A1 h1
    · exact iblk2 m c t r e A1 h1
    · exact iblk3 m c t r e A1 h1
    · exact iblk4 m c t r e A1 h1

/-- The place of a block's row `r` and feature `d` in the result's array. -/
theorem emb8 (t : Fin cfg0.N) (r : Fin 256) (d : Fin 1024) :
    (win0_8.blk t).view.emb (ix3 (0 : Fin 1) r d)
      = (ix3 (⟨t.val / 8, by have : t.val < 64 := t.isLt; omega⟩ : Fin 8) (⟨t.val % 8 * 256 + r.val, by omega⟩ : Fin 2048) d : S8x2048x1024.Idx) := by
  have e0 := (idx t).2.2.2.2.2.2.2.2
  blk_ext [e0]

/-- An index of a block, by its row and feature. -/
theorem at_block (y : S1x256x1024.Idx) : ∃ (r : Fin 256) (d : Fin 1024), y = ix3 (0 : Fin 1) r d :=
  ⟨y 1, y 2, (eq_ix3 y).trans
    (congrArg (fun u : Fin 1 => (ix3 u (y 1 : Fin 256) (y 2 : Fin 1024) : S1x256x1024.Idx)) (Subsingleton.elim (α := Fin 1) (y 0) 0))⟩

/-- An index of the result's array, by its batch, position and feature. -/
theorem at_array (y : S8x2048x1024.Idx) : ∃ (b : Fin 8) (l : Fin 2048) (d : Fin 1024), y = ix3 b l d :=
  ⟨y 0, y 1, y 2, eq_ix3 y⟩

/-- The kernel's result array, element by element. -/
theorem array_eq (A0 : Vec Ideal S8x2048x1024 .f32) (A1 : Vec Ideal S4x8x2048x1024 .bf16) (A2 : Vec Ideal S16384x32 .f32)
    (A3 : Vec Ideal S16x6144 .f32) (A4 : Vec Ideal S1024 .f32)
    (h0 : m ((c.tc : Thread nD τ).loc main_arg0) = A0) (h1 : m ((c.tc : Thread nD τ).loc main_arg1) = A1)
    (h2 : m ((c.tc : Thread nD τ).loc main_arg2) = A2) (h3 : m ((c.tc : Thread nD τ).loc main_arg3) = A3)
    (h4 : m ((c.tc : Thread nD τ).loc main_arg4) = A4) :
    (dats m 0 c).arrAt 8 cfg0.N
      = (fun y : S8x2048x1024.Idx => result A0 A1 A2 A3 A4 (y 0) (y 1) (y 2)) := by
  refine (dats m 0 c).arrAt_eq_of_covers 8 _ (by decide +kernel) fun t hf y => ?_
  obtain ⟨r, d, hy⟩ := at_block y
  have h := point_apply m c A0 A1 A2 A3 A4 h0 h1 h2 h3 h4 t r d
  have e := emb8 t r d
  rw [← hy] at h e
  refine h.trans ?_
  exact (congrArg (fun z : S8x2048x1024.Idx => result A0 A1 A2 A3 A4 (z 0) (z 1) (z 2)) e).symm

end Cert.Proof.Final
-- ==== Proof.Mod.Ref.lean ====
/-
  The modulation as plain mathematics, and what the plain program computes, read element by element over the extended reals.
-/
module

public import proofs.«01_k».proof.Proof.Gen.Reference3Ideal.Run
public import Idealize.ShloMosaic.Lib.Pointwise
public import Idealize.ShloMosaic.Lib.Tactic.CleanTypes

@[expose] public section

set_option maxRecDepth 16384

noncomputable section

namespace Cert.Proof.Mod

open Idealize.ShloMosaic
open Idealize.ShloMosaic.TcCoe

/-- Row `r` of the conditioning: the eight batches', then the context's, then zeros. -/
def cond (A0 : Cert.Reference3Ideal.S8x1024.Idx → EReal) (A1 : Cert.Reference3Ideal.S1024.Idx → EReal) (r : Fin 16) (e : Fin 1024) : EReal :=
  if h : r.val < 8 then A0 (ix2 (⟨r.val, h⟩ : Fin 8) e) else if r.val = 8 then A1 (ix1 e) else 0

/-- A number through the sigmoid-weighted unit. -/
def silu (x : EReal) : EReal := x * Ideal.div 1 (1 + Ideal.exp (-x))

end Cert.Proof.Mod

namespace Cert.Proof.Mod.Ref

open Cert.Reference3Ideal Cert.Reference3Ideal.Gen Cert.Reference3Ideal.Value
open Idealize.ShloMosaic
open Idealize.ShloMosaic.TcCoe

/-- The plain program's rows of conditioning, padded to sixteen. -/
def rows (A0 : Vec Ideal S8x1024 .f32) (A1 : Vec Ideal S1024 .f32) : FVec Ideal S16x1024 .f32 :=
  pad S16x1024 ![0, 0] ![7, 0] ![0, 0] (concatenate S9x1024 0 [⟨S8x1024, A0⟩, ⟨S1x1024, (broadcastInDim S1x1024 ![1] bcast_S1024_S1x1024_1 A1)⟩] concatenates_S8x1024_S1x1024_S9x1024_d0)
    (sitofp .f32 (constantI S_ 32 0#32) : FVec Ideal S_ .f32) pads_S9x1024_S16x1024_070_000 h_S_

/-- They are the conditioning. -/
theorem rows_apply (A0 : Vec Ideal S8x1024 .f32) (A1 : Vec Ideal S1024 .f32) (r : Fin 16) (e : Fin 1024) :
    (rows A0 A1 (ix2 r e) : EReal) = cond A0 A1 r e := by
  unfold cond rows
  clean_types
  pointwise
  by_cases h8 : r.val < 8
  · rw [dif_pos (by omega : r.val < 9), dif_pos h8, dif_pos h8]
  · rw [dif_neg h8]
    by_cases h9 : r.val = 8
    · rw [dif_pos (by omega : r.val < 9), dif_neg h8, if_pos h9]
    · rw [dif_neg (by omega : ¬ r.val < 9), if_neg h9]
      show (((0#32 : BitVec 32).toInt : ℝ) : EReal) = 0
      norm_num

/-- The plain program's result from its rows. -/
def res (R : FVec Ideal S16x1024 .f32) (A2 : FVec Ideal S1024x6144 .f32) (A3 : FVec Ideal S6144 .f32) : FVec Ideal S16x6144 .f32 :=
  addf (Host.dotGeneral dot_S16x1024_S1024x6144_S16x6144_1_0_0_1_n_n none (mulf R (Host.divf (broadcastInDim S16x1024 ![] bcast_S_S16x1024 (constant S_ .f32 0x3F800000#32)) (addf (broadcastInDim S16x1024 ![] bcast_S_S16x1024 (constant S_ .f32 0x3F800000#32)) (Host.exp (Host.negf R))))) A2)
    (broadcastInDim S16x6144 ![0, 1] bcast_S1x6144_S16x6144_0_1 (broadcastInDim S1x6144 ![1] bcast_S6144_S1x6144_1 A3))

/-- The plain program's result at row `r` and column `n`. -/
theorem res_apply (R : FVec Ideal S16x1024 .f32) (A2 : FVec Ideal S1024x6144 .f32) (A3 : FVec Ideal S6144 .f32) (r : Fin 16) (n : Fin 6144) :
    (res R A2 A3 (ix2 r n) : EReal) = (∑ k : Fin 1024, silu (R (ix2 r k)) * A2 (ix2 k n)) + A3 (ix1 n) := by
  unfold res silu
  clean_types
  pointwise

end Cert.Proof.Mod.Ref
-- ==== Proof.Mod.Ker.lean ====
/-
  What the modulation kernel leaves in its result, read element by element over the extended reals.
-/
module

public import proofs.«01_k».proof.Proof.Mod.Ref
public import proofs.«01_k».proof.Proof.Gen.Kernel3Ideal.Value
public import Idealize.ShloMosaic.Lib.Routing.OpsOne
public import Idealize.ShloMosaic.Lib.Routing.OpsSet
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Proof.Mod

open Cert.Kernel3Ideal Cert.Kernel3Ideal.Gen
open Idealize.ShloMosaic
open Idealize.ShloMosaic.TcCoe

/-- Row `a` of the batches' conditioning lands in row `a`. -/
theorem lands_eight (idx : IVec S1 32) (h : (idx (ValueIdx.ix1 (0 : Fin 1))).toInt = 0) (a : Fin 8) (b : Fin 1024) (r : Fin 16) (e : Fin 1024) :
    scatter_S16x1024_S1_S8x1024_01_n_0_0.resultIdx? (ValueIdx.ix2 a b) idx = some (ValueIdx.ix2 r e) ↔ a.val = r.val ∧ b = e := by
  have hs0 : scatter_S16x1024_S1_S8x1024_01_n_0_0.start (ValueIdx.ix2 a b) idx 0 = 0 := by
    unfold ScatterDims.start
    rw [dif_pos (show (0 : Fin 2) ∈ scatter_S16x1024_S1_S8x1024_01_n_0_0.scatterDimsToOperandDims from List.mem_singleton.2 rfl)]
    refine Eq.trans (congrArg (fun t => (idx t).toInt) ?_) h
    funext b'
    match b' with
    | ⟨0, _⟩ => exact Subsingleton.elim (α := Fin 1) _ _
  have hs1 : scatter_S16x1024_S1_S8x1024_01_n_0_0.start (ValueIdx.ix2 a b) idx 1 = 0 := by
    unfold ScatterDims.start
    exact dif_neg (by decide)
  have hw0 : scatter_S16x1024_S1_S8x1024_01_n_0_0.window (ValueIdx.ix2 a b) 0 = a.val := rfl
  have hw1 : scatter_S16x1024_S1_S8x1024_01_n_0_0.window (ValueIdx.ix2 a b) 1 = b.val := rfl
  refine (Routing.resultIdx?_ix2 scatter_S16x1024_S1_S8x1024_01_n_0_0 _ idx r e).trans ?_
  rw [hs0, hs1, hw0, hw1, Fin.ext_iff]
  omega

/-- The context's conditioning lands in row eight. -/
theorem lands_one (idx : IVec S1 32) (h : (idx (ValueIdx.ix1 (0 : Fin 1))).toInt = 8) (b : Fin 1024) (r : Fin 16) (e : Fin 1024) :
    scatter_S16x1024_S1_S1024_0_0_0_0.resultIdx? (ValueIdx.ix1 b) idx = some (ValueIdx.ix2 r e) ↔ r.val = 8 ∧ b = e := by
  have hs0 : scatter_S16x1024_S1_S1024_0_0_0_0.start (ValueIdx.ix1 b) idx 0 = 8 := by
    unfold ScatterDims.start
    rw [dif_pos (show (0 : Fin 2) ∈ scatter_S16x1024_S1_S1024_0_0_0_0.scatterDimsToOperandDims from List.mem_singleton.2 rfl)]
    refine Eq.trans (congrArg (fun t => (idx t).toInt) ?_) h
    funext b'
    match b' with
    | ⟨0, _⟩ => exact Subsingleton.elim (α := Fin 1) _ _
  have hs1 : scatter_S16x1024_S1_S1024_0_0_0_0.start (ValueIdx.ix1 b) idx 1 = 0 := by
    unfold ScatterDims.start
    exact dif_neg (by decide)
  have hw0 : scatter_S16x1024_S1_S1024_0_0_0_0.window (ValueIdx.ix1 b) 0 = 0 := rfl
  have hw1 : scatter_S16x1024_S1_S1024_0_0_0_0.window (ValueIdx.ix1 b) 1 = b.val := rfl
  refine (Routing.resultIdx?_ix2 scatter_S16x1024_S1_S1024_0_0_0_0 _ idx r e).trans ?_
  rw [hs0, hs1, hw0, hw1, Fin.ext_iff]
  omega

/-- The two writes into the zero rows make the conditioning. -/
theorem writes_apply (A0 : S8x1024.Idx → EReal) (A1 : S1024.Idx → EReal) (z : S16x1024.Idx → EReal) (hz : ∀ i, z i = 0)
    (i0 i8 : IVec S1 32) (h0 : (i0 (ValueIdx.ix1 (0 : Fin 1))).toInt = 0) (h8 : (i8 (ValueIdx.ix1 (0 : Fin 1))).toInt = 8)
    (r : Fin 16) (e : Fin 1024) :
    Host.scatter scatter_S16x1024_S1_S1024_0_0_0_0 (fun _ b => b)
      (Host.scatter scatter_S16x1024_S1_S8x1024_01_n_0_0 (fun _ b => b) z i0 A0) i8 A1 (ValueIdx.ix2 r e) = cond A0 A1 r e := by
  unfold cond
  have l8 : ∀ j : S1024.Idx, scatter_S16x1024_S1_S1024_0_0_0_0.resultIdx? j i8 = some (ValueIdx.ix2 r e) → r.val = 8 ∧ (j 0 : Fin 1024) = e := fun j hj =>
    (lands_one i8 h8 (j 0) r e).1 ((congrArg (fun t => scatter_S16x1024_S1_S1024_0_0_0_0.resultIdx? t i8) (ValueIdx.eq_ix1 j).symm).trans hj)
  have l0 : ∀ j : S8x1024.Idx, scatter_S16x1024_S1_S8x1024_01_n_0_0.resultIdx? j i0 = some (ValueIdx.ix2 r e) → (j 0 : Fin 8).val = r.val ∧ (j 1 : Fin 1024) = e := fun j hj =>
    (lands_eight i0 h0 (j 0) (j 1) r e).1 ((congrArg (fun t => scatter_S16x1024_S1_S8x1024_01_n_0_0.resultIdx? t i0) (ValueIdx.eq_ix2 j).symm).trans hj)
  by_cases hr : r.val = 8
  · rw [dif_neg (by omega), if_pos hr]
    exact Routing.scatter_set_hit _ _ i8 A1 _ _ (fun j hj => (congrArg A1 (ValueIdx.eq_ix1 j)).trans (congrArg (fun t : Fin 1024 => A1 (ix1 t)) (l8 j hj).2))
      (ValueIdx.ix1 e) ((lands_one i8 h8 e r e).2 ⟨hr, rfl⟩)
  · refine (Routing.scatter_set_miss _ _ i8 A1 _ fun j hj => hr (l8 j hj).1).trans ?_
    by_cases hlt : r.val < 8
    · rw [dif_pos hlt]
      exact Routing.scatter_set_hit _ _ i0 A0 _ _ (fun j hj => (congrArg A0 (ValueIdx.eq_ix2 j)).trans
          (congrArg₂ (fun (s : Fin 8) (t : Fin 1024) => A0 (ix2 s t)) (Fin.ext (l0 j hj).1 : (j 0 : Fin 8) = ⟨r.val, hlt⟩) (l0 j hj).2))
        (ValueIdx.ix2 (⟨r.val, hlt⟩ : Fin 8) e) ((lands_eight i0 h0 ⟨r.val, hlt⟩ e r e).2 ⟨rfl, rfl⟩)
    · rw [dif_neg hlt, if_neg hr]
      refine (Routing.scatter_set_miss _ _ i0 A0 _ fun j hj => hlt ?_).trans (hz _)
      have h7 : (j 0 : Fin 8).val < 8 := (j 0 : Fin 8).isLt
      exact lt_of_eq_of_lt (l0 j hj).1.symm h7

/-- A grid point's block of the result at row `r` and column `n`, from its input blocks. -/
theorem block_apply (x0 : Vec Ideal S16x1024 .f32) (x1 : Vec Ideal S1024x1024 .f32) (x2 : Vec Ideal S1x1024 .f32) (r : Fin 16) (n : Fin 1024) :
    (out0_3 x0 x1 x2 (ix2 r n) : EReal)
      = (∑ k : Fin 1024, silu (x0 (ix2 r k)) * x1 (ix2 k n)) + x2 (ix2 (0 : Fin 1) n) := by
  unfold silu
  frame_out
  unfold k0_pay1
  clean_types
  pointwise
  simp only [zero_sub]

variable (m : (ℓ : Loc nD τ sig) → Buf (Elt Ideal) ℓ) (c : Dev nD)

/-- The rows of conditioning that the region is entered with. -/
theorem cond_apply (A0 : Vec Ideal S8x1024 .f32) (A1 : Vec Ideal S1024 .f32)
    (h0 : m ((c.tc : Thread nD τ).loc main_arg0) = A0) (h1 : m ((c.tc : Thread nD τ).loc main_arg1) = A1) (r : Fin 16) (e : Fin 1024) :
    (V m c main_v4 : Vec Ideal S16x1024 .f32) (ix2 r e) = cond A0 A1 r e := by
  unfold V
  simp only [hostOps0, List.flatten_cons, List.flatten_nil, List.append_nil, List.cons_append, List.nil_append]
  entry_read
  rw [h0, h1]
  refine writes_apply A0 A1 _ (fun i => ?_) _ _ ?_ ?_ r e
  · obtain ⟨p, q, rfl⟩ : ∃ (p : Fin 16) (q : Fin 1024), i = ix2 p q := ⟨i 0, i 1, ValueIdx.eq_ix2 i⟩
    pointwise
  · rfl
  · rfl

/-- The bias under its added axis. -/
theorem bias_apply (A3 : Vec Ideal S6144 .f32) (h3 : m ((c.tc : Thread nD τ).loc main_arg3) = A3) (n : Fin 6144) :
    (V m c main_v5 : Vec Ideal S1x6144 .f32) (ix2 (0 : Fin 1) n) = A3 (ix1 n) := by
  unfold V
  simp only [hostOps0, List.flatten_cons, List.flatten_nil, List.append_nil, List.cons_append, List.nil_append]
  entry_read
  rw [h3]
  pointwise

/-- The blocks' places: a grid point is one of the six vectors. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- Window 0's block: all the rows of conditioning. -/
theorem iblk0 (t : Fin cfg0.N) (r : Fin 16) (e : Fin 1024) (C : Vec Ideal S16x1024 .f32) (hC : V m c main_v4 = C) :
    (iblk m c 0 t : Vec Ideal S16x1024 .f32) (ix2 r e) = C (ix2 r e) := by
  have e0 := (idx t).1
  unfold iblk
  rw [show V m c (Pipeline.arrRef spec0 0) = C from hC]
  blk_ext [e0]

/-- Window 1's block: the vector's columns of the weights. -/
theorem iblk1 (t : Fin cfg0.N) (k n : Fin 1024) (A2 : Vec Ideal S1024x6144 .f32) (h2 : m ((c.tc : Thread nD τ).loc main_arg2) = A2) :
    (iblk m c 1 t : Vec Ideal S1024x1024 .f32) (ix2 k n) = A2 (ix2 k (⟨t.val * 1024 + n.val, by have : t.val < 6 := t.isLt; omega⟩ : Fin 6144)) := by
  have e0 := (idx t).2.1
  rw [← h2]
  blk_ext [iblk, e0]

/-- Window 2's block: the vector's columns of the bias. -/
theorem iblk2 (t : Fin cfg0.N) (n : Fin 1024) (B : Vec Ideal S1x6144 .f32) (hB : V m c main_v5 = B) :
    (iblk m c 2 t : Vec Ideal S1x1024 .f32) (ix2 (0 : Fin 1) n) = B (ix2 (0 : Fin 1) (⟨t.val * 1024 + n.val, by have : t.val < 6 := t.isLt; omega⟩ : Fin 6144)) := by
  have e0 := (idx t).2.2.1
  unfold iblk
  rw [show V m c (Pipeline.arrRef spec0 2) = B from hB]
  blk_ext [e0]

/-- The modulation as a function of the arguments. -/
def result (A0 : Vec Ideal S8x1024 .f32) (A1 : Vec Ideal S1024 .f32) (A2 : Vec Ideal S1024x6144 .f32) (A3 : Vec Ideal S6144 .f32)
    (r : Fin 16) (n : Fin 6144) : EReal :=
  (∑ k : Fin 1024, silu (cond A0 A1 r k) * A2 (ix2 k n)) + A3 (ix1 n)

/-- The place of a block's row `r` and column `n` in the result's array. -/
theorem emb3 (t : Fin cfg0.N) (r : Fin 16) (n : Fin 1024) :
    (win0_3.blk t).view.emb (ix2 r n) = (ix2 r (⟨t.val * 1024 + n.val, by have : t.val < 6 := t.isLt; omega⟩ : Fin 6144) : S16x6144.Idx) := by
  have e0 := (idx t).2.2.2
  blk_ext [e0]

/-- The kernel's result array, element by element. -/
theorem array_eq (A0 : Vec Ideal S8x1024 .f32) (A1 : Vec Ideal S1024 .f32) (A2 : Vec Ideal S1024x6144 .f32) (A3 : Vec Ideal S6144 .f32)
    (h0 : m ((c.tc : Thread nD τ).loc main_arg0) = A0) (h1 : m ((c.tc : Thread nD τ).loc main_arg1) = A1)
    (h2 : m ((c.tc : Thread nD τ).loc main_arg2) = A2) (h3 : m ((c.tc : Thread nD τ).loc main_arg3) = A3) :
    (dats m 0 c).arrAt 3 cfg0.N = (fun y : S16x6144.Idx => result A0 A1 A2 A3 (y 0) (y 1)) := by
  refine (dats m 0 c).arrAt_eq_of_covers 3 _ (by decide +kernel) fun t hf y => ?_
  obtain ⟨r, n, hy⟩ : ∃ (r : Fin 16) (n : Fin 1024), (y : S16x1024.Idx) = ix2 r n := ⟨y 0, y 1, ValueIdx.eq_ix2 (y : S16x1024.Idx)⟩
  have h : ((dats m 0 c).after 3 t : Vec Ideal S16x1024 .f32) (ix2 r n)
      = result A0 A1 A2 A3 r (⟨t.val * 1024 + n.val, by have : t.val < 6 := t.isLt; omega⟩ : Fin 6144) := by
    rw [after0_3]
    refine (block_apply _ _ _ r n).trans ?_
    unfold result
    refine congrArg₂ (fun a b : EReal => a + b) (Finset.sum_congr rfl fun k _ => congrArg₂ (fun a b : EReal => silu a * b) ?_ ?_) ?_
    · exact (iblk0 m c t r k _ rfl).trans (cond_apply m c A0 A1 h0 h1 r k)
    · exact iblk1 m c t k n A2 h2
    · exact (iblk2 m c t n _ rfl).trans (bias_apply m c A3 h3 _)
  have e := emb3 t r n
  rw [← hy] at h e
  refine h.trans ?_
  exact (congrArg (fun z : S16x6144.Idx => result A0 A1 A2 A3 (z 0) (z 1)) e).symm

/-- The plain program's result is the modulation. -/
theorem reference_eq (A0 : Vec Ideal S8x1024 .f32) (A1 : Vec Ideal S1024 .f32) (A2 : Vec Ideal S1024x6144 .f32) (A3 : Vec Ideal S6144 .f32) :
    (Ref.res (Ref.rows A0 A1) A2 A3 : S16x6144.Idx → EReal) = fun y : S16x6144.Idx => result A0 A1 A2 A3 (y 0) (y 1) := by
  funext y
  obtain ⟨r, n, rfl⟩ : ∃ (r : Fin 16) (n : Fin 6144), y = ix2 r n := ⟨y 0, y 1, ValueIdx.eq_ix2 y⟩
  refine (Ref.res_apply _ _ _ r n).trans ?_
  simp only [Ref.rows_apply]
  rfl

end Cert.Proof.Mod
-- ==== Proof.lean ====
/-
  The certificate's claims: the three kernels run and leave their arguments, their ideal readings are the same texts, and their
  results are their references' over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Moe.Frame
public import proofs.«01_k».proof.Proof.Moe.Same
public import proofs.«01_k».proof.Proof.Moe.Result
public import proofs.«01_k».proof.Proof.Moe.Both
public import proofs.«01_k».proof.Proof.Final.Ker
public import proofs.«01_k».proof.Proof.Mod.Ker
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments, and leaves every counter at zero: the same program text as the ideal one, at
    machine words. -/
theorem frame_kernel : Cert.quiescent_Kernel := fun m g _ => by
  rw [Cert.Proof.Moe.same_defs, Cert.Proof.Moe.same_main]
  exact (θ_run (Cert.KernelIdeal.defs (F := Bits)) _ _).mono (fun _ h => ⟨fun c => (h.1 c).2, h.2⟩)
    (Cert.Proof.Moe.run_post (F := Bits) m g)

/-- So does the ideal kernel. -/
theorem frame_kernelIdeal : Cert.quiescent_KernelIdeal := fun m g _ =>
  (θ_run (Cert.KernelIdeal.defs (F := Ideal)) _ _).mono (fun _ h => ⟨fun c => (h.1 c).2, h.2⟩)
    (Cert.Proof.Moe.run_post (F := Ideal) m g)

/-- The reference runs, leaves its arguments, and has no counters. -/
theorem frame_referenceIdeal : Cert.quiescent_ReferenceIdeal := fun m g _ =>
  (θ_run (Cert.ReferenceIdeal.defs (F := Ideal)) _ _).mono (fun r h => ⟨fun c => (h c).2, sem_eq_zero_of_no_sems (by decide) _⟩)
    (Cert.ReferenceIdeal.Value.run (F := Ideal) m g)

/-- The kernel's result and the reference's are one array: at each pick of each token the picked expert's output at the
    token's row. -/
theorem algebraic : Cert.algebraic_KernelIdeal_ReferenceIdeal := fun m g m' g' _ hagree => by
  refine ⟨fun c => Cert.Proof.Route.back (F := Ideal) (Cert.Proof.Moe.moeOut (Cert.Proof.Moe.V0 m) (Cert.Proof.Moe.planM m) c)
    (Cert.Proof.Route.places (Cert.Proof.Route.orig (Cert.Proof.Moe.memW m c))), ?_, ?_⟩
  · exact (θ_run (Cert.KernelIdeal.defs (F := Ideal)) _ _).mono
      (fun _ h c => ⟨((h.1 c).1).trans (congrArg (fun ys => Cert.Proof.Route.back (F := Ideal) ys _) (Cert.Proof.Moe.arr3 (Cert.Proof.Moe.V0 m) (Cert.Proof.Moe.planM m) c)), (h.1 c).2⟩)
      (Cert.Proof.Moe.run_post (F := Ideal) m g)
  · refine (θ_run (Cert.ReferenceIdeal.defs (F := Ideal)) _ _).mono (fun r h c => ⟨(h c).1.trans ?_, (h c).2⟩)
      (Cert.ReferenceIdeal.Value.run (F := Ideal) m' g')
    exact Cert.Proof.Moe.both m m' c (hagree c)

/-- The combining kernel runs, leaves its arguments, and leaves every counter at zero. -/
theorem frame_kernel2 : Cert.quiescent_Kernel2 := fun m g _ => Cert.Kernel2.Gen.frame m g

/-- So does its ideal reading. -/
theorem frame_kernel2Ideal : Cert.quiescent_Kernel2Ideal := fun m g _ => Cert.Kernel2Ideal.Gen.frame m g

/-- Its reference runs, leaves its arguments, and has no counters. -/
theorem frame_reference2Ideal : Cert.quiescent_Reference2Ideal := fun m g _ =>
  (θ_run (Cert.Reference2Ideal.defs (F := Ideal)) _ _).mono (fun r h => ⟨fun c => (h c).2, sem_eq_zero_of_no_sems (by decide) _⟩)
    (Cert.Reference2Ideal.Value.run (F := Ideal) m g)

/-- The combining kernel's result and its reference's are one array: at every token the normalised sum of the stream and the
    gated, weighted sum of the token's four picks. -/
theorem algebraic2 : Cert.algebraic_Kernel2Ideal_Reference2Ideal := fun m g m' g' _ hagree => by
  refine ⟨fun c => (fun y : Cert.Kernel2Ideal.S8x2048x1024.Idx => Cert.Proof.Final.result
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (y 0) (y 1) (y 2)), ?_, ?_⟩
  · exact (θ_run (Cert.Kernel2Ideal.defs (F := Ideal)) _ _).mono
      (fun _ h c => ⟨((h c).1).trans (Cert.Proof.Final.array_eq m c _ _ _ _ _ rfl rfl rfl rfl rfl), (h c).2⟩)
      (Cert.Kernel2Ideal.Value.run_blocks (F := Ideal) m g)
  · refine (θ_run (Cert.Reference2Ideal.defs (F := Ideal)) _ _).mono (fun r h c => ⟨(h c).1.trans ?_, (h c).2⟩)
      (Cert.Reference2Ideal.Value.run (F := Ideal) m' g')
    obtain ⟨a0, a1, a2, a3, a4⟩ := hagree c
    funext i
    obtain ⟨b, l, d, rfl⟩ := Cert.Proof.Final.at_array i
    exact Cert.Proof.Final.Ref.result_apply m' c _ _ _ _ _ a0 a1 a2 a3 a4 b l d

/-- The modulation kernel runs, leaves its arguments, and leaves every counter at zero. -/
theorem frame_kernel3 : Cert.quiescent_Kernel3 := fun m g _ => Cert.Kernel3.Gen.frame m g

/-- So does its ideal reading. -/
theorem frame_kernel3Ideal : Cert.quiescent_Kernel3Ideal := fun m g _ => Cert.Kernel3Ideal.Gen.frame m g

/-- Its reference runs, leaves its arguments, and has no counters. -/
theorem frame_reference3Ideal : Cert.quiescent_Reference3Ideal := fun m g _ =>
  (θ_run (Cert.Reference3Ideal.defs (F := Ideal)) _ _).mono (fun r h => ⟨fun c => (h c).2, sem_eq_zero_of_no_sems (by decide) _⟩)
    (Cert.Reference3Ideal.Value.run (F := Ideal) m g)

/-- The modulation kernel's result and its reference's are one array: at every row the conditioning's sigmoid-weighted
    product with the weights, and the bias. -/
theorem algebraic3 : Cert.algebraic_Kernel3Ideal_Reference3Ideal := fun m g m' g' _ hagree => by
  refine ⟨fun c => (fun y : Cert.Kernel3Ideal.S16x6144.Idx => Cert.Proof.Mod.result
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (y 0) (y 1)), ?_, ?_⟩
  · exact (θ_run (Cert.Kernel3Ideal.defs (F := Ideal)) _ _).mono
      (fun _ h c => ⟨((h c).1).trans (Cert.Proof.Mod.array_eq m c _ _ _ _ rfl rfl rfl rfl), (h c).2⟩)
      (Cert.Kernel3Ideal.Value.run_blocks (F := Ideal) m g)
  · refine (θ_run (Cert.Reference3Ideal.defs (F := Ideal)) _ _).mono (fun r h c => ⟨(h c).1.trans ?_, (h c).2⟩)
      (Cert.Reference3Ideal.Value.run (F := Ideal) m' g')
    obtain ⟨a0, a1, a2, a3⟩ := hagree c
    rw [a0, a1, a2, a3]
    exact Cert.Proof.Mod.reference_eq _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_kernelIdeal, frame_referenceIdeal,
  frame_kernel2, frame_kernel2Ideal, frame_reference2Ideal,
  frame_kernel3, frame_kernel3Ideal, frame_reference3Ideal,
  trivial, algebraic, trivial, algebraic2, trivial, algebraic3⟩

end Cert.Proof

end
